-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S512x1024 : Shape := ⟨2, ![512, 1024]⟩
abbrev S2x512x1024 : Shape := ⟨3, ![2, 512, 1024]⟩
abbrev S_ : Shape := ⟨0, ![]⟩
abbrev S2 : Shape := ⟨1, ![2]⟩
abbrev S1x128 : Shape := ⟨2, ![1, 128]⟩
abbrev S7x1x128 : Shape := ⟨3, ![7, 1, 128]⟩
abbrev S7 : Shape := ⟨1, ![7]⟩
abbrev S512x512 : Shape := ⟨2, ![512, 512]⟩
abbrev S1 : Shape := ⟨1, ![1]⟩
abbrev S1x512x1024 : Shape := ⟨3, ![1, 512, 1024]⟩
abbrev S1x1x1 : Shape := ⟨3, ![1, 1, 1]⟩
abbrev S1x1x128 : Shape := ⟨3, ![1, 1, 128]⟩
abbrev S1x7x1x128 : Shape := ⟨4, ![1, 7, 1, 128]⟩
abbrev S1x1x1x1 : Shape := ⟨4, ![1, 1, 1, 1]⟩

abbrev nBuf : Space → Nat
  | .hbm => 3
  | .vmem => 13
  | .smem => 0
  | _ => 0

abbrev bufTy : (tb : Table) → Fin (tcTables nBuf tb) → BufTy
  | .hbm, ⟨0, _⟩ => ⟨S4096x512, .bf16⟩
  | .hbm, ⟨1, _⟩ => ⟨S512x8192, .bf16⟩
  | .hbm, ⟨2, _⟩ => ⟨S512x8192, .f32⟩
  | .local _ .vmem, ⟨0, _⟩ => ⟨S4096x512, .bf16⟩
  | .local _ .vmem, ⟨1, _⟩ => ⟨S512x8192, .bf16⟩
  | .local _ .vmem, ⟨2, _⟩ => ⟨S512x8192, .f32⟩
  | .local _ .vmem, ⟨3, _⟩ => ⟨S512x1024, .bf16⟩
  | .local _ .vmem, ⟨4, _⟩ => ⟨S2x512x1024, .bf16⟩
  | .local _ .vmem, ⟨5, _⟩ => ⟨S512x1024, .bf16⟩
  | .local _ .vmem, ⟨6, _⟩ => ⟨S2x512x1024, .bf16⟩
  | .local _ .vmem, ⟨7, _⟩ => ⟨S512x1024, .bf16⟩
  | .local _ .vmem, ⟨8, _⟩ => ⟨S2x512x1024, .bf16⟩
  | .local _ .vmem, ⟨9, _⟩ => ⟨S512x1024, .bf16⟩
  | .local _ .vmem, ⟨10, _⟩ => ⟨S2x512x1024, .bf16⟩
  | .local _ .vmem, ⟨11, _⟩ => ⟨S1x128, .f32⟩
  | .local _ .vmem, ⟨12, _⟩ => ⟨S7x1x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 5 29 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch10 : Ref sig .tc := ⟨.vmem, 7, rfl⟩
abbrev cc0_scratch11 : Ref sig .tc := ⟨.vmem, 8, rfl⟩
abbrev cc0_scratch15 : Ref sig .tc := ⟨.vmem, 9, rfl⟩
abbrev cc0_scratch16 : Ref sig .tc := ⟨.vmem, 10, rfl⟩
abbrev cc0_scratch20 : Ref sig .tc := ⟨.vmem, 11, rfl⟩
abbrev cc0_scratch21 : Ref sig .tc := ⟨.vmem, 12, rfl⟩
abbrev cc0_sem0_0 : DmaSem sig := 0
abbrev cc0_sem1_0 : DmaSem sig := 1
abbrev cc0_sem2_0 : DmaSem sig := 2
abbrev barrier0 : Sem sig := 4

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_mult1 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.subi v2 c1_i32_10
  let c0_i32_11 : BitVec 32 := 0#32
  let v14 : BitVec 32 := Scalar.subi v13 c0_i32_11
  let c16_i32 : BitVec 32 := 16#32
  let v15 : BitVec 32 := Scalar.addi v14 c16_i32
  let c8_i32_12 : BitVec 32 := 8#32
  let v16 : BitVec 32 := Scalar.remsi v15 c8_i32_12
  let c512_i32 : BitVec 32 := 512#32
  let v17 : BitVec 32 := Scalar.muli v16 c512_i32
  v17
def k0_off1 (d0 : Dev nD) (c0_i32_11 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.subi v2 c1_i32_10
  let v14 : BitVec 32 := Scalar.subi v13 c0_i32_11
  let c16_i32 : BitVec 32 := 16#32
  let v15 : BitVec 32 := Scalar.addi v14 c16_i32
  let c8_i32_12 : BitVec 32 := 8#32
  let v16 : BitVec 32 := Scalar.remsi v15 c8_i32_12
  let c512_i32 : BitVec 32 := 512#32
  let v17 : BitVec 32 := Scalar.muli v16 c512_i32
  let v18 : BitVec 32 := v17
  let v19 : Index := Scalar.indexCast v18
  let c0 : Index := 0#32
  ![v19.toNat, 0]
def k0_dev3 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_19 : BitVec 32 := 1#32
  let v29 : BitVec 32 := Scalar.muli v7 c1_i32_19
  let v30 : BitVec 32 := Scalar.addi c0_i32_20 v29
  v30.toNat
def k0_mult2 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_23 : BitVec 32 := 1#32
  let v35 : BitVec 32 := Scalar.addi v2 c1_i32_23
  let c0_i32_24 : BitVec 32 := 0#32
  let v36 : BitVec 32 := Scalar.addi v35 c0_i32_24
  let c8_i32_25 : BitVec 32 := 8#32
  let v37 : BitVec 32 := Scalar.remsi v36 c8_i32_25
  let c512_i32_26 : BitVec 32 := 512#32
  let v38 : BitVec 32 := Scalar.muli v37 c512_i32_26
  v38
def k0_off2 (d0 : Dev nD) (c0_i32_24 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_23 : BitVec 32 := 1#32
  let v35 : BitVec 32 := Scalar.addi v2 c1_i32_23
  let v36 : BitVec 32 := Scalar.addi v35 c0_i32_24
  let c8_i32_25 : BitVec 32 := 8#32
  let v37 : BitVec 32 := Scalar.remsi v36 c8_i32_25
  let c512_i32_26 : BitVec 32 := 512#32
  let v38 : BitVec 32 := Scalar.muli v37 c512_i32_26
  let v39 : BitVec 32 := v38
  let v40 : Index := Scalar.indexCast v39
  let c0_27 : Index := 0#32
  ![v40.toNat, 0]
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_34 : BitVec 32 := 1#32
  let v50 : BitVec 32 := Scalar.muli v5 c1_i32_34
  let v51 : BitVec 32 := Scalar.addi c0_i32_35 v50
  v51.toNat
def k0_mult3 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_38 : BitVec 32 := 1#32
  let v56 : BitVec 32 := Scalar.subi v2 c1_i32_38
  let c0_i32_39 : BitVec 32 := 0#32
  let v57 : BitVec 32 := Scalar.subi v56 c0_i32_39
  let c16_i32_40 : BitVec 32 := 16#32
  let v58 : BitVec 32 := Scalar.addi v57 c16_i32_40
  let c8_i32_41 : BitVec 32 := 8#32
  let v59 : BitVec 32 := Scalar.remsi v58 c8_i32_41
  let c512_i32_42 : BitVec 32 := 512#32
  let v60 : BitVec 32 := Scalar.muli v59 c512_i32_42
  v60
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_50 : BitVec 32 := 1#32
  let v72 : BitVec 32 := Scalar.muli v7 c1_i32_50
  let v73 : BitVec 32 := Scalar.addi c0_i32_51 v72
  v73.toNat
def k0_mult4 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_54 : BitVec 32 := 1#32
  let v78 : BitVec 32 := Scalar.addi v2 c1_i32_54
  let c0_i32_55 : BitVec 32 := 0#32
  let v79 : BitVec 32 := Scalar.addi v78 c0_i32_55
  let c8_i32_56 : BitVec 32 := 8#32
  let v80 : BitVec 32 := Scalar.remsi v79 c8_i32_56
  let c512_i32_57 : BitVec 32 := 512#32
  let v81 : BitVec 32 := Scalar.muli v80 c512_i32_57
  v81
def k0_dev6 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_65 : BitVec 32 := 1#32
  let v93 : BitVec 32 := Scalar.muli v5 c1_i32_65
  let v94 : BitVec 32 := Scalar.addi c0_i32_66 v93
  v94.toNat
def k0_mult5 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_69 : BitVec 32 := 1#32
  let v99 : BitVec 32 := Scalar.subi v2 c1_i32_69
  let c1_i32_70 : BitVec 32 := 1#32
  let v100 : BitVec 32 := Scalar.subi v99 c1_i32_70
  let c16_i32_71 : BitVec 32 := 16#32
  let v101 : BitVec 32 := Scalar.addi v100 c16_i32_71
  let c8_i32_72 : BitVec 32 := 8#32
  let v102 : BitVec 32 := Scalar.remsi v101 c8_i32_72
  let c512_i32_73 : BitVec 32 := 512#32
  let v103 : BitVec 32 := Scalar.muli v102 c512_i32_73
  v103
def k0_dev7 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_88 : BitVec 32 := 1#32
  let v121 : BitVec 32 := Scalar.muli v5 c1_i32_88
  let v122 : BitVec 32 := Scalar.addi c0_i32_89 v121
  v122.toNat
def k0_dev8 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_99 : BitVec 32 := 1#32
  let v129 : BitVec 32 := Scalar.muli v7 c1_i32_99
  let v130 : BitVec 32 := Scalar.addi c0_i32_100 v129
  v130.toNat
def k0_mult6 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_103 : BitVec 32 := 1#32
  let v135 : BitVec 32 := Scalar.addi v2 c1_i32_103
  let c1_i32_104 : BitVec 32 := 1#32
  let v136 : BitVec 32 := Scalar.addi v135 c1_i32_104
  let c8_i32_105 : BitVec 32 := 8#32
  let v137 : BitVec 32 := Scalar.remsi v136 c8_i32_105
  let c512_i32_106 : BitVec 32 := 512#32
  let v138 : BitVec 32 := Scalar.muli v137 c512_i32_106
  v138
def k0_dev9 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_121 : BitVec 32 := 1#32
  let v156 : BitVec 32 := Scalar.muli v7 c1_i32_121
  let v157 : BitVec 32 := Scalar.addi c0_i32_122 v156
  v157.toNat
def k0_dev10 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_132 : BitVec 32 := 1#32
  let v164 : BitVec 32 := Scalar.muli v5 c1_i32_132
  let v165 : BitVec 32 := Scalar.addi c0_i32_133 v164
  v165.toNat
def k0_mult7 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_136 : BitVec 32 := 1#32
  let v170 : BitVec 32 := Scalar.subi v2 c1_i32_136
  let c1_i32_137 : BitVec 32 := 1#32
  let v171 : BitVec 32 := Scalar.subi v170 c1_i32_137
  let c16_i32_138 : BitVec 32 := 16#32
  let v172 : BitVec 32 := Scalar.addi v171 c16_i32_138
  let c8_i32_139 : BitVec 32 := 8#32
  let v173 : BitVec 32 := Scalar.remsi v172 c8_i32_139
  let c512_i32_140 : BitVec 32 := 512#32
  let v174 : BitVec 32 := Scalar.muli v173 c512_i32_140
  v174
def k0_dev11 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_155 : BitVec 32 := 1#32
  let v192 : BitVec 32 := Scalar.muli v5 c1_i32_155
  let v193 : BitVec 32 := Scalar.addi c0_i32_156 v192
  v193.toNat
def k0_dev12 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_166 : BitVec 32 := 1#32
  let v200 : BitVec 32 := Scalar.muli v7 c1_i32_166
  let v201 : BitVec 32 := Scalar.addi c0_i32_167 v200
  v201.toNat
def k0_mult8 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_170 : BitVec 32 := 1#32
  let v206 : BitVec 32 := Scalar.addi v2 c1_i32_170
  let c1_i32_171 : BitVec 32 := 1#32
  let v207 : BitVec 32 := Scalar.addi v206 c1_i32_171
  let c8_i32_172 : BitVec 32 := 8#32
  let v208 : BitVec 32 := Scalar.remsi v207 c8_i32_172
  let c512_i32_173 : BitVec 32 := 512#32
  let v209 : BitVec 32 := Scalar.muli v208 c512_i32_173
  v209
def k0_dev13 (d0 : Dev nD) : Nat :=
  let c0_i32_189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_188 : BitVec 32 := 1#32
  let v227 : BitVec 32 := Scalar.muli v7 c1_i32_188
  let v228 : BitVec 32 := Scalar.addi c0_i32_189 v227
  v228.toNat
def k0_dev14 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_199 : BitVec 32 := 1#32
  let v235 : BitVec 32 := Scalar.muli v5 c1_i32_199
  let v236 : BitVec 32 := Scalar.addi c0_i32_200 v235
  v236.toNat
def k0_mult9 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_203 : BitVec 32 := 1#32
  let v241 : BitVec 32 := Scalar.subi v2 c1_i32_203
  let c2_i32_204 : BitVec 32 := 2#32
  let v242 : BitVec 32 := Scalar.subi v241 c2_i32_204
  let c16_i32_205 : BitVec 32 := 16#32
  let v243 : BitVec 32 := Scalar.addi v242 c16_i32_205
  let c8_i32_206 : BitVec 32 := 8#32
  let v244 : BitVec 32 := Scalar.remsi v243 c8_i32_206
  let c512_i32_207 : BitVec 32 := 512#32
  let v245 : BitVec 32 := Scalar.muli v244 c512_i32_207
  v245
def k0_dev15 (d0 : Dev nD) : Nat :=
  let c0_i32_222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_221 : BitVec 32 := 1#32
  let v263 : BitVec 32 := Scalar.muli v5 c1_i32_221
  let v264 : BitVec 32 := Scalar.addi c0_i32_222 v263
  v264.toNat
def k0_dev16 (d0 : Dev nD) : Nat :=
  let c0_i32_235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_234 : BitVec 32 := 1#32
  let v271 : BitVec 32 := Scalar.muli v7 c1_i32_234
  let v272 : BitVec 32 := Scalar.addi c0_i32_235 v271
  v272.toNat
def k0_mult10 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_238 : BitVec 32 := 1#32
  let v277 : BitVec 32 := Scalar.addi v2 c1_i32_238
  let c2_i32_239 : BitVec 32 := 2#32
  let v278 : BitVec 32 := Scalar.addi v277 c2_i32_239
  let c8_i32_240 : BitVec 32 := 8#32
  let v279 : BitVec 32 := Scalar.remsi v278 c8_i32_240
  let c512_i32_241 : BitVec 32 := 512#32
  let v280 : BitVec 32 := Scalar.muli v279 c512_i32_241
  v280
def k0_dev17 (d0 : Dev nD) : Nat :=
  let c0_i32_257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_256 : BitVec 32 := 1#32
  let v298 : BitVec 32 := Scalar.muli v7 c1_i32_256
  let v299 : BitVec 32 := Scalar.addi c0_i32_257 v298
  v299.toNat
def k0_dev18 (d0 : Dev nD) : Nat :=
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_269 : BitVec 32 := 1#32
  let v306 : BitVec 32 := Scalar.muli v5 c1_i32_269
  let v307 : BitVec 32 := Scalar.addi c0_i32_270 v306
  v307.toNat
def k0_mult11 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_273 : BitVec 32 := 1#32
  let v312 : BitVec 32 := Scalar.subi v2 c1_i32_273
  let c2_i32_274 : BitVec 32 := 2#32
  let v313 : BitVec 32 := Scalar.subi v312 c2_i32_274
  let c16_i32_275 : BitVec 32 := 16#32
  let v314 : BitVec 32 := Scalar.addi v313 c16_i32_275
  let c8_i32_276 : BitVec 32 := 8#32
  let v315 : BitVec 32 := Scalar.remsi v314 c8_i32_276
  let c512_i32_277 : BitVec 32 := 512#32
  let v316 : BitVec 32 := Scalar.muli v315 c512_i32_277
  v316
def k0_dev19 (d0 : Dev nD) : Nat :=
  let c0_i32_293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_292 : BitVec 32 := 1#32
  let v334 : BitVec 32 := Scalar.muli v5 c1_i32_292
  let v335 : BitVec 32 := Scalar.addi c0_i32_293 v334
  v335.toNat
def k0_dev20 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_305 : BitVec 32 := 1#32
  let v342 : BitVec 32 := Scalar.muli v7 c1_i32_305
  let v343 : BitVec 32 := Scalar.addi c0_i32_306 v342
  v343.toNat
def k0_mult12 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_309 : BitVec 32 := 1#32
  let v348 : BitVec 32 := Scalar.addi v2 c1_i32_309
  let c2_i32_310 : BitVec 32 := 2#32
  let v349 : BitVec 32 := Scalar.addi v348 c2_i32_310
  let c8_i32_311 : BitVec 32 := 8#32
  let v350 : BitVec 32 := Scalar.remsi v349 c8_i32_311
  let c512_i32_312 : BitVec 32 := 512#32
  let v351 : BitVec 32 := Scalar.muli v350 c512_i32_312
  v351
def k0_dev21 (d0 : Dev nD) : Nat :=
  let c0_i32_328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_327 : BitVec 32 := 1#32
  let v369 : BitVec 32 := Scalar.muli v7 c1_i32_327
  let v370 : BitVec 32 := Scalar.addi c0_i32_328 v369
  v370.toNat
def k0_dev22 (d0 : Dev nD) : Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_340 : BitVec 32 := 1#32
  let v377 : BitVec 32 := Scalar.muli v5 c1_i32_340
  let v378 : BitVec 32 := Scalar.addi c0_i32_341 v377
  v378.toNat
def k0_mult13 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_344 : BitVec 32 := 1#32
  let v383 : BitVec 32 := Scalar.subi v2 c1_i32_344
  let c3_i32 : BitVec 32 := 3#32
  let v384 : BitVec 32 := Scalar.subi v383 c3_i32
  let c16_i32_345 : BitVec 32 := 16#32
  let v385 : BitVec 32 := Scalar.addi v384 c16_i32_345
  let c8_i32_346 : BitVec 32 := 8#32
  let v386 : BitVec 32 := Scalar.remsi v385 c8_i32_346
  let c512_i32_347 : BitVec 32 := 512#32
  let v387 : BitVec 32 := Scalar.muli v386 c512_i32_347
  v387
def k0_dev23 (d0 : Dev nD) : Nat :=
  let c0_i32_363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_362 : BitVec 32 := 1#32
  let v405 : BitVec 32 := Scalar.muli v5 c1_i32_362
  let v406 : BitVec 32 := Scalar.addi c0_i32_363 v405
  v406.toNat
def k0_dev24 (d0 : Dev nD) : Nat :=
  let c0_i32_376 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_375 : BitVec 32 := 1#32
  let v413 : BitVec 32 := Scalar.muli v7 c1_i32_375
  let v414 : BitVec 32 := Scalar.addi c0_i32_376 v413
  v414.toNat
def k0_mult14 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_379 : BitVec 32 := 1#32
  let v419 : BitVec 32 := Scalar.addi v2 c1_i32_379
  let c3_i32_380 : BitVec 32 := 3#32
  let v420 : BitVec 32 := Scalar.addi v419 c3_i32_380
  let c8_i32_381 : BitVec 32 := 8#32
  let v421 : BitVec 32 := Scalar.remsi v420 c8_i32_381
  let c512_i32_382 : BitVec 32 := 512#32
  let v422 : BitVec 32 := Scalar.muli v421 c512_i32_382
  v422
def k0_dev25 (d0 : Dev nD) : Nat :=
  let c0_i32_398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_397 : BitVec 32 := 1#32
  let v440 : BitVec 32 := Scalar.muli v7 c1_i32_397
  let v441 : BitVec 32 := Scalar.addi c0_i32_398 v440
  v441.toNat
def k0_dev26 (d0 : Dev nD) : Nat :=
  let c0_i32_411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_410 : BitVec 32 := 1#32
  let v448 : BitVec 32 := Scalar.muli v5 c1_i32_410
  let v449 : BitVec 32 := Scalar.addi c0_i32_411 v448
  v449.toNat
def k0_mult15 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_414 : BitVec 32 := 1#32
  let v454 : BitVec 32 := Scalar.subi v2 c1_i32_414
  let c3_i32_415 : BitVec 32 := 3#32
  let v455 : BitVec 32 := Scalar.subi v454 c3_i32_415
  let c16_i32_416 : BitVec 32 := 16#32
  let v456 : BitVec 32 := Scalar.addi v455 c16_i32_416
  let c8_i32_417 : BitVec 32 := 8#32
  let v457 : BitVec 32 := Scalar.remsi v456 c8_i32_417
  let c512_i32_418 : BitVec 32 := 512#32
  let v458 : BitVec 32 := Scalar.muli v457 c512_i32_418
  v458
def k0_dev27 (d0 : Dev nD) : Nat :=
  let c0_i32_434 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_433 : BitVec 32 := 1#32
  let v476 : BitVec 32 := Scalar.muli v5 c1_i32_433
  let v477 : BitVec 32 := Scalar.addi c0_i32_434 v476
  v477.toNat
def k0_dev28 (d0 : Dev nD) : Nat :=
  let c0_i32_447 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_446 : BitVec 32 := 1#32
  let v484 : BitVec 32 := Scalar.muli v7 c1_i32_446
  let v485 : BitVec 32 := Scalar.addi c0_i32_447 v484
  v485.toNat
def k0_mult16 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_450 : BitVec 32 := 1#32
  let v490 : BitVec 32 := Scalar.addi v2 c1_i32_450
  let c3_i32_451 : BitVec 32 := 3#32
  let v491 : BitVec 32 := Scalar.addi v490 c3_i32_451
  let c8_i32_452 : BitVec 32 := 8#32
  let v492 : BitVec 32 := Scalar.remsi v491 c8_i32_452
  let c512_i32_453 : BitVec 32 := 512#32
  let v493 : BitVec 32 := Scalar.muli v492 c512_i32_453
  v493
def k0_dev29 (d0 : Dev nD) : Nat :=
  let c0_i32_469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_468 : BitVec 32 := 1#32
  let v511 : BitVec 32 := Scalar.muli v7 c1_i32_468
  let v512 : BitVec 32 := Scalar.addi c0_i32_469 v511
  v512.toNat
def k0_dev30 (d0 : Dev nD) : Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_481 : BitVec 32 := 1#32
  let v519 : BitVec 32 := Scalar.muli v5 c1_i32_481
  let v520 : BitVec 32 := Scalar.addi c0_i32_482 v519
  v520.toNat
def k0_mult17 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_485 : BitVec 32 := 1#32
  let v525 : BitVec 32 := Scalar.subi v2 c1_i32_485
  let c4_i32 : BitVec 32 := 4#32
  let v526 : BitVec 32 := Scalar.subi v525 c4_i32
  let c16_i32_486 : BitVec 32 := 16#32
  let v527 : BitVec 32 := Scalar.addi v526 c16_i32_486
  let c8_i32_487 : BitVec 32 := 8#32
  let v528 : BitVec 32 := Scalar.remsi v527 c8_i32_487
  let c512_i32_488 : BitVec 32 := 512#32
  let v529 : BitVec 32 := Scalar.muli v528 c512_i32_488
  v529
def k0_dev31 (d0 : Dev nD) : Nat :=
  let c0_i32_504 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_503 : BitVec 32 := 1#32
  let v547 : BitVec 32 := Scalar.muli v5 c1_i32_503
  let v548 : BitVec 32 := Scalar.addi c0_i32_504 v547
  v548.toNat
def k0_dev32 (d0 : Dev nD) : Nat :=
  let c0_i32_517 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_516 : BitVec 32 := 1#32
  let v555 : BitVec 32 := Scalar.muli v7 c1_i32_516
  let v556 : BitVec 32 := Scalar.addi c0_i32_517 v555
  v556.toNat
def k0_mult18 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_520 : BitVec 32 := 1#32
  let v561 : BitVec 32 := Scalar.addi v2 c1_i32_520
  let c4_i32_521 : BitVec 32 := 4#32
  let v562 : BitVec 32 := Scalar.addi v561 c4_i32_521
  let c8_i32_522 : BitVec 32 := 8#32
  let v563 : BitVec 32 := Scalar.remsi v562 c8_i32_522
  let c512_i32_523 : BitVec 32 := 512#32
  let v564 : BitVec 32 := Scalar.muli v563 c512_i32_523
  v564
def k0_dev33 (d0 : Dev nD) : Nat :=
  let c0_i32_539 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_538 : BitVec 32 := 1#32
  let v582 : BitVec 32 := Scalar.muli v7 c1_i32_538
  let v583 : BitVec 32 := Scalar.addi c0_i32_539 v582
  v583.toNat
def k0_dev34 (d0 : Dev nD) : Nat :=
  let c0_i32_552 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_551 : BitVec 32 := 1#32
  let v590 : BitVec 32 := Scalar.muli v5 c1_i32_551
  let v591 : BitVec 32 := Scalar.addi c0_i32_552 v590
  v591.toNat
def k0_mult19 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_555 : BitVec 32 := 1#32
  let v596 : BitVec 32 := Scalar.subi v2 c1_i32_555
  let c4_i32_556 : BitVec 32 := 4#32
  let v597 : BitVec 32 := Scalar.subi v596 c4_i32_556
  let c16_i32_557 : BitVec 32 := 16#32
  let v598 : BitVec 32 := Scalar.addi v597 c16_i32_557
  let c8_i32_558 : BitVec 32 := 8#32
  let v599 : BitVec 32 := Scalar.remsi v598 c8_i32_558
  let c512_i32_559 : BitVec 32 := 512#32
  let v600 : BitVec 32 := Scalar.muli v599 c512_i32_559
  v600
def k0_dev35 (d0 : Dev nD) : Nat :=
  let c0_i32_575 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_574 : BitVec 32 := 1#32
  let v618 : BitVec 32 := Scalar.muli v5 c1_i32_574
  let v619 : BitVec 32 := Scalar.addi c0_i32_575 v618
  v619.toNat
def k0_dev36 (d0 : Dev nD) : Nat :=
  let c0_i32_588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_587 : BitVec 32 := 1#32
  let v626 : BitVec 32 := Scalar.muli v7 c1_i32_587
  let v627 : BitVec 32 := Scalar.addi c0_i32_588 v626
  v627.toNat
def k0_mult20 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_591 : BitVec 32 := 1#32
  let v632 : BitVec 32 := Scalar.addi v2 c1_i32_591
  let c4_i32_592 : BitVec 32 := 4#32
  let v633 : BitVec 32 := Scalar.addi v632 c4_i32_592
  let c8_i32_593 : BitVec 32 := 8#32
  let v634 : BitVec 32 := Scalar.remsi v633 c8_i32_593
  let c512_i32_594 : BitVec 32 := 512#32
  let v635 : BitVec 32 := Scalar.muli v634 c512_i32_594
  v635
def k0_dev37 (d0 : Dev nD) : Nat :=
  let c0_i32_610 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_609 : BitVec 32 := 1#32
  let v653 : BitVec 32 := Scalar.muli v7 c1_i32_609
  let v654 : BitVec 32 := Scalar.addi c0_i32_610 v653
  v654.toNat
def k0_dev38 (d0 : Dev nD) : Nat :=
  let c0_i32_623 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_622 : BitVec 32 := 1#32
  let v661 : BitVec 32 := Scalar.muli v5 c1_i32_622
  let v662 : BitVec 32 := Scalar.addi c0_i32_623 v661
  v662.toNat
def k0_mult21 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_626 : BitVec 32 := 1#32
  let v667 : BitVec 32 := Scalar.subi v2 c1_i32_626
  let c5_i32 : BitVec 32 := 5#32
  let v668 : BitVec 32 := Scalar.subi v667 c5_i32
  let c16_i32_627 : BitVec 32 := 16#32
  let v669 : BitVec 32 := Scalar.addi v668 c16_i32_627
  let c8_i32_628 : BitVec 32 := 8#32
  let v670 : BitVec 32 := Scalar.remsi v669 c8_i32_628
  let c512_i32_629 : BitVec 32 := 512#32
  let v671 : BitVec 32 := Scalar.muli v670 c512_i32_629
  v671
def k0_dev39 (d0 : Dev nD) : Nat :=
  let c0_i32_645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_644 : BitVec 32 := 1#32
  let v689 : BitVec 32 := Scalar.muli v5 c1_i32_644
  let v690 : BitVec 32 := Scalar.addi c0_i32_645 v689
  v690.toNat
def k0_dev40 (d0 : Dev nD) : Nat :=
  let c0_i32_658 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_657 : BitVec 32 := 1#32
  let v697 : BitVec 32 := Scalar.muli v7 c1_i32_657
  let v698 : BitVec 32 := Scalar.addi c0_i32_658 v697
  v698.toNat
def k0_mult22 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_661 : BitVec 32 := 1#32
  let v703 : BitVec 32 := Scalar.addi v2 c1_i32_661
  let c5_i32_662 : BitVec 32 := 5#32
  let v704 : BitVec 32 := Scalar.addi v703 c5_i32_662
  let c8_i32_663 : BitVec 32 := 8#32
  let v705 : BitVec 32 := Scalar.remsi v704 c8_i32_663
  let c512_i32_664 : BitVec 32 := 512#32
  let v706 : BitVec 32 := Scalar.muli v705 c512_i32_664
  v706
def k0_dev41 (d0 : Dev nD) : Nat :=
  let c0_i32_680 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_679 : BitVec 32 := 1#32
  let v724 : BitVec 32 := Scalar.muli v7 c1_i32_679
  let v725 : BitVec 32 := Scalar.addi c0_i32_680 v724
  v725.toNat
def k0_dev42 (d0 : Dev nD) : Nat :=
  let c0_i32_693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_692 : BitVec 32 := 1#32
  let v732 : BitVec 32 := Scalar.muli v5 c1_i32_692
  let v733 : BitVec 32 := Scalar.addi c0_i32_693 v732
  v733.toNat
def k0_mult23 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_696 : BitVec 32 := 1#32
  let v738 : BitVec 32 := Scalar.subi v2 c1_i32_696
  let c5_i32_697 : BitVec 32 := 5#32
  let v739 : BitVec 32 := Scalar.subi v738 c5_i32_697
  let c16_i32_698 : BitVec 32 := 16#32
  let v740 : BitVec 32 := Scalar.addi v739 c16_i32_698
  let c8_i32_699 : BitVec 32 := 8#32
  let v741 : BitVec 32 := Scalar.remsi v740 c8_i32_699
  let c512_i32_700 : BitVec 32 := 512#32
  let v742 : BitVec 32 := Scalar.muli v741 c512_i32_700
  v742
def k0_dev43 (d0 : Dev nD) : Nat :=
  let c0_i32_716 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_715 : BitVec 32 := 1#32
  let v760 : BitVec 32 := Scalar.muli v5 c1_i32_715
  let v761 : BitVec 32 := Scalar.addi c0_i32_716 v760
  v761.toNat
def k0_dev44 (d0 : Dev nD) : Nat :=
  let c0_i32_729 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_728 : BitVec 32 := 1#32
  let v768 : BitVec 32 := Scalar.muli v7 c1_i32_728
  let v769 : BitVec 32 := Scalar.addi c0_i32_729 v768
  v769.toNat
def k0_mult24 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_732 : BitVec 32 := 1#32
  let v774 : BitVec 32 := Scalar.addi v2 c1_i32_732
  let c5_i32_733 : BitVec 32 := 5#32
  let v775 : BitVec 32 := Scalar.addi v774 c5_i32_733
  let c8_i32_734 : BitVec 32 := 8#32
  let v776 : BitVec 32 := Scalar.remsi v775 c8_i32_734
  let c512_i32_735 : BitVec 32 := 512#32
  let v777 : BitVec 32 := Scalar.muli v776 c512_i32_735
  v777
def k0_dev45 (d0 : Dev nD) : Nat :=
  let c0_i32_751 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_750 : BitVec 32 := 1#32
  let v795 : BitVec 32 := Scalar.muli v7 c1_i32_750
  let v796 : BitVec 32 := Scalar.addi c0_i32_751 v795
  v796.toNat
def k0_dev46 (d0 : Dev nD) : Nat :=
  let c0_i32_764 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_763 : BitVec 32 := 1#32
  let v803 : BitVec 32 := Scalar.muli v5 c1_i32_763
  let v804 : BitVec 32 := Scalar.addi c0_i32_764 v803
  v804.toNat
def k0_mult25 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_767 : BitVec 32 := 1#32
  let v809 : BitVec 32 := Scalar.subi v2 c1_i32_767
  let c6_i32 : BitVec 32 := 6#32
  let v810 : BitVec 32 := Scalar.subi v809 c6_i32
  let c16_i32_768 : BitVec 32 := 16#32
  let v811 : BitVec 32 := Scalar.addi v810 c16_i32_768
  let c8_i32_769 : BitVec 32 := 8#32
  let v812 : BitVec 32 := Scalar.remsi v811 c8_i32_769
  let c512_i32_770 : BitVec 32 := 512#32
  let v813 : BitVec 32 := Scalar.muli v812 c512_i32_770
  v813
def k0_dev47 (d0 : Dev nD) : Nat :=
  let c0_i32_786 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_785 : BitVec 32 := 1#32
  let v831 : BitVec 32 := Scalar.muli v5 c1_i32_785
  let v832 : BitVec 32 := Scalar.addi c0_i32_786 v831
  v832.toNat
def k0_dev48 (d0 : Dev nD) : Nat :=
  let c0_i32_799 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_798 : BitVec 32 := 1#32
  let v839 : BitVec 32 := Scalar.muli v7 c1_i32_798
  let v840 : BitVec 32 := Scalar.addi c0_i32_799 v839
  v840.toNat
def k0_mult26 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_802 : BitVec 32 := 512#32
  let v845 : BitVec 32 := Scalar.muli v2 c512_i32_802
  v845
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_802 : BitVec 32 := 512#32
  let v845 : BitVec 32 := Scalar.muli v2 c512_i32_802
  let v846 : BitVec 32 := v845
  let v847 : Index := Scalar.indexCast v846
  let c0_803 : Index := 0#32
  ![v847.toNat, 0]
def k0_mult27 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_809 : BitVec 32 := 1#32
  let v854 : BitVec 32 := Scalar.addi v2 c1_i32_809
  let c6_i32_810 : BitVec 32 := 6#32
  let v855 : BitVec 32 := Scalar.addi v854 c6_i32_810
  let c8_i32_811 : BitVec 32 := 8#32
  let v856 : BitVec 32 := Scalar.remsi v855 c8_i32_811
  let c512_i32_812 : BitVec 32 := 512#32
  let v857 : BitVec 32 := Scalar.muli v856 c512_i32_812
  v857
def k0_dev49 (d0 : Dev nD) : Nat :=
  let c0_i32_828 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_827 : BitVec 32 := 1#32
  let v875 : BitVec 32 := Scalar.muli v7 c1_i32_827
  let v876 : BitVec 32 := Scalar.addi c0_i32_828 v875
  v876.toNat
def k0_dev50 (d0 : Dev nD) : Nat :=
  let c0_i32_841 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_840 : BitVec 32 := 1#32
  let v883 : BitVec 32 := Scalar.muli v5 c1_i32_840
  let v884 : BitVec 32 := Scalar.addi c0_i32_841 v883
  v884.toNat
def k0_mult28 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_844 : BitVec 32 := 512#32
  let v889 : BitVec 32 := Scalar.muli v2 c512_i32_844
  v889
def k0_mult29 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_851 : BitVec 32 := 1#32
  let v898 : BitVec 32 := Scalar.subi v2 c1_i32_851
  let c6_i32_852 : BitVec 32 := 6#32
  let v899 : BitVec 32 := Scalar.subi v898 c6_i32_852
  let c16_i32_853 : BitVec 32 := 16#32
  let v900 : BitVec 32 := Scalar.addi v899 c16_i32_853
  let c8_i32_854 : BitVec 32 := 8#32
  let v901 : BitVec 32 := Scalar.remsi v900 c8_i32_854
  let c512_i32_855 : BitVec 32 := 512#32
  let v902 : BitVec 32 := Scalar.muli v901 c512_i32_855
  v902
def k0_dev51 (d0 : Dev nD) : Nat :=
  let c0_i32_871 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_870 : BitVec 32 := 1#32
  let v920 : BitVec 32 := Scalar.muli v5 c1_i32_870
  let v921 : BitVec 32 := Scalar.addi c0_i32_871 v920
  v921.toNat
def k0_dev52 (d0 : Dev nD) : Nat :=
  let c0_i32_884 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_883 : BitVec 32 := 1#32
  let v928 : BitVec 32 := Scalar.muli v7 c1_i32_883
  let v929 : BitVec 32 := Scalar.addi c0_i32_884 v928
  v929.toNat
def k0_mult30 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_887 : BitVec 32 := 512#32
  let v934 : BitVec 32 := Scalar.muli v2 c512_i32_887
  v934
def k0_mult31 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_894 : BitVec 32 := 1#32
  let v943 : BitVec 32 := Scalar.addi v2 c1_i32_894
  let c6_i32_895 : BitVec 32 := 6#32
  let v944 : BitVec 32 := Scalar.addi v943 c6_i32_895
  let c8_i32_896 : BitVec 32 := 8#32
  let v945 : BitVec 32 := Scalar.remsi v944 c8_i32_896
  let c512_i32_897 : BitVec 32 := 512#32
  let v946 : BitVec 32 := Scalar.muli v945 c512_i32_897
  v946
def k0_dev53 (d0 : Dev nD) : Nat :=
  let c0_i32_913 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_912 : BitVec 32 := 1#32
  let v964 : BitVec 32 := Scalar.muli v7 c1_i32_912
  let v965 : BitVec 32 := Scalar.addi c0_i32_913 v964
  v965.toNat
def k0_dev54 (d0 : Dev nD) : Nat :=
  let c0_i32_926 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_925 : BitVec 32 := 1#32
  let v972 : BitVec 32 := Scalar.muli v5 c1_i32_925
  let v973 : BitVec 32 := Scalar.addi c0_i32_926 v972
  v973.toNat
def k0_mult32 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_929 : BitVec 32 := 512#32
  let v978 : BitVec 32 := Scalar.muli v2 c512_i32_929
  v978
def k0_dev55 (d0 : Dev nD) : Nat :=
  let c0_i32_949 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_948 : BitVec 32 := 1#32
  let v999 : BitVec 32 := Scalar.muli v5 c1_i32_948
  let v1000 : BitVec 32 := Scalar.addi c0_i32_949 v999
  v1000.toNat
def k0_dev56 (d0 : Dev nD) : Nat :=
  let c0_i32_967 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_966 : BitVec 32 := 1#32
  let v1020 : BitVec 32 := Scalar.muli v7 c1_i32_966
  let v1021 : BitVec 32 := Scalar.addi c0_i32_967 v1020
  v1021.toNat
def k0_dev57 (d0 : Dev nD) : Nat :=
  let c0_i32_985 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_984 : BitVec 32 := 1#32
  let v1041 : BitVec 32 := Scalar.muli v5 c1_i32_984
  let v1042 : BitVec 32 := Scalar.addi c0_i32_985 v1041
  v1042.toNat
def k0_dev58 (d0 : Dev nD) : Nat :=
  let c0_i32_1003 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1002 : BitVec 32 := 1#32
  let v1062 : BitVec 32 := Scalar.muli v7 c1_i32_1002
  let v1063 : BitVec 32 := Scalar.addi c0_i32_1003 v1062
  v1063.toNat
def k0_mult33 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1008 : BitVec 32 := 1#32
  let v1071 : BitVec 32 := Scalar.subi v2 c1_i32_1008
  let c0_i32_1009 : BitVec 32 := 0#32
  let v1072 : BitVec 32 := Scalar.subi v1071 c0_i32_1009
  let c16_i32_1010 : BitVec 32 := 16#32
  let v1073 : BitVec 32 := Scalar.addi v1072 c16_i32_1010
  let c8_i32_1011 : BitVec 32 := 8#32
  let v1074 : BitVec 32 := Scalar.remsi v1073 c8_i32_1011
  let c512_i32_1012 : BitVec 32 := 512#32
  let v1075 : BitVec 32 := Scalar.muli v1074 c512_i32_1012
  v1075
def k0_dev59 (d0 : Dev nD) : Nat :=
  let c0_i32_1028 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1027 : BitVec 32 := 1#32
  let v1089 : BitVec 32 := Scalar.muli v7 c1_i32_1027
  let v1090 : BitVec 32 := Scalar.addi c0_i32_1028 v1089
  v1090.toNat
def k0_mult34 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1031 : BitVec 32 := 1#32
  let v1095 : BitVec 32 := Scalar.addi v2 c1_i32_1031
  let c0_i32_1032 : BitVec 32 := 0#32
  let v1096 : BitVec 32 := Scalar.addi v1095 c0_i32_1032
  let c8_i32_1033 : BitVec 32 := 8#32
  let v1097 : BitVec 32 := Scalar.remsi v1096 c8_i32_1033
  let c512_i32_1034 : BitVec 32 := 512#32
  let v1098 : BitVec 32 := Scalar.muli v1097 c512_i32_1034
  v1098
def k0_dev60 (d0 : Dev nD) : Nat :=
  let c0_i32_1050 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1049 : BitVec 32 := 1#32
  let v1112 : BitVec 32 := Scalar.muli v5 c1_i32_1049
  let v1113 : BitVec 32 := Scalar.addi c0_i32_1050 v1112
  v1113.toNat
def k0_mult35 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1053 : BitVec 32 := 1#32
  let v1118 : BitVec 32 := Scalar.subi v2 c1_i32_1053
  let c0_i32_1054 : BitVec 32 := 0#32
  let v1119 : BitVec 32 := Scalar.subi v1118 c0_i32_1054
  let c16_i32_1055 : BitVec 32 := 16#32
  let v1120 : BitVec 32 := Scalar.addi v1119 c16_i32_1055
  let c8_i32_1056 : BitVec 32 := 8#32
  let v1121 : BitVec 32 := Scalar.remsi v1120 c8_i32_1056
  let c512_i32_1057 : BitVec 32 := 512#32
  let v1122 : BitVec 32 := Scalar.muli v1121 c512_i32_1057
  v1122
def k0_dev61 (d0 : Dev nD) : Nat :=
  let c0_i32_1073 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1072 : BitVec 32 := 1#32
  let v1136 : BitVec 32 := Scalar.muli v7 c1_i32_1072
  let v1137 : BitVec 32 := Scalar.addi c0_i32_1073 v1136
  v1137.toNat
def k0_mult36 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1076 : BitVec 32 := 1#32
  let v1142 : BitVec 32 := Scalar.addi v2 c1_i32_1076
  let c0_i32_1077 : BitVec 32 := 0#32
  let v1143 : BitVec 32 := Scalar.addi v1142 c0_i32_1077
  let c8_i32_1078 : BitVec 32 := 8#32
  let v1144 : BitVec 32 := Scalar.remsi v1143 c8_i32_1078
  let c512_i32_1079 : BitVec 32 := 512#32
  let v1145 : BitVec 32 := Scalar.muli v1144 c512_i32_1079
  v1145
def k0_dev62 (d0 : Dev nD) : Nat :=
  let c0_i32_1095 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1094 : BitVec 32 := 1#32
  let v1159 : BitVec 32 := Scalar.muli v5 c1_i32_1094
  let v1160 : BitVec 32 := Scalar.addi c0_i32_1095 v1159
  v1160.toNat
def k0_mult37 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1098 : BitVec 32 := 1#32
  let v1165 : BitVec 32 := Scalar.subi v2 c1_i32_1098
  let c1_i32_1099 : BitVec 32 := 1#32
  let v1166 : BitVec 32 := Scalar.subi v1165 c1_i32_1099
  let c16_i32_1100 : BitVec 32 := 16#32
  let v1167 : BitVec 32 := Scalar.addi v1166 c16_i32_1100
  let c8_i32_1101 : BitVec 32 := 8#32
  let v1168 : BitVec 32 := Scalar.remsi v1167 c8_i32_1101
  let c512_i32_1102 : BitVec 32 := 512#32
  let v1169 : BitVec 32 := Scalar.muli v1168 c512_i32_1102
  v1169
def k0_dev63 (d0 : Dev nD) : Nat :=
  let c0_i32_1118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1117 : BitVec 32 := 1#32
  let v1187 : BitVec 32 := Scalar.muli v5 c1_i32_1117
  let v1188 : BitVec 32 := Scalar.addi c0_i32_1118 v1187
  v1188.toNat
def k0_dev64 (d0 : Dev nD) : Nat :=
  let c0_i32_1131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1130 : BitVec 32 := 1#32
  let v1195 : BitVec 32 := Scalar.muli v7 c1_i32_1130
  let v1196 : BitVec 32 := Scalar.addi c0_i32_1131 v1195
  v1196.toNat
def k0_mult38 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1134 : BitVec 32 := 1#32
  let v1201 : BitVec 32 := Scalar.addi v2 c1_i32_1134
  let c1_i32_1135 : BitVec 32 := 1#32
  let v1202 : BitVec 32 := Scalar.addi v1201 c1_i32_1135
  let c8_i32_1136 : BitVec 32 := 8#32
  let v1203 : BitVec 32 := Scalar.remsi v1202 c8_i32_1136
  let c512_i32_1137 : BitVec 32 := 512#32
  let v1204 : BitVec 32 := Scalar.muli v1203 c512_i32_1137
  v1204
def k0_dev65 (d0 : Dev nD) : Nat :=
  let c0_i32_1153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1152 : BitVec 32 := 1#32
  let v1222 : BitVec 32 := Scalar.muli v7 c1_i32_1152
  let v1223 : BitVec 32 := Scalar.addi c0_i32_1153 v1222
  v1223.toNat
def k0_dev66 (d0 : Dev nD) : Nat :=
  let c0_i32_1166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1165 : BitVec 32 := 1#32
  let v1230 : BitVec 32 := Scalar.muli v5 c1_i32_1165
  let v1231 : BitVec 32 := Scalar.addi c0_i32_1166 v1230
  v1231.toNat
def k0_mult39 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1169 : BitVec 32 := 1#32
  let v1236 : BitVec 32 := Scalar.subi v2 c1_i32_1169
  let c1_i32_1170 : BitVec 32 := 1#32
  let v1237 : BitVec 32 := Scalar.subi v1236 c1_i32_1170
  let c16_i32_1171 : BitVec 32 := 16#32
  let v1238 : BitVec 32 := Scalar.addi v1237 c16_i32_1171
  let c8_i32_1172 : BitVec 32 := 8#32
  let v1239 : BitVec 32 := Scalar.remsi v1238 c8_i32_1172
  let c512_i32_1173 : BitVec 32 := 512#32
  let v1240 : BitVec 32 := Scalar.muli v1239 c512_i32_1173
  v1240
def k0_dev67 (d0 : Dev nD) : Nat :=
  let c0_i32_1189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1188 : BitVec 32 := 1#32
  let v1258 : BitVec 32 := Scalar.muli v5 c1_i32_1188
  let v1259 : BitVec 32 := Scalar.addi c0_i32_1189 v1258
  v1259.toNat
def k0_dev68 (d0 : Dev nD) : Nat :=
  let c0_i32_1202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1201 : BitVec 32 := 1#32
  let v1266 : BitVec 32 := Scalar.muli v7 c1_i32_1201
  let v1267 : BitVec 32 := Scalar.addi c0_i32_1202 v1266
  v1267.toNat
def k0_mult40 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1205 : BitVec 32 := 1#32
  let v1272 : BitVec 32 := Scalar.addi v2 c1_i32_1205
  let c1_i32_1206 : BitVec 32 := 1#32
  let v1273 : BitVec 32 := Scalar.addi v1272 c1_i32_1206
  let c8_i32_1207 : BitVec 32 := 8#32
  let v1274 : BitVec 32 := Scalar.remsi v1273 c8_i32_1207
  let c512_i32_1208 : BitVec 32 := 512#32
  let v1275 : BitVec 32 := Scalar.muli v1274 c512_i32_1208
  v1275
def k0_dev69 (d0 : Dev nD) : Nat :=
  let c0_i32_1224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1223 : BitVec 32 := 1#32
  let v1293 : BitVec 32 := Scalar.muli v7 c1_i32_1223
  let v1294 : BitVec 32 := Scalar.addi c0_i32_1224 v1293
  v1294.toNat
def k0_dev70 (d0 : Dev nD) : Nat :=
  let c0_i32_1237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1236 : BitVec 32 := 1#32
  let v1301 : BitVec 32 := Scalar.muli v5 c1_i32_1236
  let v1302 : BitVec 32 := Scalar.addi c0_i32_1237 v1301
  v1302.toNat
def k0_mult41 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1240 : BitVec 32 := 1#32
  let v1307 : BitVec 32 := Scalar.subi v2 c1_i32_1240
  let c2_i32_1241 : BitVec 32 := 2#32
  let v1308 : BitVec 32 := Scalar.subi v1307 c2_i32_1241
  let c16_i32_1242 : BitVec 32 := 16#32
  let v1309 : BitVec 32 := Scalar.addi v1308 c16_i32_1242
  let c8_i32_1243 : BitVec 32 := 8#32
  let v1310 : BitVec 32 := Scalar.remsi v1309 c8_i32_1243
  let c512_i32_1244 : BitVec 32 := 512#32
  let v1311 : BitVec 32 := Scalar.muli v1310 c512_i32_1244
  v1311
def k0_dev71 (d0 : Dev nD) : Nat :=
  let c0_i32_1260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1259 : BitVec 32 := 1#32
  let v1329 : BitVec 32 := Scalar.muli v5 c1_i32_1259
  let v1330 : BitVec 32 := Scalar.addi c0_i32_1260 v1329
  v1330.toNat
def k0_dev72 (d0 : Dev nD) : Nat :=
  let c0_i32_1273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1272 : BitVec 32 := 1#32
  let v1337 : BitVec 32 := Scalar.muli v7 c1_i32_1272
  let v1338 : BitVec 32 := Scalar.addi c0_i32_1273 v1337
  v1338.toNat
def k0_mult42 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1276 : BitVec 32 := 1#32
  let v1343 : BitVec 32 := Scalar.addi v2 c1_i32_1276
  let c2_i32_1277 : BitVec 32 := 2#32
  let v1344 : BitVec 32 := Scalar.addi v1343 c2_i32_1277
  let c8_i32_1278 : BitVec 32 := 8#32
  let v1345 : BitVec 32 := Scalar.remsi v1344 c8_i32_1278
  let c512_i32_1279 : BitVec 32 := 512#32
  let v1346 : BitVec 32 := Scalar.muli v1345 c512_i32_1279
  v1346
def k0_dev73 (d0 : Dev nD) : Nat :=
  let c0_i32_1295 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1294 : BitVec 32 := 1#32
  let v1364 : BitVec 32 := Scalar.muli v7 c1_i32_1294
  let v1365 : BitVec 32 := Scalar.addi c0_i32_1295 v1364
  v1365.toNat
def k0_dev74 (d0 : Dev nD) : Nat :=
  let c0_i32_1308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1307 : BitVec 32 := 1#32
  let v1372 : BitVec 32 := Scalar.muli v5 c1_i32_1307
  let v1373 : BitVec 32 := Scalar.addi c0_i32_1308 v1372
  v1373.toNat
def k0_mult43 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1311 : BitVec 32 := 1#32
  let v1378 : BitVec 32 := Scalar.subi v2 c1_i32_1311
  let c2_i32_1312 : BitVec 32 := 2#32
  let v1379 : BitVec 32 := Scalar.subi v1378 c2_i32_1312
  let c16_i32_1313 : BitVec 32 := 16#32
  let v1380 : BitVec 32 := Scalar.addi v1379 c16_i32_1313
  let c8_i32_1314 : BitVec 32 := 8#32
  let v1381 : BitVec 32 := Scalar.remsi v1380 c8_i32_1314
  let c512_i32_1315 : BitVec 32 := 512#32
  let v1382 : BitVec 32 := Scalar.muli v1381 c512_i32_1315
  v1382
def k0_dev75 (d0 : Dev nD) : Nat :=
  let c0_i32_1331 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1330 : BitVec 32 := 1#32
  let v1400 : BitVec 32 := Scalar.muli v5 c1_i32_1330
  let v1401 : BitVec 32 := Scalar.addi c0_i32_1331 v1400
  v1401.toNat
def k0_dev76 (d0 : Dev nD) : Nat :=
  let c0_i32_1344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1343 : BitVec 32 := 1#32
  let v1408 : BitVec 32 := Scalar.muli v7 c1_i32_1343
  let v1409 : BitVec 32 := Scalar.addi c0_i32_1344 v1408
  v1409.toNat
def k0_mult44 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1347 : BitVec 32 := 1#32
  let v1414 : BitVec 32 := Scalar.addi v2 c1_i32_1347
  let c2_i32_1348 : BitVec 32 := 2#32
  let v1415 : BitVec 32 := Scalar.addi v1414 c2_i32_1348
  let c8_i32_1349 : BitVec 32 := 8#32
  let v1416 : BitVec 32 := Scalar.remsi v1415 c8_i32_1349
  let c512_i32_1350 : BitVec 32 := 512#32
  let v1417 : BitVec 32 := Scalar.muli v1416 c512_i32_1350
  v1417
def k0_dev77 (d0 : Dev nD) : Nat :=
  let c0_i32_1366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1365 : BitVec 32 := 1#32
  let v1435 : BitVec 32 := Scalar.muli v7 c1_i32_1365
  let v1436 : BitVec 32 := Scalar.addi c0_i32_1366 v1435
  v1436.toNat
def k0_dev78 (d0 : Dev nD) : Nat :=
  let c0_i32_1379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1378 : BitVec 32 := 1#32
  let v1443 : BitVec 32 := Scalar.muli v5 c1_i32_1378
  let v1444 : BitVec 32 := Scalar.addi c0_i32_1379 v1443
  v1444.toNat
def k0_mult45 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1382 : BitVec 32 := 1#32
  let v1449 : BitVec 32 := Scalar.subi v2 c1_i32_1382
  let c3_i32_1383 : BitVec 32 := 3#32
  let v1450 : BitVec 32 := Scalar.subi v1449 c3_i32_1383
  let c16_i32_1384 : BitVec 32 := 16#32
  let v1451 : BitVec 32 := Scalar.addi v1450 c16_i32_1384
  let c8_i32_1385 : BitVec 32 := 8#32
  let v1452 : BitVec 32 := Scalar.remsi v1451 c8_i32_1385
  let c512_i32_1386 : BitVec 32 := 512#32
  let v1453 : BitVec 32 := Scalar.muli v1452 c512_i32_1386
  v1453
def k0_dev79 (d0 : Dev nD) : Nat :=
  let c0_i32_1402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1401 : BitVec 32 := 1#32
  let v1471 : BitVec 32 := Scalar.muli v5 c1_i32_1401
  let v1472 : BitVec 32 := Scalar.addi c0_i32_1402 v1471
  v1472.toNat
def k0_dev80 (d0 : Dev nD) : Nat :=
  let c0_i32_1415 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1414 : BitVec 32 := 1#32
  let v1479 : BitVec 32 := Scalar.muli v7 c1_i32_1414
  let v1480 : BitVec 32 := Scalar.addi c0_i32_1415 v1479
  v1480.toNat
def k0_mult46 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1418 : BitVec 32 := 1#32
  let v1485 : BitVec 32 := Scalar.addi v2 c1_i32_1418
  let c3_i32_1419 : BitVec 32 := 3#32
  let v1486 : BitVec 32 := Scalar.addi v1485 c3_i32_1419
  let c8_i32_1420 : BitVec 32 := 8#32
  let v1487 : BitVec 32 := Scalar.remsi v1486 c8_i32_1420
  let c512_i32_1421 : BitVec 32 := 512#32
  let v1488 : BitVec 32 := Scalar.muli v1487 c512_i32_1421
  v1488
def k0_dev81 (d0 : Dev nD) : Nat :=
  let c0_i32_1437 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1436 : BitVec 32 := 1#32
  let v1506 : BitVec 32 := Scalar.muli v7 c1_i32_1436
  let v1507 : BitVec 32 := Scalar.addi c0_i32_1437 v1506
  v1507.toNat
def k0_dev82 (d0 : Dev nD) : Nat :=
  let c0_i32_1450 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1449 : BitVec 32 := 1#32
  let v1514 : BitVec 32 := Scalar.muli v5 c1_i32_1449
  let v1515 : BitVec 32 := Scalar.addi c0_i32_1450 v1514
  v1515.toNat
def k0_mult47 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1453 : BitVec 32 := 1#32
  let v1520 : BitVec 32 := Scalar.subi v2 c1_i32_1453
  let c3_i32_1454 : BitVec 32 := 3#32
  let v1521 : BitVec 32 := Scalar.subi v1520 c3_i32_1454
  let c16_i32_1455 : BitVec 32 := 16#32
  let v1522 : BitVec 32 := Scalar.addi v1521 c16_i32_1455
  let c8_i32_1456 : BitVec 32 := 8#32
  let v1523 : BitVec 32 := Scalar.remsi v1522 c8_i32_1456
  let c512_i32_1457 : BitVec 32 := 512#32
  let v1524 : BitVec 32 := Scalar.muli v1523 c512_i32_1457
  v1524
def k0_dev83 (d0 : Dev nD) : Nat :=
  let c0_i32_1473 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1472 : BitVec 32 := 1#32
  let v1542 : BitVec 32 := Scalar.muli v5 c1_i32_1472
  let v1543 : BitVec 32 := Scalar.addi c0_i32_1473 v1542
  v1543.toNat
def k0_dev84 (d0 : Dev nD) : Nat :=
  let c0_i32_1486 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1485 : BitVec 32 := 1#32
  let v1550 : BitVec 32 := Scalar.muli v7 c1_i32_1485
  let v1551 : BitVec 32 := Scalar.addi c0_i32_1486 v1550
  v1551.toNat
def k0_mult48 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1489 : BitVec 32 := 1#32
  let v1556 : BitVec 32 := Scalar.addi v2 c1_i32_1489
  let c3_i32_1490 : BitVec 32 := 3#32
  let v1557 : BitVec 32 := Scalar.addi v1556 c3_i32_1490
  let c8_i32_1491 : BitVec 32 := 8#32
  let v1558 : BitVec 32 := Scalar.remsi v1557 c8_i32_1491
  let c512_i32_1492 : BitVec 32 := 512#32
  let v1559 : BitVec 32 := Scalar.muli v1558 c512_i32_1492
  v1559
def k0_dev85 (d0 : Dev nD) : Nat :=
  let c0_i32_1508 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1507 : BitVec 32 := 1#32
  let v1577 : BitVec 32 := Scalar.muli v7 c1_i32_1507
  let v1578 : BitVec 32 := Scalar.addi c0_i32_1508 v1577
  v1578.toNat
def k0_dev86 (d0 : Dev nD) : Nat :=
  let c0_i32_1521 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1520 : BitVec 32 := 1#32
  let v1585 : BitVec 32 := Scalar.muli v5 c1_i32_1520
  let v1586 : BitVec 32 := Scalar.addi c0_i32_1521 v1585
  v1586.toNat
def k0_mult49 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1524 : BitVec 32 := 1#32
  let v1591 : BitVec 32 := Scalar.subi v2 c1_i32_1524
  let c4_i32_1525 : BitVec 32 := 4#32
  let v1592 : BitVec 32 := Scalar.subi v1591 c4_i32_1525
  let c16_i32_1526 : BitVec 32 := 16#32
  let v1593 : BitVec 32 := Scalar.addi v1592 c16_i32_1526
  let c8_i32_1527 : BitVec 32 := 8#32
  let v1594 : BitVec 32 := Scalar.remsi v1593 c8_i32_1527
  let c512_i32_1528 : BitVec 32 := 512#32
  let v1595 : BitVec 32 := Scalar.muli v1594 c512_i32_1528
  v1595
def k0_dev87 (d0 : Dev nD) : Nat :=
  let c0_i32_1544 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1543 : BitVec 32 := 1#32
  let v1613 : BitVec 32 := Scalar.muli v5 c1_i32_1543
  let v1614 : BitVec 32 := Scalar.addi c0_i32_1544 v1613
  v1614.toNat
def k0_dev88 (d0 : Dev nD) : Nat :=
  let c0_i32_1557 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1556 : BitVec 32 := 1#32
  let v1621 : BitVec 32 := Scalar.muli v7 c1_i32_1556
  let v1622 : BitVec 32 := Scalar.addi c0_i32_1557 v1621
  v1622.toNat
def k0_mult50 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1560 : BitVec 32 := 1#32
  let v1627 : BitVec 32 := Scalar.addi v2 c1_i32_1560
  let c4_i32_1561 : BitVec 32 := 4#32
  let v1628 : BitVec 32 := Scalar.addi v1627 c4_i32_1561
  let c8_i32_1562 : BitVec 32 := 8#32
  let v1629 : BitVec 32 := Scalar.remsi v1628 c8_i32_1562
  let c512_i32_1563 : BitVec 32 := 512#32
  let v1630 : BitVec 32 := Scalar.muli v1629 c512_i32_1563
  v1630
def k0_dev89 (d0 : Dev nD) : Nat :=
  let c0_i32_1579 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1578 : BitVec 32 := 1#32
  let v1648 : BitVec 32 := Scalar.muli v7 c1_i32_1578
  let v1649 : BitVec 32 := Scalar.addi c0_i32_1579 v1648
  v1649.toNat
def k0_dev90 (d0 : Dev nD) : Nat :=
  let c0_i32_1592 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1591 : BitVec 32 := 1#32
  let v1656 : BitVec 32 := Scalar.muli v5 c1_i32_1591
  let v1657 : BitVec 32 := Scalar.addi c0_i32_1592 v1656
  v1657.toNat
def k0_mult51 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1595 : BitVec 32 := 1#32
  let v1662 : BitVec 32 := Scalar.subi v2 c1_i32_1595
  let c4_i32_1596 : BitVec 32 := 4#32
  let v1663 : BitVec 32 := Scalar.subi v1662 c4_i32_1596
  let c16_i32_1597 : BitVec 32 := 16#32
  let v1664 : BitVec 32 := Scalar.addi v1663 c16_i32_1597
  let c8_i32_1598 : BitVec 32 := 8#32
  let v1665 : BitVec 32 := Scalar.remsi v1664 c8_i32_1598
  let c512_i32_1599 : BitVec 32 := 512#32
  let v1666 : BitVec 32 := Scalar.muli v1665 c512_i32_1599
  v1666
def k0_dev91 (d0 : Dev nD) : Nat :=
  let c0_i32_1615 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1614 : BitVec 32 := 1#32
  let v1684 : BitVec 32 := Scalar.muli v5 c1_i32_1614
  let v1685 : BitVec 32 := Scalar.addi c0_i32_1615 v1684
  v1685.toNat
def k0_dev92 (d0 : Dev nD) : Nat :=
  let c0_i32_1628 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1627 : BitVec 32 := 1#32
  let v1692 : BitVec 32 := Scalar.muli v7 c1_i32_1627
  let v1693 : BitVec 32 := Scalar.addi c0_i32_1628 v1692
  v1693.toNat
def k0_mult52 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1631 : BitVec 32 := 1#32
  let v1698 : BitVec 32 := Scalar.addi v2 c1_i32_1631
  let c4_i32_1632 : BitVec 32 := 4#32
  let v1699 : BitVec 32 := Scalar.addi v1698 c4_i32_1632
  let c8_i32_1633 : BitVec 32 := 8#32
  let v1700 : BitVec 32 := Scalar.remsi v1699 c8_i32_1633
  let c512_i32_1634 : BitVec 32 := 512#32
  let v1701 : BitVec 32 := Scalar.muli v1700 c512_i32_1634
  v1701
def k0_dev93 (d0 : Dev nD) : Nat :=
  let c0_i32_1650 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1649 : BitVec 32 := 1#32
  let v1719 : BitVec 32 := Scalar.muli v7 c1_i32_1649
  let v1720 : BitVec 32 := Scalar.addi c0_i32_1650 v1719
  v1720.toNat
def k0_dev94 (d0 : Dev nD) : Nat :=
  let c0_i32_1663 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1662 : BitVec 32 := 1#32
  let v1727 : BitVec 32 := Scalar.muli v5 c1_i32_1662
  let v1728 : BitVec 32 := Scalar.addi c0_i32_1663 v1727
  v1728.toNat
def k0_mult53 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1666 : BitVec 32 := 1#32
  let v1733 : BitVec 32 := Scalar.subi v2 c1_i32_1666
  let c5_i32_1667 : BitVec 32 := 5#32
  let v1734 : BitVec 32 := Scalar.subi v1733 c5_i32_1667
  let c16_i32_1668 : BitVec 32 := 16#32
  let v1735 : BitVec 32 := Scalar.addi v1734 c16_i32_1668
  let c8_i32_1669 : BitVec 32 := 8#32
  let v1736 : BitVec 32 := Scalar.remsi v1735 c8_i32_1669
  let c512_i32_1670 : BitVec 32 := 512#32
  let v1737 : BitVec 32 := Scalar.muli v1736 c512_i32_1670
  v1737
def k0_dev95 (d0 : Dev nD) : Nat :=
  let c0_i32_1686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1685 : BitVec 32 := 1#32
  let v1755 : BitVec 32 := Scalar.muli v5 c1_i32_1685
  let v1756 : BitVec 32 := Scalar.addi c0_i32_1686 v1755
  v1756.toNat
def k0_dev96 (d0 : Dev nD) : Nat :=
  let c0_i32_1699 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1698 : BitVec 32 := 1#32
  let v1763 : BitVec 32 := Scalar.muli v7 c1_i32_1698
  let v1764 : BitVec 32 := Scalar.addi c0_i32_1699 v1763
  v1764.toNat
def k0_mult54 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1702 : BitVec 32 := 1#32
  let v1769 : BitVec 32 := Scalar.addi v2 c1_i32_1702
  let c5_i32_1703 : BitVec 32 := 5#32
  let v1770 : BitVec 32 := Scalar.addi v1769 c5_i32_1703
  let c8_i32_1704 : BitVec 32 := 8#32
  let v1771 : BitVec 32 := Scalar.remsi v1770 c8_i32_1704
  let c512_i32_1705 : BitVec 32 := 512#32
  let v1772 : BitVec 32 := Scalar.muli v1771 c512_i32_1705
  v1772
def k0_dev97 (d0 : Dev nD) : Nat :=
  let c0_i32_1721 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1720 : BitVec 32 := 1#32
  let v1790 : BitVec 32 := Scalar.muli v7 c1_i32_1720
  let v1791 : BitVec 32 := Scalar.addi c0_i32_1721 v1790
  v1791.toNat
def k0_dev98 (d0 : Dev nD) : Nat :=
  let c0_i32_1734 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1733 : BitVec 32 := 1#32
  let v1798 : BitVec 32 := Scalar.muli v5 c1_i32_1733
  let v1799 : BitVec 32 := Scalar.addi c0_i32_1734 v1798
  v1799.toNat
def k0_mult55 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1737 : BitVec 32 := 1#32
  let v1804 : BitVec 32 := Scalar.subi v2 c1_i32_1737
  let c5_i32_1738 : BitVec 32 := 5#32
  let v1805 : BitVec 32 := Scalar.subi v1804 c5_i32_1738
  let c16_i32_1739 : BitVec 32 := 16#32
  let v1806 : BitVec 32 := Scalar.addi v1805 c16_i32_1739
  let c8_i32_1740 : BitVec 32 := 8#32
  let v1807 : BitVec 32 := Scalar.remsi v1806 c8_i32_1740
  let c512_i32_1741 : BitVec 32 := 512#32
  let v1808 : BitVec 32 := Scalar.muli v1807 c512_i32_1741
  v1808
def k0_dev99 (d0 : Dev nD) : Nat :=
  let c0_i32_1757 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1756 : BitVec 32 := 1#32
  let v1826 : BitVec 32 := Scalar.muli v5 c1_i32_1756
  let v1827 : BitVec 32 := Scalar.addi c0_i32_1757 v1826
  v1827.toNat
def k0_dev100 (d0 : Dev nD) : Nat :=
  let c0_i32_1770 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1769 : BitVec 32 := 1#32
  let v1834 : BitVec 32 := Scalar.muli v7 c1_i32_1769
  let v1835 : BitVec 32 := Scalar.addi c0_i32_1770 v1834
  v1835.toNat
def k0_mult56 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1773 : BitVec 32 := 1#32
  let v1840 : BitVec 32 := Scalar.addi v2 c1_i32_1773
  let c5_i32_1774 : BitVec 32 := 5#32
  let v1841 : BitVec 32 := Scalar.addi v1840 c5_i32_1774
  let c8_i32_1775 : BitVec 32 := 8#32
  let v1842 : BitVec 32 := Scalar.remsi v1841 c8_i32_1775
  let c512_i32_1776 : BitVec 32 := 512#32
  let v1843 : BitVec 32 := Scalar.muli v1842 c512_i32_1776
  v1843
def k0_dev101 (d0 : Dev nD) : Nat :=
  let c0_i32_1792 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1791 : BitVec 32 := 1#32
  let v1861 : BitVec 32 := Scalar.muli v7 c1_i32_1791
  let v1862 : BitVec 32 := Scalar.addi c0_i32_1792 v1861
  v1862.toNat
def k0_dev102 (d0 : Dev nD) : Nat :=
  let c0_i32_1805 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1804 : BitVec 32 := 1#32
  let v1869 : BitVec 32 := Scalar.muli v5 c1_i32_1804
  let v1870 : BitVec 32 := Scalar.addi c0_i32_1805 v1869
  v1870.toNat
def k0_mult57 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1808 : BitVec 32 := 1#32
  let v1875 : BitVec 32 := Scalar.subi v2 c1_i32_1808
  let c6_i32_1809 : BitVec 32 := 6#32
  let v1876 : BitVec 32 := Scalar.subi v1875 c6_i32_1809
  let c16_i32_1810 : BitVec 32 := 16#32
  let v1877 : BitVec 32 := Scalar.addi v1876 c16_i32_1810
  let c8_i32_1811 : BitVec 32 := 8#32
  let v1878 : BitVec 32 := Scalar.remsi v1877 c8_i32_1811
  let c512_i32_1812 : BitVec 32 := 512#32
  let v1879 : BitVec 32 := Scalar.muli v1878 c512_i32_1812
  v1879
def k0_dev103 (d0 : Dev nD) : Nat :=
  let c0_i32_1838 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1837 : BitVec 32 := 1#32
  let v1903 : BitVec 32 := Scalar.muli v7 c1_i32_1837
  let v1904 : BitVec 32 := Scalar.addi c0_i32_1838 v1903
  v1904.toNat
def k0_mult58 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_1841 : BitVec 32 := 512#32
  let v1909 : BitVec 32 := Scalar.muli v2 c512_i32_1841
  v1909
def k0_mult59 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1848 : BitVec 32 := 1#32
  let v1918 : BitVec 32 := Scalar.addi v2 c1_i32_1848
  let c6_i32_1849 : BitVec 32 := 6#32
  let v1919 : BitVec 32 := Scalar.addi v1918 c6_i32_1849
  let c8_i32_1850 : BitVec 32 := 8#32
  let v1920 : BitVec 32 := Scalar.remsi v1919 c8_i32_1850
  let c512_i32_1851 : BitVec 32 := 512#32
  let v1921 : BitVec 32 := Scalar.muli v1920 c512_i32_1851
  v1921
def k0_dev104 (d0 : Dev nD) : Nat :=
  let c0_i32_1877 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1876 : BitVec 32 := 1#32
  let v1945 : BitVec 32 := Scalar.muli v5 c1_i32_1876
  let v1946 : BitVec 32 := Scalar.addi c0_i32_1877 v1945
  v1946.toNat
def k0_mult60 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_1880 : BitVec 32 := 512#32
  let v1951 : BitVec 32 := Scalar.muli v2 c512_i32_1880
  v1951
def k0_mult61 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1887 : BitVec 32 := 1#32
  let v1960 : BitVec 32 := Scalar.subi v2 c1_i32_1887
  let c6_i32_1888 : BitVec 32 := 6#32
  let v1961 : BitVec 32 := Scalar.subi v1960 c6_i32_1888
  let c16_i32_1889 : BitVec 32 := 16#32
  let v1962 : BitVec 32 := Scalar.addi v1961 c16_i32_1889
  let c8_i32_1890 : BitVec 32 := 8#32
  let v1963 : BitVec 32 := Scalar.remsi v1962 c8_i32_1890
  let c512_i32_1891 : BitVec 32 := 512#32
  let v1964 : BitVec 32 := Scalar.muli v1963 c512_i32_1891
  v1964
def k0_dev105 (d0 : Dev nD) : Nat :=
  let c0_i32_1917 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1916 : BitVec 32 := 1#32
  let v1988 : BitVec 32 := Scalar.muli v7 c1_i32_1916
  let v1989 : BitVec 32 := Scalar.addi c0_i32_1917 v1988
  v1989.toNat
def k0_mult62 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_1920 : BitVec 32 := 512#32
  let v1994 : BitVec 32 := Scalar.muli v2 c512_i32_1920
  v1994
def k0_mult63 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1927 : BitVec 32 := 1#32
  let v2003 : BitVec 32 := Scalar.addi v2 c1_i32_1927
  let c6_i32_1928 : BitVec 32 := 6#32
  let v2004 : BitVec 32 := Scalar.addi v2003 c6_i32_1928
  let c8_i32_1929 : BitVec 32 := 8#32
  let v2005 : BitVec 32 := Scalar.remsi v2004 c8_i32_1929
  let c512_i32_1930 : BitVec 32 := 512#32
  let v2006 : BitVec 32 := Scalar.muli v2005 c512_i32_1930
  v2006
def k0_dev106 (d0 : Dev nD) : Nat :=
  let c0_i32_1956 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1955 : BitVec 32 := 1#32
  let v2030 : BitVec 32 := Scalar.muli v5 c1_i32_1955
  let v2031 : BitVec 32 := Scalar.addi c0_i32_1956 v2030
  v2031.toNat
def k0_mult64 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_1959 : BitVec 32 := 512#32
  let v2036 : BitVec 32 := Scalar.muli v2 c512_i32_1959
  v2036
def k0_dev107 (d0 : Dev nD) : Nat :=
  let c0_i32_2054 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2048 : BitVec 32 := 1#32
  let v2140 : BitVec 32 := Scalar.addi v2 c1_i32_2048
  let c8_i32_2049 : BitVec 32 := 8#32
  let v2141 : BitVec 32 := Scalar.remsi v2140 c8_i32_2049
  let c1_i32_2053 : BitVec 32 := 1#32
  let v2142 : BitVec 32 := Scalar.muli v2141 c1_i32_2053
  let v2143 : BitVec 32 := Scalar.addi c0_i32_2054 v2142
  v2143.toNat
def k0_dev108 (d0 : Dev nD) : Nat :=
  let c0_i32_2063 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2057 : BitVec 32 := 2#32
  let v2150 : BitVec 32 := Scalar.addi v2 c2_i32_2057
  let c8_i32_2058 : BitVec 32 := 8#32
  let v2151 : BitVec 32 := Scalar.remsi v2150 c8_i32_2058
  let c1_i32_2062 : BitVec 32 := 1#32
  let v2152 : BitVec 32 := Scalar.muli v2151 c1_i32_2062
  let v2153 : BitVec 32 := Scalar.addi c0_i32_2063 v2152
  v2153.toNat
def k0_dev109 (d0 : Dev nD) : Nat :=
  let c0_i32_2072 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2066 : BitVec 32 := 3#32
  let v2160 : BitVec 32 := Scalar.addi v2 c3_i32_2066
  let c8_i32_2067 : BitVec 32 := 8#32
  let v2161 : BitVec 32 := Scalar.remsi v2160 c8_i32_2067
  let c1_i32_2071 : BitVec 32 := 1#32
  let v2162 : BitVec 32 := Scalar.muli v2161 c1_i32_2071
  let v2163 : BitVec 32 := Scalar.addi c0_i32_2072 v2162
  v2163.toNat
def k0_dev110 (d0 : Dev nD) : Nat :=
  let c0_i32_2081 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2075 : BitVec 32 := 4#32
  let v2170 : BitVec 32 := Scalar.addi v2 c4_i32_2075
  let c8_i32_2076 : BitVec 32 := 8#32
  let v2171 : BitVec 32 := Scalar.remsi v2170 c8_i32_2076
  let c1_i32_2080 : BitVec 32 := 1#32
  let v2172 : BitVec 32 := Scalar.muli v2171 c1_i32_2080
  let v2173 : BitVec 32 := Scalar.addi c0_i32_2081 v2172
  v2173.toNat
def k0_dev111 (d0 : Dev nD) : Nat :=
  let c0_i32_2090 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2084 : BitVec 32 := 5#32
  let v2180 : BitVec 32 := Scalar.addi v2 c5_i32_2084
  let c8_i32_2085 : BitVec 32 := 8#32
  let v2181 : BitVec 32 := Scalar.remsi v2180 c8_i32_2085
  let c1_i32_2089 : BitVec 32 := 1#32
  let v2182 : BitVec 32 := Scalar.muli v2181 c1_i32_2089
  let v2183 : BitVec 32 := Scalar.addi c0_i32_2090 v2182
  v2183.toNat
def k0_dev112 (d0 : Dev nD) : Nat :=
  let c0_i32_2099 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2093 : BitVec 32 := 6#32
  let v2190 : BitVec 32 := Scalar.addi v2 c6_i32_2093
  let c8_i32_2094 : BitVec 32 := 8#32
  let v2191 : BitVec 32 := Scalar.remsi v2190 c8_i32_2094
  let c1_i32_2098 : BitVec 32 := 1#32
  let v2192 : BitVec 32 := Scalar.muli v2191 c1_i32_2098
  let v2193 : BitVec 32 := Scalar.addi c0_i32_2099 v2192
  v2193.toNat
def k0_dev113 (d0 : Dev nD) : Nat :=
  let c0_i32_2107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v2200 : BitVec 32 := Scalar.addi v2 c7_i32
  let c8_i32_2102 : BitVec 32 := 8#32
  let v2201 : BitVec 32 := Scalar.remsi v2200 c8_i32_2102
  let c1_i32_2106 : BitVec 32 := 1#32
  let v2202 : BitVec 32 := Scalar.muli v2201 c1_i32_2106
  let v2203 : BitVec 32 := Scalar.addi c0_i32_2107 v2202
  v2203.toNat
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1x4096x8192 : Shape := ⟨3, ![1, 4096, 8192]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .local _ .vmem, ⟨0, _⟩ => ⟨S4096x4096, .bf16⟩
  | .local _ .vmem, ⟨1, _⟩ => ⟨S4096x8192, .bf16⟩
  | .local _ .vmem, ⟨2, _⟩ => ⟨S4096x8192, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Prog.lean ====
/-
The kernel's body, written as a program over lanes and hops: four lanes (0 and 2 move right along the ring, 1 and 3 left), two column passes a lane, seven hops and a closing step a pass.
-/
module

public import proofs.«01_k».proof.Proof.Gen.KernelIdeal.Skeleton

@[expose] public section

noncomputable section

namespace Cert.KernelIdeal.Ring

open Idealize.ShloMosaic Idealize.SL.Sem Cert.KernelIdeal.Gen

variable {F : FTy → Type} [FloatOps F]

/-- The lanes. -/
abbrev Lane := Fin 4

/-- The staged operand blocks and the output block. -/
abbrev xM : Memref sig .tc .vmem S4096x512 .bf16 := Memref.whole cc0_stg0_0
abbrev wM : Memref sig .tc .vmem S512x8192 .bf16 := Memref.whole cc0_stg1_0
abbrev outM : Memref sig .tc .vmem S512x8192 .f32 := Memref.whole cc0_stg2_0

/-- A lane's buffer of the partial sum it sends on. -/
def sendM : Lane → Memref sig .tc .vmem S512x1024 .bf16
  | 0 => Memref.whole cc0_scratch0
  | 1 => Memref.whole cc0_scratch5
  | 2 => Memref.whole cc0_scratch10
  | 3 => Memref.whole cc0_scratch15

/-- A lane's two receive slots. -/
def recvM : Lane → Memref sig .tc .vmem S2x512x1024 .bf16
  | 0 => Memref.whole cc0_scratch1
  | 1 => Memref.whole cc0_scratch6
  | 2 => Memref.whole cc0_scratch11
  | 3 => Memref.whole cc0_scratch16

theorem sendM_whole : ∀ L, (sendM L).IsWhole
  | 0 => Memref.isWhole_whole _
  | 1 => Memref.isWhole_whole _
  | 2 => Memref.isWhole_whole _
  | 3 => Memref.isWhole_whole _

theorem recvM_whole : ∀ L, (recvM L).IsWhole
  | 0 => Memref.isWhole_whole _
  | 1 => Memref.isWhole_whole _
  | 2 => Memref.isWhole_whole _
  | 3 => Memref.isWhole_whole _

/-- A lane's send semaphore, its receive semaphores and its credit semaphore. -/
def sendS : Lane → DmaSems sig S_
  | 0 => cc0_scratch2
  | 1 => cc0_scratch7
  | 2 => cc0_scratch12
  | 3 => cc0_scratch17
def recvS : Lane → DmaSems sig S2
  | 0 => cc0_scratch3
  | 1 => cc0_scratch8
  | 2 => cc0_scratch13
  | 3 => cc0_scratch18
def creditS : Lane → Sems sig S_
  | 0 => cc0_scratch4
  | 1 => cc0_scratch9
  | 2 => cc0_scratch14
  | 3 => cc0_scratch19

/-- The neighbours on the ring. -/
def rightD (d : Dev nD) : Dev nD := ⟨k0_dev2 d, k0_dev2_lt d⟩
def leftD (d : Dev nD) : Dev nD := ⟨k0_dev1 d, k0_dev1_lt d⟩

/-- The neighbour a lane sends to, and the one it receives from. -/
def dst : Lane → Dev nD → Dev nD
  | 0 => rightD
  | 1 => leftD
  | 2 => rightD
  | 3 => leftD
def src : Lane → Dev nD → Dev nD
  | 0 => leftD
  | 1 => rightD
  | 2 => leftD
  | 3 => rightD

/-- The block of x that hop s of a lane multiplies. -/
def xOff : Lane → Dev nD → Fin 7 → Fin 2 → ℕ
  | 0 => fun d s => k0_off1 d (BitVec.ofNat 32 s.val)
  | 1 => fun d s => k0_off2 d (BitVec.ofNat 32 s.val)
  | 2 => fun d s => k0_off1 d (BitVec.ofNat 32 s.val)
  | 3 => fun d s => k0_off2 d (BitVec.ofNat 32 s.val)

theorem xOff_inb : ∀ (L : Lane) (d : Dev nD) (s : Fin 7), ∀ a, xOff L d s a + S512x512.size a ≤ S4096x512.size a
  | 0 => k0_off1_inb
  | 1 => k0_off2_inb
  | 2 => k0_off1_inb
  | 3 => k0_off2_inb

/-- The first column of a lane's pass. -/
def col : Lane → Fin 2 → ℕ
  | 0, 0 => 0
  | 0, 1 => 2048
  | 1, 0 => 4096
  | 1, 1 => 6144
  | 2, 0 => 1024
  | 2, 1 => 3072
  | 3, 0 => 5120
  | 3, 1 => 7168

theorem col_inb : ∀ (L : Lane) (cp : Fin 2), ∀ a, (![0, col L cp] : Fin 2 → ℕ) a + S512x1024.size a ≤ S512x8192.size a := by decide

abbrev xR (L : Lane) (d : Dev nD) (s : Fin 7) : Rect S4096x512 := Rect.unit (s := S4096x512) (xOff L d s) S512x512.size (xOff_inb L d s)
abbrev xRown (d : Dev nD) : Rect S4096x512 := Rect.unit (s := S4096x512) (k0_off3 d) S512x512.size (k0_off3_inb d)
abbrev cR (L : Lane) (cp : Fin 2) : Rect S512x8192 := Rect.unit (s := S512x8192) ![0, col L cp] S512x1024.size (col_inb L cp)
abbrev sR : Rect S512x1024 := Rect.unit (s := S512x1024) ![0, 0] S512x1024.size inb_S512x1024_S512x1024_0_0

theorem slot_inb : ∀ b : Fin 2, ∀ a, (![b.val, 0, 0] : Fin 3 → ℕ) a + S1x512x1024.size a ≤ S2x512x1024.size a := by decide
theorem sem2_inb : ∀ b : Fin 2, ∀ a, (![b.val] : Fin 1 → ℕ) a + S1.size a ≤ S2.size a := by decide
theorem sem7_inb : ∀ b : Fin 7, ∀ a, (![b.val] : Fin 1 → ℕ) a + S1.size a ≤ S7.size a := by decide
theorem ax_inb : ∀ b : Fin 7, ∀ a, (![b.val, 0, 0] : Fin 3 → ℕ) a + S1x1x128.size a ≤ S7x1x128.size a := by decide

abbrev slotR (b : Fin 2) : Rect S2x512x1024 := Rect.unit (s := S2x512x1024) ![b.val, 0, 0] S1x512x1024.size (slot_inb b)

/-- Receive slot b of a lane. -/
def slotM (L : Lane) (b : Fin 2) : Memref sig .tc .vmem S512x1024 .bf16 := ((recvM L).slice (slotR b) (fun _ => rfl)).squeeze S512x1024 squeezes_S1x512x1024_S512x1024

/-- The semaphore of receive slot b of a lane. -/
def slotS (L : Lane) (b : Fin 2) : DmaSems sig S_ := ((recvS L).slice (Rect.unit (s := S2) ![b.val] S1.size (sem2_inb b))).squeeze S_ squeezes_S1_S_

theorem slot_words (L : Lane) (b : Fin 2) : ((recvM L).slice (slotR b) (fun _ => rfl)).view.WordExact :=
  match b with
  | 0 => (recvM_whole L).wordExact_slice rfl _ wordsbf16_S2x512x1024_S1x512x1024_0_0_0
  | 1 => (recvM_whole L).wordExact_slice rfl _ wordsbf16_S2x512x1024_S1x512x1024_1_0_0

/-- The buffer a device broadcasts its largest value from, and the seven slots it receives the others' in. -/
abbrev axM : Memref sig .tc .vmem S1x128 .f32 := Memref.whole cc0_scratch20
abbrev axsM : Memref sig .tc .vmem S7x1x128 .f32 := Memref.whole cc0_scratch21
def axSlot (b : Fin 7) : Memref sig .tc .vmem S1x128 .f32 :=
  (axsM.slice (Rect.unit (s := S7x1x128) ![b.val, 0, 0] S1x1x128.size (ax_inb b)) (fun _ => rfl)).squeeze S1x128 squeezes_S1x1x128_S1x128
def axSendS (b : Fin 7) : DmaSems sig S_ := (cc0_scratch22.slice (Rect.unit (s := S7) ![b.val] S1.size (sem7_inb b))).squeeze S_ squeezes_S1_S_
def axRecvS (b : Fin 7) : DmaSems sig S_ := (cc0_scratch23.slice (Rect.unit (s := S7) ![b.val] S1.size (sem7_inb b))).squeeze S_ squeezes_S1_S_

/-- The device b + 1 places to the right. -/
def axDst : Fin 7 → Dev nD → Dev nD
  | 0 => fun d => ⟨k0_dev107 d, k0_dev107_lt d⟩
  | 1 => fun d => ⟨k0_dev108 d, k0_dev108_lt d⟩
  | 2 => fun d => ⟨k0_dev109 d, k0_dev109_lt d⟩
  | 3 => fun d => ⟨k0_dev110 d, k0_dev110_lt d⟩
  | 4 => fun d => ⟨k0_dev111 d, k0_dev111_lt d⟩
  | 5 => fun d => ⟨k0_dev112 d, k0_dev112_lt d⟩
  | 6 => fun d => ⟨k0_dev113 d, k0_dev113_lt d⟩

/-! ## The values -/

/-- A product of a block of x with a block of w. -/
def dotV (x : Vec F S512x512 .bf16) (w : Vec F S512x1024 .bf16) : FVec F S512x1024 .f32 :=
  matmul dot_S512x512_S512x1024_S512x1024_1_0_0_1_n_n none (shapeCast S512x512 x shapeCasts_S512x512_S512x512) (shapeCast S512x1024 w shapeCasts_S512x1024_S512x1024)
    (constant S512x1024 .f32 0x00000000#32)

/-- A partial sum as it is sent. -/
def packV (a : FVec F S512x1024 .f32) : FVec F S512x1024 .bf16 := shapeCast S512x1024 (truncf .bf16 a bitsLt_bf16_f32) shapeCasts_S512x1024_S512x1024

/-- A received partial sum added to the device's own. -/
def addV (a : FVec F S512x1024 .f32) (r : Vec F S1x512x1024 .bf16) : FVec F S512x1024 .f32 :=
  addf a (extf .f32 (shapeCast S512x1024 r shapeCasts_S1x512x1024_S512x1024) bitsLt_bf16_f32)

/-- The finished block: the last sum, at least zero. -/
def reluV (a : FVec F S512x1024 .f32) (r : Vec F S1x512x1024 .bf16) : FVec F S512x1024 .f32 :=
  maximumf (addV (shapeCast S512x1024 a shapeCasts_S512x1024_S512x1024) r) (broadcast S512x1024 (Scalar.ofBits .f32 0x00000000#32))

/-- The largest value of a finished block. -/
def maxV (y : FVec F S512x1024 .f32) : F .f32 :=
  extractAt ![0, 0, 0] (shapeCast S1x1x1 (multiReduction .maximumf [1, 2] S1 (shapeCast S1x512x1024 y shapeCasts_S512x1024_S1x512x1024) 0xFF800000#32 reduces_S1x512x1024_S1 (.inl rfl) rfl) shapeCasts_S1_S1x1x1) inpos_S1x1x1_p0_0_0

/-- The largest value of a device's eight finished blocks. -/
def localV (m0 m1 m2 m3 m4 m5 m6 m7 : F .f32) : F .f32 :=
  Scalar.maximumf (Scalar.maximumf (Scalar.maximumf (Scalar.maximumf (Scalar.maximumf (Scalar.maximumf (Scalar.maximumf m0 m1) m2) m3) m4) m5) m6) m7

/-- What a device broadcasts. -/
def spreadV (m : F .f32) : FVec F S1x128 .f32 := shapeCast S1x128 (broadcast S1x128 m) shapeCasts_S1x128_S1x128

/-- The largest value over all devices. -/
def globalV (m : F .f32) (r : Vec F S7x1x128 .f32) : F .f32 :=
  Scalar.maximumf m (extractAt ![0, 0, 0, 0] (shapeCast S1x1x1x1 (multiReduction .maximumf [1, 2, 3] S1 (shapeCast S1x7x1x128 r shapeCasts_S7x1x128_S1x7x1x128) 0xFF800000#32 reduces_S1x7x1x128_S1 (.inl rfl) rfl) shapeCasts_S1_S1x1x1x1) inpos_S1x1x1x1_p0_0_0_0)

/-- A finished block to fp8 and back. -/
def quantV (g : F .f32) (y : Vec F S512x1024 .f32) : FVec F S512x1024 .f32 :=
  mulf (extf .f32 (truncf .fp8e4m3 (mulf (shapeCast S512x1024 y shapeCasts_S512x1024_S512x1024) (broadcast S512x1024 (Scalar.divf (Scalar.ofBits .f32 0x43E00000#32) g))) bitsLt_fp8e4m3_f32) bitsLt_fp8e4m3_f32)
    (broadcast S512x1024 (Scalar.divf g (Scalar.ofBits .f32 0x43E00000#32)))

/-! ## The program -/

variable (F) in
/-- Programs of the body's kind. -/
abbrev P := Prog (TpuEff nD τ sig (Elt F) Λ₀ .tc) PUnit

/-- Wait for the copy of hop t to arrive. -/
def waitRecvK (L : Lane) (b : Fin 2) (k : P F) : P F :=
  .op (.waitDma2 (slotS L b).sem (sendM L) (slotM L b) (sendM_whole L).wordExact ((slot_words L b).reshape _ _)) fun _ => k

/-- Wait for a copy to have left. -/
def waitSendK (L : Lane) (b : Fin 2) (k : P F) : P F :=
  .op (.waitDma2 (sendS L).sem (slotM L b) (sendM L) ((slot_words L b).reshape _ _) (sendM_whole L).wordExact) fun _ => k

/-- Read a receive slot. -/
def loadRecvK (L : Lane) (b : Fin 2) (k : Vec F S1x512x1024 .bf16 → P F) : P F :=
  .op (.load (recvM L) (slotR b).toLoadRect (View.loadsAt_vmem h_S1x512x1024)) k

def creditK (d : Dev nD) (L : Lane) (k : P F) : P F := .op (.semSignal (src L d).tc (creditS L).sem (1#32 : BitVec 32).toInt) fun _ => k

def waitCreditK (L : Lane) (k : P F) : P F := .op (.semWait (creditS L).sem (1#32 : BitVec 32).toInt) fun _ => k

/-- Write a lane's send buffer (the printed program reads it first and drops what it read). -/
def putSendK (L : Lane) (v : FVec F S512x1024 .bf16) (k : P F) : P F :=
  .op (.load (sendM L) sR.toLoadRect (View.loadsAt_vmem h_S512x1024)) fun _ =>
  .op (.store (sendM L) sR v Finset.univ (View.stores_vmem h_S512x1024 ((sendM_whole L).storeExact_slice rfl _ packedbf16_S512x1024_S512x1024_0_0) (fun _ => rfl)) (.inl rfl)) fun _ => k

/-- Start the copy of a hop. -/
def copyK (d : Dev nD) (L : Lane) (b : Fin 2) (k : P F) : P F :=
  .op (.enqueueDma (sendM L) (.remote (Dev.tc (dst L d)) (slotM L b) (.dma (sendS L).sem)) (.dma (slotS L b).sem) (sendM_whole L).wordExact ((slot_words L b).reshape _ _) ⟨⟨rfl, Or.inl rfl⟩, trivial⟩) fun _ => k

/-- Write a lane's block of the output (the printed program reads it first and drops what it read). -/
def putOutK (L : Lane) (cp : Fin 2) (v : FVec F S512x1024 .f32) (k : P F) : P F :=
  .op (.load outM (cR L cp).toLoadRect (View.loadsAt_vmem h_S512x1024)) fun _ =>
  .op (.store outM (cR L cp) v Finset.univ (View.stores_vmem_bits_univ h_S512x1024 rfl) (.inl rfl)) fun _ => k

def loadOutK (L : Lane) (cp : Fin 2) (k : Vec F S512x1024 .f32 → P F) : P F := .op (.load outM (cR L cp).toLoadRect (View.loadsAt_vmem h_S512x1024)) k

/-- The product of a block of x with a lane's columns of w. -/
def dotK (off : Fin 2 → ℕ) (h : ∀ a, off a + S512x512.size a ≤ S4096x512.size a) (L : Lane) (cp : Fin 2) (k : FVec F S512x1024 .f32 → P F) : P F :=
  .op (.load xM (Rect.unit (s := S4096x512) off S512x512.size h).toLoadRect (View.loadsAt_vmem h_S512x512)) fun x =>
  .op (.load wM (cR L cp).toLoadRect (View.loadsAt_vmem h_S512x1024)) fun w => k (dotV x w)

/-- The hop's number, over both passes. -/
abbrev hop (cp : Fin 2) (s : ℕ) : ℕ := 7 * cp.val + s

abbrev par (t : ℕ) : Fin 2 := Fin.ofNat 2 t

/-- Receive hop t, add it to the device's own product, hand the slot back while hops remain to use it. -/
def recvK (d : Dev nD) (L : Lane) (t : ℕ) (a : FVec F S512x1024 .f32) (k : FVec F S512x1024 .f32 → P F) : P F :=
  waitRecvK L (par t) (loadRecvK L (par t) fun r => if t ≤ 11 then creditK d L (k (addV a r)) else k (addV a r))

/-- Send hop t: wait for the slot, for the send buffer, fill it and start the copy. -/
def sendK (d : Dev nD) (L : Lane) (t : ℕ) (a : FVec F S512x1024 .f32) (k : P F) : P F :=
  let go : P F := putSendK L (packV a) (copyK d L (par t) k)
  let go : P F := if 1 ≤ t then waitSendK L (par (t + 1)) go else go
  if 2 ≤ t then waitCreditK L go else go

/-- Hop s of a pass of a lane; the last hop also leaves the device's own product in the output block. -/
def hopK (d : Dev nD) (cp : Fin 2) (s : Fin 7) (L : Lane) (k : P F) : P F :=
  dotK (xOff L d s) (xOff_inb L d s) L cp fun a =>
    let rest : P F := if s.val = 6 then dotK (k0_off3 d) (k0_off3_inb d) L cp fun o => putOutK L cp o k else k
    if 1 ≤ s.val then recvK d L (hop cp s.val - 1) a fun a => sendK d L (hop cp s.val) a rest else sendK d L (hop cp s.val) a rest

/-- The closing step of a pass of a lane. -/
def lastK (d : Dev nD) (cp : Fin 2) (L : Lane) (k : F .f32 → P F) : P F :=
  loadOutK L cp fun o => waitRecvK L (par (hop cp 6)) <| loadRecvK L (par (hop cp 6)) fun r =>
    let rest : P F := putOutK L cp (reluV o r) (k (maxV (reluV o r)))
    if hop cp 6 ≤ 11 then creditK d L rest else rest

def rowK (d : Dev nD) (cp : Fin 2) (s : Fin 7) (k : P F) : P F := hopK d cp s 0 (hopK d cp s 1 (hopK d cp s 2 (hopK d cp s 3 k)))

def passK (d : Dev nD) (cp : Fin 2) (k : P F) : P F :=
  rowK d cp 0 (rowK d cp 1 (rowK d cp 2 (rowK d cp 3 (rowK d cp 4 (rowK d cp 5 (rowK d cp 6 k))))))

def closeK (d : Dev nD) (cp : Fin 2) (k : F .f32 → F .f32 → F .f32 → F .f32 → P F) : P F :=
  lastK d cp 0 fun m0 => lastK d cp 1 fun m1 => lastK d cp 2 fun m2 => lastK d cp 3 fun m3 => k m0 m1 m2 m3

/-- The neighbours' barrier. -/
def barrierK (k : Dev nD → P F) : P F :=
  .op .deviceId fun d =>
  .op (.semSignal (leftD d).tc (SemArray.scalar (sig.barrier 0 rfl) : Sems sig S_).sem (1#32 : BitVec 32).toInt) fun _ =>
  .op (.semSignal (rightD d).tc (SemArray.scalar (sig.barrier 0 rfl) : Sems sig S_).sem (1#32 : BitVec 32).toInt) fun _ =>
  .op (.semWait (SemArray.scalar (sig.barrier 0 rfl) : Sems sig S_).sem (2#32 : BitVec 32).toInt) fun _ => k d

abbrev aR : Rect S1x128 := Rect.unit (s := S1x128) ![0, 0] S1x128.size inb_S1x128_S1x128_0_0

def putAxK (v : FVec F S1x128 .f32) (k : P F) : P F :=
  .op (.load axM aR.toLoadRect (View.loadsAt_vmem h_S1x128)) fun _ =>
  .op (.store axM aR v Finset.univ (View.stores_vmem_bits_univ h_S1x128 rfl) (.inl rfl)) fun _ => k

def copyAxK (d : Dev nD) (b : Fin 7) (k : P F) : P F :=
  .op (.enqueueDma axM (.remote (Dev.tc (axDst b d)) (axSlot b) (.dma (axSendS b).sem)) (.dma (axRecvS b).sem) (Memref.isWhole_whole cc0_scratch20).wordExact ((View.wordExact_bits rfl).reshape _ _) ⟨⟨rfl, Or.inl rfl⟩, trivial⟩) fun _ => k

def waitAxSendK (b : Fin 7) (k : P F) : P F :=
  .op (.waitDma2 (axSendS b).sem (axSlot b) axM ((View.wordExact_bits rfl).reshape _ _) (Memref.isWhole_whole cc0_scratch20).wordExact) fun _ => k

def waitAxRecvK (b : Fin 7) (k : P F) : P F :=
  .op (.waitDma2 (axRecvS b).sem axM (axSlot b) (Memref.isWhole_whole cc0_scratch20).wordExact ((View.wordExact_bits rfl).reshape _ _)) fun _ => k

def loadAxK (k : Vec F S7x1x128 .f32 → P F) : P F :=
  .op (.load axsM (Rect.unit (s := S7x1x128) ![0, 0, 0] S7x1x128.size inb_S7x1x128_S7x1x128_0_0_0).toLoadRect (View.loadsAt_vmem h_S7x1x128)) k

/-- The seven slots in order. -/
def each (f : Fin 7 → P F → P F) (k : P F) : P F := f 0 (f 1 (f 2 (f 3 (f 4 (f 5 (f 6 k))))))

def quantK (g : F .f32) (L : Lane) (cp : Fin 2) (k : P F) : P F := loadOutK L cp fun y => putOutK L cp (quantV g y) k

/-- The eight column blocks in order. -/
def quantAllK (g : F .f32) (k : P F) : P F :=
  quantK g 0 0 (quantK g 2 0 (quantK g 0 1 (quantK g 2 1 (quantK g 1 0 (quantK g 3 0 (quantK g 1 1 (quantK g 3 1 k)))))))

/-- Wait for the last copies to have left, then agree on the largest value and quantise. -/
def endK (d : Dev nD) (m : F .f32) : P F :=
  waitSendK 0 1 <| waitSendK 1 1 <| waitSendK 2 1 <| waitSendK 3 1 <|
  putAxK (spreadV m) <| each (copyAxK d) <| each waitAxSendK <| each waitAxRecvK <|
  loadAxK fun r => quantAllK (globalV m r) (.ret ⟨⟩)

variable (F) in
/-- The body. -/
def prog : P F :=
  barrierK fun d => passK d 0 <| closeK d 0 fun m0 m1 m2 m3 => passK d 1 <| closeK d 1 fun m4 m5 m6 m7 => endK d (localV m0 m1 m2 m3 m4 m5 m6 m7)

set_option maxRecDepth 1000000 in
set_option maxHeartbeats 0 in
/-- The printed body is this program, by unfolding. -/
theorem body_eq : cc0_body (F := F) xM (Memref.isWhole_whole _) wM (Memref.isWhole_whole _) outM (Memref.isWhole_whole _) (Memref.whole cc0_scratch0) (Memref.isWhole_whole _) (Memref.whole cc0_scratch1) (Memref.isWhole_whole _) cc0_scratch2 cc0_scratch3 cc0_scratch4 (Memref.whole cc0_scratch5) (Memref.isWhole_whole _) (Memref.whole cc0_scratch6) (Memref.isWhole_whole _) cc0_scratch7 cc0_scratch8 cc0_scratch9 (Memref.whole cc0_scratch10) (Memref.isWhole_whole _) (Memref.whole cc0_scratch11) (Memref.isWhole_whole _) cc0_scratch12 cc0_scratch13 cc0_scratch14 (Memref.whole cc0_scratch15) (Memref.isWhole_whole _) (Memref.whole cc0_scratch16) (Memref.isWhole_whole _) cc0_scratch17 cc0_scratch18 cc0_scratch19 (Memref.whole cc0_scratch20) (Memref.isWhole_whole _) (Memref.whole cc0_scratch21) (Memref.isWhole_whole _) cc0_scratch22 cc0_scratch23
    = prog F := by
  rfl

end Cert.KernelIdeal.Ring
-- ==== Proof.Vals.lean ====
/-
What each device holds as the kernel runs, as functions of the operands in memory at launch.
-/
module

public import proofs.«01_k».proof.Proof.Prog
public import proofs.«01_k».proof.Proof.Gen.KernelIdeal.Launch

@[expose] public section

noncomputable section

namespace Cert.KernelIdeal.Ring

open Idealize.ShloMosaic Idealize.ShloMosaic.TcCoe Idealize.SL.Sem Cert.KernelIdeal.Gen

variable {F : FTy → Type} [FloatOps F]

/-! ## The ring -/

theorem dst_src : ∀ (L : Lane) (c : Dev nD), dst L (src L c) = c := by decide
theorem src_dst : ∀ (L : Lane) (c : Dev nD), src L (dst L c) = c := by decide
theorem left_right : ∀ c : Dev nD, leftD (rightD c) = c := by decide
theorem right_left : ∀ c : Dev nD, rightD (leftD c) = c := by decide

/-- A lane's direction, as a permutation of the devices. -/
def dstE (L : Lane) : Dev nD ≃ Dev nD := ⟨dst L, src L, src_dst L, dst_src L⟩
def srcE (L : Lane) : Dev nD ≃ Dev nD := ⟨src L, dst L, dst_src L, src_dst L⟩
def rightE : Dev nD ≃ Dev nD := ⟨rightD, leftD, left_right, right_left⟩
def leftE : Dev nD ≃ Dev nD := ⟨leftD, rightD, right_left, left_right⟩

/-- The device b + 1 places to the left: the one whose value arrives in slot b. -/
def axSrc (b : Fin 7) (c : Dev nD) : Dev nD := Fin.ofNat 8 (c.val + 7 - b.val)

theorem axDst_axSrc : ∀ (b : Fin 7) (c : Dev nD), axDst b (axSrc b c) = c := by decide
theorem axSrc_axDst : ∀ (b : Fin 7) (c : Dev nD), axSrc b (axDst b c) = c := by decide

def axE (b : Fin 7) : Dev nD ≃ Dev nD := ⟨axDst b, axSrc b, axSrc_axDst b, axDst_axSrc b⟩

/-- The devices whose partial products a sum received by c at hop s of a pass contains. -/
def back (L : Lane) (c : Dev nD) : ℕ → Finset (Dev nD)
  | 0 => {src L c}
  | s + 1 => insert (src L c) (back L (src L c) s)

theorem back_all : ∀ (b : Fin 7) (c : Dev nD), axDst b c ∈ back 0 c 6 := by decide

/-! ## The numbers of hops -/

/-- The pass of a hop. -/
abbrev cpOf (t : ℕ) : Fin 2 := Fin.ofNat 2 (t / 7)

/-! ## The values -/

variable (m : (ℓ : Loc nD τ sig) → Buf (Elt F) ℓ)

/-- The staged operands. -/
def xstg (c : Dev nD) : (cc0_stg0_0 : Ref sig .tc).ty.Contents (Elt F) := (win0_0.blk (0 : Fin 1)).view.read (Elt F) (m ((c : Thread nD τ).loc main_arg0))
def wstg (c : Dev nD) : (cc0_stg1_0 : Ref sig .tc).ty.Contents (Elt F) := (win0_1.blk (0 : Fin 1)).view.read (Elt F) (m ((c : Thread nD τ).loc main_arg1))

/-- A device's own product at hop s of a pass of a lane. -/
def dotAt (L : Lane) (cp : Fin 2) (s : Fin 7) (c : Dev nD) : FVec F S512x1024 .f32 :=
  dotV (xM.view.readAt (Elt F) (xR L c s).toLoadRect (xstg m c)) (wM.view.readAt (Elt F) (cR L cp).toLoadRect (wstg m c))

/-- A device's own product of its own rows. -/
def ownAt (L : Lane) (cp : Fin 2) (c : Dev nD) : FVec F S512x1024 .f32 :=
  dotV (xM.view.readAt (Elt F) (xRown c).toLoadRect (xstg m c)) (wM.view.readAt (Elt F) (cR L cp).toLoadRect (wstg m c))

/-- A sum received as it was sent, added. -/
def addS (a : FVec F S512x1024 .f32) (r : FVec F S512x1024 .bf16) : FVec F S512x1024 .f32 := addf a (extf .f32 r bitsLt_bf16_f32)

/-- The partial sum a device sends at hop s of a pass. -/
def acc (L : Lane) (cp : Fin 2) : ℕ → Dev nD → FVec F S512x1024 .f32
  | 0 => fun c => dotAt m L cp 0 c
  | s + 1 => fun c => addS (dotAt m L cp (Fin.ofNat 7 (s + 1)) c) (packV (acc L cp s (src L c)))

/-- What a device sends at hop t. -/
def sent (L : Lane) (t : ℕ) (c : Dev nD) : FVec F S512x1024 .bf16 := packV (acc m L (cpOf t) (t % 7) c)

/-- A finished block. -/
def fin (L : Lane) (cp : Fin 2) (c : Dev nD) : FVec F S512x1024 .f32 :=
  maximumf (addS (shapeCast S512x1024 (ownAt m L cp c) shapeCasts_S512x1024_S512x1024) (packV (acc m L cp 6 (src L c))))
    (broadcast S512x1024 (Scalar.ofBits .f32 0x00000000#32))

/-- The largest value of a device's finished blocks. -/
def locV (c : Dev nD) : F .f32 :=
  localV (maxV (fin m 0 0 c)) (maxV (fin m 1 0 c)) (maxV (fin m 2 0 c)) (maxV (fin m 3 0 c))
    (maxV (fin m 0 1 c)) (maxV (fin m 1 1 c)) (maxV (fin m 2 1 c)) (maxV (fin m 3 1 c))

/-- The seven values a device receives, slot by slot. -/
def axV (c : Dev nD) : Vec F S7x1x128 .f32 := fun i => locV m (axSrc (i 0) c)

/-- The largest value over all devices, as device c computes it. -/
def gloV (c : Dev nD) : F .f32 := globalV (locV m c) (axV m c)

/-- A block of the result. -/
def outB (L : Lane) (cp : Fin 2) (c : Dev nD) : FVec F S512x1024 .f32 := quantV (gloV m c) (fin m L cp c)

end Cert.KernelIdeal.Ring
-- ==== Proof.Proto.lean ====
/-
The protocol of the ring: the semaphores with what each carries, the receive slots with their releases, and what each device owes.
-/
module

public import proofs.«01_k».proof.Proof.Vals
public import Idealize.ShloMosaic.Lib.Release
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok heard USlots)

variable {F : FTy → Type} [FloatOps F]

/-! ## The algebra -/

/-- The slots written from afar: two a lane, and seven for the largest values. -/
abbrev SK : Type := (Lane × Fin 2) ⊕ Fin 7
abbrev SKey : Type := Dev nD × SK

abbrev UX : Type := URounds (GSem nD τ sig) ℕ × USlots SKey
abbrev UU : Type := UR sig nD τ × UX

local notation "𝕄" => MT nD τ sig ℕ (Elt F) ℕ UU ℕ

abbrev EP : Emb (UR sig nD τ) (MT nD τ sig ℕ (Elt F) ℕ UU ℕ) := embL
def ER : Emb (URounds (GSem nD τ sig) ℕ) (MT nD τ sig ℕ (Elt F) ℕ UU ℕ) := (Emb.inl : Emb _ UX).trans embR
def ES : Emb (USlots SKey) (MT nD τ sig ℕ (Elt F) ℕ UU ℕ) := (Emb.inr : Emb _ UX).trans embR

instance ER_lands : (ER (F := F)).LandsIn (upEmb : UEmb _ (MT nD τ sig ℕ (Elt F) ℕ UU ℕ)) := by unfold ER; infer_instance
instance ES_lands : (ES (F := F)).LandsIn (upEmb : UEmb _ (MT nD τ sig ℕ (Elt F) ℕ UU ℕ)) := by unfold ES; infer_instance

/-! ## The semaphores -/

/-- The barrier semaphore. -/
abbrev barS : Sem sig := (SemArray.scalar (sig.barrier 0 rfl) : Sems sig S_).sem

/-- The kernel's own semaphores: a lane's send, its two receives, its credits, and the sends and receives of the largest values. -/
abbrev OCK : Type := Lane ⊕ (Lane × Fin 2) ⊕ Lane ⊕ Fin 7 ⊕ Fin 7
/-- Those and the barrier. -/
abbrev CK : Type := Unit ⊕ OCK

abbrev kBar : CK := .inl ()
abbrev kSend (L : Lane) : CK := .inr (.inl L)
abbrev kRecv (L : Lane) (b : Fin 2) : CK := .inr (.inr (.inl (L, b)))
abbrev kCred (L : Lane) : CK := .inr (.inr (.inr (.inl L)))
abbrev kAxs (b : Fin 7) : CK := .inr (.inr (.inr (.inr (.inl b))))
abbrev kAxr (b : Fin 7) : CK := .inr (.inr (.inr (.inr (.inr b))))

def osem : OCK → SemLoc sig
  | .inl L => .dma (sendS L).sem
  | .inr (.inl (L, b)) => .dma (slotS L b).sem
  | .inr (.inr (.inl L)) => .reg (creditS L).sem
  | .inr (.inr (.inr (.inl b))) => .dma (axSendS b).sem
  | .inr (.inr (.inr (.inr b))) => .dma (axRecvS b).sem

def csem : CK → SemLoc sig
  | .inl _ => .reg barS
  | .inr k => osem k

theorem ownSemFacts : Pipeline.OwnSemFacts cfg0.spec osem := by decide

theorem csem_inj : Function.Injective csem := by
  rintro (⟨⟩ | k) (⟨⟩ | k') h
  · rfl
  · exact absurd (show SemLoc.reg barS = osem k' from h) (by clear h; revert k'; decide)
  · exact absurd (show osem k = SemLoc.reg barS from h) (by clear h; revert k; decide)
  · exact congrArg _ (ownSemFacts.inj h)

/-- A device's cell. -/
abbrev cell (c : Dev nD) (k : CK) : GSem nD τ sig := ((c : Thread nD τ), csem k)

open Classical in
/-- Which of the kernel's semaphores a location is. -/
def kindOf (sm : SemLoc sig) : Option CK := if h : ∃ k, csem k = sm then some h.choose else none

theorem kindOf_csem (k : CK) : kindOf (csem k) = some k := by
  have h : ∃ k', csem k' = csem k := ⟨k, rfl⟩
  unfold kindOf
  rw [dif_pos h]
  exact congrArg some (csem_inj h.choose_spec)

theorem cell_inj : Function.Injective (fun ck : Dev nD × CK => cell ck.1 ck.2) := by
  rintro ⟨c, k⟩ ⟨c', k'⟩ h
  have h1 : c = c' := congrArg (fun g : GSem nD τ sig => g.1.1) h
  have h2 : k = k' := csem_inj (congrArg Prod.snd h)
  rw [h1, h2]

/-- What a copy between lanes' buffers is worth, and one of the largest values. -/
abbrev N : ℕ := (sendM 0).view.dmaCredit
abbrev Nax : ℕ := (axM : Memref sig .tc .vmem S1x128 .f32).view.dmaCredit

theorem N_pos : 0 < N := View.dmaCredit_pos _ (by decide)
theorem Nax_pos : 0 < Nax := View.dmaCredit_pos _ (by decide)
theorem send_credit (L : Lane) : (sendM L).view.dmaCredit = N := by fin_cases L <;> rfl
theorem slot_credit (L : Lane) (b : Fin 2) : (slotM L b).view.dmaCredit = N := by fin_cases L <;> rfl
theorem ax_credit (b : Fin 7) : (axSlot b).view.dmaCredit = Nax := rfl

/-! ## The slots -/

/-- The elements of a slot, at any contents. -/
def slotOf (k : SKey) : sProp 𝕄 :=
  match k.2 with
  | .inl (L, b) => iprop(∃ f, (slotM L b).view.loc (k.1 : Thread nD τ) ↦[(slotM L b).view.set]{fullShare} f)
  | .inr b => iprop(∃ f, (axSlot b).view.loc (k.1 : Thread nD τ) ↦[(axSlot b).view.set]{fullShare} f)

instance slotOf_storable (k : SKey) : Storable (upEmb : UEmb _ 𝕄) (slotOf (F := F) k) := by
  unfold slotOf; rcases k with ⟨c, ⟨L, b⟩ | b⟩ <;> dsimp only <;> infer_instance

/-- A device has handed over all its slots once. -/
def Φe (e : Dev nD) : sProp 𝕄 := bigSep Finset.univ fun k : SK => released ES (e, k) 1

instance Φe_persistent (e : Dev nD) : BI.Persistent (Φe (F := F) e) := by unfold Φe; infer_instance
instance Φe_storable (e : Dev nD) : Storable (upEmb : UEmb _ 𝕄) (Φe (F := F) e) := by unfold Φe; infer_instance

/-! ## The schedule -/

variable (m : (ℓ : Loc nD τ sig) → Buf (Elt F) ℓ)

/-- A lane's send buffer, at any contents. -/
def sendSlot (c : Dev nD) (L : Lane) : sProp 𝕄 := iprop(∃ f, (sendM L).view.loc (c : Thread nD τ) ↦[(sendM L).view.set]{fullShare} f)

/-- A receive slot holding what hop t brought. -/
def recvPay (c : Dev nD) (L : Lane) (b : Fin 2) (t : ℕ) : sProp 𝕄 :=
  iprop((∃ f, ((slotM L b).view.loc (c : Thread nD τ) ↦[(slotM L b).view.set]{fullShare} f) ∗ ⌜(slotM L b).view.read (Elt F) f = sent m L t (src L c)⌝)
    ∗ heard Φe (back L c (t % 7)))

/-- What device e says with its credit number n: how often it has released each of its slots, and how far it has come in receiving. -/
def credPay (e : Dev nD) (L : Lane) (n : ℕ) : sProp 𝕄 :=
  bigSep Finset.univ fun b : Fin 2 => iprop(released ES (e, (.inl (L, b) : SK)) ((n + 2 - b.val) / 2 + 1) ∗ reached ER (cell e (kRecv L b)) ((n + 2 - b.val) / 2))

/-- A share of the buffer of a device's largest value. -/
def axsPay (c : Dev nD) (b : Fin 7) : sProp 𝕄 :=
  (axM : Memref sig .tc .vmem S1x128 .f32).view.loc (c : Thread nD τ) ↦[(axM : Memref sig .tc .vmem S1x128 .f32).view.set]{Transfers.shareTok fullShare 7 b} spreadV (locV m c)

/-- A slot holding another device's largest value. -/
def axrPay (c : Dev nD) (b : Fin 7) : sProp 𝕄 :=
  iprop(∃ f, ((axSlot b).view.loc (c : Thread nD τ) ↦[(axSlot b).view.set]{fullShare} f) ∗ ⌜(axSlot b).view.read (Elt F) f = spreadV (locV m (axSrc b c))⌝)

instance (c : Dev nD) (L : Lane) : Storable (upEmb : UEmb _ 𝕄) (sendSlot (F := F) c L) := by unfold sendSlot; infer_instance
instance (c : Dev nD) (L : Lane) (b : Fin 2) (t : ℕ) : Storable (upEmb : UEmb _ 𝕄) (recvPay m c L b t) := by unfold recvPay; infer_instance
instance (e : Dev nD) (L : Lane) (n : ℕ) : Storable (upEmb : UEmb _ 𝕄) (credPay (F := F) e L n) := by unfold credPay; infer_instance
instance (e : Dev nD) (L : Lane) (n : ℕ) : BI.Persistent (credPay (F := F) e L n) := by unfold credPay; infer_instance
instance (c : Dev nD) (b : Fin 7) : Storable (upEmb : UEmb _ 𝕄) (axsPay m c b) := by unfold axsPay; infer_instance
instance (c : Dev nD) (b : Fin 7) : Storable (upEmb : UEmb _ 𝕄) (axrPay m c b) := by unfold axrPay; infer_instance

def dutiesK (k : CK) (r : ℕ) : Finset ℕ :=
  match k with
  | .inl _ => if r = 0 then {0, 1} else ∅
  | .inr (.inl _) => if r < 14 then {0} else ∅
  | .inr (.inr (.inl _)) => if r < 7 then {0} else ∅
  | .inr (.inr (.inr (.inl _))) => if r = 0 then Finset.range 12 else ∅
  | .inr (.inr (.inr (.inr (.inl _)))) => if r = 0 then {0} else ∅
  | .inr (.inr (.inr (.inr (.inr _)))) => if r = 0 then {0} else ∅

def amountK (k : CK) : ℕ :=
  match k with
  | .inl _ => 1
  | .inr (.inl _) => N
  | .inr (.inr (.inl _)) => N
  | .inr (.inr (.inr (.inl _))) => 1
  | .inr (.inr (.inr (.inr (.inl _)))) => Nax
  | .inr (.inr (.inr (.inr (.inr _)))) => Nax

def payK (c : Dev nD) (k : CK) (r d : ℕ) : sProp 𝕄 :=
  match k with
  | .inl _ => if d = 0 then Φe (leftD c) else Φe (rightD c)
  | .inr (.inl L) => sendSlot c L
  | .inr (.inr (.inl (L, b))) => recvPay m c L b (2 * r + b.val)
  | .inr (.inr (.inr (.inl L))) => credPay (dst L c) L d
  | .inr (.inr (.inr (.inr (.inl b)))) => axsPay m c b
  | .inr (.inr (.inr (.inr (.inr b)))) => axrPay m c b

instance payK_storable (c : Dev nD) (k : CK) (r d : ℕ) : Storable (upEmb : UEmb _ 𝕄) (payK m c k r d) := by
  unfold payK
  rcases k with _ | _ | ⟨_, _⟩ | _ | _ | _ <;> dsimp only <;> (try split) <;> infer_instance

theorem amountK_pos (k : CK) : 0 < amountK k := by
  rcases k with _ | _ | ⟨_, _⟩ | _ | _ | _
  exacts [Nat.one_pos, N_pos, N_pos, Nat.one_pos, Nax_pos, Nax_pos]

def ringRd : Rounds.Schedule (GSem nD τ sig) ℕ 𝕄 where
  duties g r := if g.1.2 = .tc then (kindOf g.2).elim ∅ (dutiesK · r) else ∅
  unitless _ := False
  amount g _ _ := (kindOf g.2).elim 1 amountK
  payload g r d := (kindOf g.2).elim iprop(emp) fun k => payK m g.1.1 k r d
  amount_pos g _ _ _ := by
    rcases h : kindOf g.2 with _ | k
    · exact Nat.one_pos
    · exact amountK_pos k

instance ringRd_storable (g : GSem nD τ sig) (r d : ℕ) : Storable (upEmb : UEmb _ 𝕄) ((ringRd m).payload g r d) := by
  show Storable upEmb ((kindOf g.2).elim iprop(emp) fun k => payK m g.1.1 k r d)
  rcases kindOf g.2 with _ | k
  · show Storable upEmb iprop(emp); infer_instance
  · show Storable upEmb (payK m g.1.1 k r d); infer_instance

theorem duties_cell (c : Dev nD) (k : CK) (r : ℕ) : (ringRd m).duties (cell c k) r = dutiesK k r := by
  show (if (cell c k).1.2 = .tc then (kindOf (csem k)).elim ∅ (dutiesK · r) else ∅) = _
  rw [if_pos rfl, kindOf_csem]; rfl
theorem amount_cell (c : Dev nD) (k : CK) (r d : ℕ) : (ringRd m).amount (cell c k) r d = amountK k := by
  show (kindOf (csem k)).elim _ _ = _
  rw [kindOf_csem]; rfl
theorem payload_cell (c : Dev nD) (k : CK) (r d : ℕ) : (ringRd m).payload (cell c k) r d = payK m c k r d := by
  show (kindOf (csem k)).elim _ _ = _
  rw [kindOf_csem]; rfl
theorem expect_cell (c : Dev nD) (k : CK) (r : ℕ) : (ringRd m).expect (cell c k) r = (dutiesK k r).card * amountK k := by
  unfold Schedule.expect Schedule.amountOf
  rw [duties_cell, Finset.sum_congr rfl fun d _ => amount_cell m c k r d, Finset.sum_const, smul_eq_mul]

/-- The round after a cell's last. -/
def lastK' (k : CK) : ℕ :=
  match k with
  | .inl _ => 1
  | .inr (.inl _) => 14
  | .inr (.inr (.inl _)) => 7
  | .inr (.inr (.inr _)) => 1

theorem duties_after (k : CK) (r : ℕ) (h : lastK' k ≤ r) : dutiesK k r = ∅ := by
  rcases k with _ | _ | ⟨_, _⟩ | _ | _ | _ <;> simp only [lastK'] at h <;> simp only [dutiesK] <;> exact if_neg (by omega)

/-! ## Levels and dues -/

/-- Every unit owed is indexed by its level. -/
def Lv (g : GSem nD τ sig) : Finset ℕ := if g.1.2 = .tc then Finset.range 64 else ∅
def lv (_ : GSem nD τ sig) (i : ℕ) : ℕ := i

/-- Everything owed is owed at level n or later. -/
def Ge (n : ℕ) (O : CellTallies nD τ sig ℕ) : Prop := ∀ g i, 0 < O g i → g.1.2 = .tc ∧ n ≤ i ∧ i < 64

theorem Ge.mono {n n' : ℕ} {O : CellTallies nD τ sig ℕ} (h : Ge n O) (hn : n' ≤ n) : Ge n' O :=
  fun g i hg => ⟨(h g i hg).1, hn.trans (h g i hg).2.1, (h g i hg).2.2⟩
theorem Ge.add {n : ℕ} {O O' : CellTallies nD τ sig ℕ} (h : Ge n O) (h' : Ge n O') : Ge n (O + O') :=
  fun g i hg => (Pipeline.add_pos_cases hg).elim (h g i) (h' g i)
theorem Ge.zero (n : ℕ) : Ge n 0 := fun g i hg => absurd hg (by simp)
theorem Ge.at (c : Dev nD) (k : CK) {n i j : ℕ} (hn : n ≤ i) (h : i < 64) : Ge n (tallyAt (cell c k) i j) :=
  fun g i' hg => by obtain ⟨rfl, rfl⟩ := Pipeline.tallyAt_pos hg; exact ⟨rfl, hn, h⟩
theorem Ge.sum {α : Type} (s : Finset α) {n : ℕ} (f : α → CellTallies nD τ sig ℕ) (h : ∀ a ∈ s, Ge n (f a)) : Ge n (∑ a ∈ s, f a) := by
  classical
  induction s using Finset.induction_on with
  | empty => rw [Finset.sum_empty]; exact Ge.zero n
  | insert a s ha ih =>
    rw [Finset.sum_insert ha]
    exact (h a (Finset.mem_insert_self _ _)).add (ih fun b hb => h b (Finset.mem_insert_of_mem hb))

theorem mayWait (c : Dev nD) (sm : SemLoc sig) (i : ℕ) (hi : i < 64) {O : CellTallies nD τ sig ℕ} (hO : Ge (i + 1) O) :
    (levAts Lv lv : sProp 𝕄) ⊢ MayWait (c : Thread nD τ) sm i O :=
  MayOwe.of_cut (L := Lv) (lev := lv) i
    (fun p hp => by rw [Finset.mem_singleton.mp hp]; show i ∈ Lv _; unfold Lv; rw [if_pos rfl]; exact Finset.mem_range.mpr hi)
    (fun g j hg => by unfold Lv; rw [if_pos (hO g j hg).1]; exact Finset.mem_range.mpr (hO g j hg).2.2)
    (fun p hp => by rw [Finset.mem_singleton.mp hp]; exact le_refl i)
    (fun g j hg => (hO g j hg).2.1)

/-- The level of hop t's copy, and of the credit for it. -/
def sl (t : ℕ) : ℕ := 2 + 8 * (t / 7) + t % 7
def cl (t : ℕ) : ℕ := sl t + 1

theorem sl_lt {t : ℕ} : sl t < sl (t + 1) := by unfold sl; omega
theorem sl_mono {a b : ℕ} (h : a ≤ b) : sl a ≤ sl b := by unfold sl; omega
theorem sl_small {t : ℕ} (h : t < 14) : sl t < 17 := by unfold sl; omega

/-- What sending hop t owes, and receiving it. -/
def sendO (c : Dev nD) (L : Lane) (t : ℕ) : CellTallies nD τ sig ℕ := tallyAt (cell (dst L c) (kRecv L (par t))) (sl t) N
def credO (c : Dev nD) (L : Lane) (t : ℕ) : CellTallies nD τ sig ℕ := tallyAt (cell (src L c) (kCred L)) (cl t) 1

/-- What a lane owes having sent a hops and received b. -/
def laneO (c : Dev nD) (L : Lane) (a b : ℕ) : CellTallies nD τ sig ℕ := (∑ t ∈ Finset.Ico a 14, sendO c L t) + ∑ t ∈ Finset.Ico b 12, credO c L t

theorem sum_first {M : Type} [AddCommMonoid M] {a b : ℕ} (h : a < b) (f : ℕ → M) : ∑ t ∈ Finset.Ico a b, f t = (∑ t ∈ Finset.Ico (a + 1) b, f t) + f a := by
  rw [show Finset.Ico a b = insert a (Finset.Ico (a + 1) b) by ext x; simp only [Finset.mem_Ico, Finset.mem_insert]; omega,
    Finset.sum_insert (by rw [Finset.mem_Ico]; omega), add_comm]
theorem sum_none {M : Type} [AddCommMonoid M] {a b : ℕ} (h : b ≤ a) (f : ℕ → M) : ∑ t ∈ Finset.Ico a b, f t = 0 := by
  rw [Finset.Ico_eq_empty (by omega), Finset.sum_empty]

theorem laneO_send (c : Dev nD) (L : Lane) {a : ℕ} (h : a < 14) (b : ℕ) : laneO c L a b = laneO c L (a + 1) b + sendO c L a := by
  unfold laneO; rw [sum_first h, add_right_comm]
theorem laneO_cred (c : Dev nD) (L : Lane) (a : ℕ) {b : ℕ} (h : b < 12) : laneO c L a b = laneO c L a (b + 1) + credO c L b := by
  unfold laneO; rw [sum_first h (fun t => credO c L t), add_assoc]
theorem laneO_nocred (c : Dev nD) (L : Lane) (a : ℕ) {b : ℕ} (h : 12 ≤ b) : laneO c L a b = laneO c L a (b + 1) := by
  unfold laneO; rw [sum_none h, sum_none (by omega : 12 ≤ b + 1)]
theorem laneO_end (c : Dev nD) (L : Lane) : laneO c L 14 14 = 0 := by
  unfold laneO; rw [sum_none (by omega), sum_none (by omega), add_zero]

theorem laneO_ge (c : Dev nD) (L : Lane) {a b n : ℕ} (ha : n ≤ sl a) (hb : n ≤ cl b) : Ge n (laneO c L a b) := by
  unfold laneO
  refine (Ge.sum _ _ fun t ht => ?_).add (Ge.sum _ _ fun t ht => ?_)
  · rw [Finset.mem_Ico] at ht
    exact Ge.at _ _ (ha.trans (sl_mono ht.1)) (lt_trans (sl_small ht.2) (by decide))
  · rw [Finset.mem_Ico] at ht
    exact Ge.at _ _ (hb.trans (Nat.succ_le_succ (sl_mono ht.1))) (lt_of_le_of_lt (Nat.succ_le_of_lt (sl_small (by omega))) (by decide))

/-- What the copies of a device's largest value owe from the b-th on, and all of a device's dues but the barrier's. -/
def axO (c : Dev nD) (b : ℕ) : CellTallies nD τ sig ℕ := ∑ b ∈ Finset.univ.filter (fun b' : Fin 7 => b ≤ b'.val), tallyAt (cell (axDst b c) (kAxr b)) 30 Nax

def lanesO (c : Dev nD) (a b : ℕ) : CellTallies nD τ sig ℕ := axO c 0 + laneO c 3 a b + laneO c 2 a b + laneO c 1 a b + laneO c 0 a b

/-- All of a device's dues: to its right neighbour's barrier, to its left's, and the rest. -/
def O₀ (c : Dev nD) : CellTallies nD τ sig ℕ := lanesO c 0 0 + tallyAt (cell (rightD c) kBar) 1 1 + tallyAt (cell (leftD c) kBar) 1 1

theorem axO_ge (c : Dev nD) (b : ℕ) : Ge 30 (axO c b) := Ge.sum _ _ fun b _ => Ge.at _ _ le_rfl (by decide)

theorem lanesO_ge (c : Dev nD) {a b n : ℕ} (ha : n ≤ sl a) (hb : n ≤ cl b) (hn : n ≤ 30) : Ge n (lanesO c a b) :=
  (((((axO_ge c 0).mono hn).add (laneO_ge c 3 ha hb)).add (laneO_ge c 2 ha hb)).add (laneO_ge c 1 ha hb)).add (laneO_ge c 0 ha hb)

/-! ## What every device knows -/

variable (K : Dev nD × CK → ℕ) (KS : SKey → ℕ)

/-- The invariants of all cells and slots, that every cell has reached its first round, and the levels. -/
def ctx : sProp 𝕄 :=
  iprop((bigSep Finset.univ fun ck : Dev nD × CK => cellInv ER (ringRd m) (K ck) (cell ck.1 ck.2))
    ∗ (bigSep Finset.univ fun ck : Dev nD × CK => reached ER (cell ck.1 ck.2) 0)
    ∗ (bigSep Finset.univ fun k : SKey => slotInv ES (KS k) k (slotOf k)) ∗ levAts Lv lv)

instance ctx_persistent : BI.Persistent (ctx m K KS) := by unfold ctx; infer_instance

theorem bigSep_at {I : Type} [Fintype I] (Φ : I → sProp 𝕄) (i : I) : bigSep Finset.univ Φ ⊢ Φ i := by
  classical exact bigSep_elim (Finset.mem_univ i)

theorem ctx_inv (c : Dev nD) (k : CK) : ctx m K KS ⊢ cellInv ER (ringRd m) (K (c, k)) (cell c k) := by
  unfold ctx; iintro ⟨H, -, -, -⟩
  iapply (bigSep_at (fun ck : Dev nD × CK => (cellInv ER (ringRd m) (K ck) (cell ck.1 ck.2) : sProp 𝕄)) (c, k)); iexact H
theorem ctx_reached (c : Dev nD) (k : CK) : ctx m K KS ⊢ reached ER (cell c k) 0 := by
  unfold ctx; iintro ⟨-, H, -, -⟩
  iapply (bigSep_at (fun ck : Dev nD × CK => (reached ER (cell ck.1 ck.2) 0 : sProp 𝕄)) (c, k)); iexact H
theorem ctx_slot (k : SKey) : ctx m K KS ⊢ slotInv ES (KS k) k (slotOf k) := by
  unfold ctx; iintro ⟨-, -, H, -⟩
  iapply (bigSep_at (fun k : SKey => (slotInv ES (KS k) k (slotOf k) : sProp 𝕄)) k); iexact H
theorem ctx_lev : ctx m K KS ⊢ levAts Lv lv := by
  unfold ctx; iintro ⟨-, -, -, H⟩; iexact H

end Cert.KernelIdeal.Ring
-- ==== Proof.Recv.lean ====
/-
Receiving a hop on a lane: the wait, the read, and the credit for the slot.
-/
module

public import proofs.«01_k».proof.Proof.Proto
public import Idealize.SL.BI.BigOpNat

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok heard USlots)

variable {F : FTy → Type} [FloatOps F]

local notation "𝕄" => MT nD τ sig ℕ (Elt F) ℕ UU ℕ

abbrev 𝒱₀ : Variants := Variants.none

/-- Running a program on device c. -/
abbrev run (c : Dev nD) (p : P F) (Q : PUnit → sProp 𝕄) : sProp 𝕄 := wp frame (wpE (defs₀ (F := F)) 𝒱₀ (c : Thread nD τ) none) Set.univ p Q

variable (m : (ℓ : Loc nD τ sig) → Buf (Elt F) ℓ) (K : Dev nD × CK → ℕ) (KS : SKey → ℕ)

/-- What a device owes, whatever it has waited for. -/
abbrev owesE (c : Dev nD) (O : CellTallies nD τ sig ℕ) : sProp 𝕄 := iprop(∃ W, owes (c : Thread nD τ) O W)

/-- The wait for the one duty of a round of one of a device's own cells. -/
theorem wp_wait1 (c : Dev nD) (k : CK) (r i : ℕ) {n : ℕ} {w : TpuEff nD τ sig (Elt F) Λ₀ .tc PUnit}
    (hw : ∀ X : PUnit → sProp 𝕄, wpE (defs₀ (F := F)) 𝒱₀ (c : Thread nD τ) none Set.univ w X = waitSpec (c : Thread nD τ) Set.univ (csem k) n X)
    (hn : n = amountK k) (hd : dutiesK k r = {0}) (hi : i < 64) {O : CellTallies nD τ sig ℕ} (hO : Ge (i + 1) O)
    {p : PUnit → P F} {Q : PUnit → sProp 𝕄} :
    iprop(ctx m K KS ∗ cred (tallyAt (cell c k) i (amountK k)) ∗ owesE c O ∗ atPos ER (cell c k) r ∅ 0)
      ⊢ iprop((owesE c O ∗ atPos ER (cell c k) (r + 1) ∅ 0 ∗ reached ER (cell c k) (r + 1) ∗ payK m c k r 0 -∗ run c (p ⟨⟩) Q)
        -∗ run c (.op w p) Q) := by
  subst hn
  iintro ⟨#H, Hc, ⟨%W, Ho⟩, Hat⟩ Hk
  iapply (Rounds.wp_wait_rest_token 𝒱₀ ER (ringRd m) (c : Thread nD τ) none (κ := K (c, k)) hw (Set.mem_univ _) i (O := O) (W := W) (R := r) (m := 0) (T := ∅)
      (by rw [expect_cell, hd, Finset.card_singleton, Nat.one_mul, Nat.zero_add])) $$ [Hc Ho Hat]
  · isplitr; · iapply (ctx_inv m K KS c k); iexact H
    isplitl [Hc]; · iexact Hc
    isplitl [Ho]; · iexact Ho
    isplitr
    · iapply (mayWait c (csem k) i hi hO); iapply (ctx_lev m K KS); iexact H
    iexact Hat
  iintro ⟨Ho, Hat, Hr, Hpay⟩
  ihave Hpay := (Entails.of_eq (show bigSep ((ringRd m).duties (cell c k) r \ ∅) (fun d => (ringRd m).payload (cell c k) r d) = payK m c k r 0 by
    rw [Finset.sdiff_empty, duties_cell, hd, bigSep_singleton, payload_cell])) $$ Hpay
  iapply Hk
  isplitl [Ho]; · iexists _; iexact Ho
  isplitl [Hat]; · iexact Hat
  isplitl [Hr]; · iexact Hr
  iexact Hpay

/-! ## Counting hops slot by slot -/

/-- How many of the first n hops use slot b. -/
abbrev cnt (n : ℕ) (b : Fin 2) : ℕ := (n + 1 - b.val) / 2

theorem cnt_par (n : ℕ) : cnt n (par n) = n / 2 := by
  show (n + 1 - n % 2) / 2 = n / 2; omega
theorem cnt_succ_par (n : ℕ) : cnt (n + 1) (par n) = n / 2 + 1 := by
  show (n + 1 + 1 - n % 2) / 2 = n / 2 + 1; omega
theorem cnt_succ_ne (n : ℕ) (b : Fin 2) (h : b ≠ par n) : cnt (n + 1) b = cnt n b := by
  have h' : b.val ≠ n % 2 := fun e => h (Fin.ext e)
  have := b.isLt
  show (n + 1 + 1 - b.val) / 2 = (n + 1 - b.val) / 2; omega

/-- One more hop: its slot's count goes up by one and the other's stays. -/
theorem cnt_step (Ψ : Fin 2 → ℕ → sProp 𝕄) (n : ℕ) :
    bigSep Finset.univ (fun b => Ψ b (cnt n b)) ⊢ iprop(Ψ (par n) (n / 2) ∗ (Ψ (par n) (n / 2 + 1) -∗ bigSep Finset.univ fun b => Ψ b (cnt (n + 1) b))) := by
  have h : bigSep (Finset.univ.erase (par n)) (fun b => Ψ b (cnt (n + 1) b)) = bigSep (Finset.univ.erase (par n)) (fun b => Ψ b (cnt n b)) :=
    bigSep_congr fun b hb => by rw [cnt_succ_ne n b (Finset.ne_of_mem_erase hb)]
  rw [bigSep_univ_at (fun b => Ψ b (cnt n b)) (par n), bigSep_univ_at (fun b => Ψ b (cnt (n + 1) b)) (par n), cnt_par, cnt_succ_par, h]
  iintro ⟨H, H'⟩
  isplitl [H]; · iexact H
  iintro H
  isplitl [H]; · iexact H
  iexact H'

/-! ## The receiving half of a lane -/

/-- What the device knows of its own two slots after receiving n hops. -/
def slotFacts (c : Dev nD) (L : Lane) (n : ℕ) : sProp 𝕄 :=
  bigSep Finset.univ fun b : Fin 2 => iprop(released ES (c, (.inl (L, b) : SK)) (cnt n b + 1) ∗ reached ER (cell c (kRecv L b)) (cnt n b))

instance (c : Dev nD) (L : Lane) (n : ℕ) : BI.Persistent (slotFacts (F := F) c L n) := by unfold slotFacts; infer_instance

theorem credPay_eq (c : Dev nD) (L : Lane) (n : ℕ) : credPay (F := F) c L n = slotFacts c L (n + 1) := rfl

/-- The tokens of receiving hop t. -/
def recvTok (c : Dev nD) (L : Lane) (t : ℕ) : sProp 𝕄 :=
  iprop(cred (tallyAt (cell c (kRecv L (par t))) (sl t) N) ∗ (if t < 12 then dutyTok ER (cell (src L c) (kCred L)) 0 t else emp))

/-- A lane having received n hops. -/
def recvI (c : Dev nD) (L : Lane) (n : ℕ) : sProp 𝕄 :=
  iprop((bigSep Finset.univ fun b : Fin 2 => atPos ER (cell c (kRecv L b)) (cnt n b) ∅ 0)
    ∗ (if n < 13 then bigSep Finset.univ fun b : Fin 2 => readerAt ES (c, (.inl (L, b) : SK)) (cnt n b + 1) else emp)
    ∗ (if n < 13 then slotFacts c L n else emp)
    ∗ (bigSep (Finset.Ico 12 n) fun t => slotOf (c, .inl (L, par t)))
    ∗ bigSep (Finset.Ico n 14) (recvTok c L))

/-- A loaded slot, in the shape it was sent in. -/
theorem slot_read (L : Lane) (b : Fin 2) (f : (slotM L b).view.ty.Contents (Elt F)) :
    shapeCast S512x1024 ((recvM L).view.readAt (Elt F) (slotR b).toLoadRect f) shapeCasts_S1x512x1024_S512x1024 = (slotM L b).view.read (Elt F) f := rfl

theorem slot_nonempty (L : Lane) (b : Fin 2) : (slotM L b).view.set.Nonempty :=
  ⟨(slotM L b).view.emb (fun a => ⟨0, by revert a; decide⟩), Finset.mem_map_of_mem _ (Finset.mem_univ _)⟩

theorem slotOf_false (c : Dev nD) (L : Lane) (b : Fin 2) : iprop(slotOf (F := F) (c, .inl (L, b)) ∗ slotOf (c, .inl (L, b))) ⊢ (False : sProp 𝕄) :=
  Release.slot_slot_false (slot_nonempty L b)

theorem slot_set (L : Lane) (b : Fin 2) : (slotM L b).view.set = (recvM L).view.setOn (slotR b).set :=
  (View.set_reshape _ _).trans (View.set_slice _ _)

theorem slot_subset (L : Lane) (b : Fin 2) : (recvM L).view.setOn (slotR b).toLoadRect.set ⊆ (slotM L b).view.set := by
  intro i hi
  exact (slot_set L b).symm ▸ hi

theorem wp_load_slot (c : Dev nD) (L : Lane) (b : Fin 2) {f : (slotM L b).view.ty.Contents (Elt F)} {k : Vec F S1x512x1024 .bf16 → P F} {Q : PUnit → sProp 𝕄} :
    ((slotM L b).view.loc (c : Thread nD τ) ↦[(slotM L b).view.set]{fullShare} f)
      ⊢ iprop((((slotM L b).view.loc (c : Thread nD τ) ↦[(slotM L b).view.set]{fullShare} f) -∗ run c (k ((recvM L).view.readAt (Elt F) (slotR b).toLoadRect f)) Q)
        -∗ run c (loadRecvK L b k) Q) :=
  wp_load 𝒱₀ (c : Thread nD τ) none Set.univ (m := recvM L) (slot_subset L b)

/-- The wait for hop t and the read of its slot. -/
theorem wp_take (c : Dev nD) (L : Lane) (t : ℕ) (ht : t < 14) {O : CellTallies nD τ sig ℕ} (hO : Ge (sl t + 1) O)
    {k : Vec F S1x512x1024 .bf16 → P F} {Q : PUnit → sProp 𝕄} :
    iprop(ctx m K KS ∗ (bigSep Finset.univ fun b : Fin 2 => atPos ER (cell c (kRecv L b)) (cnt t b) ∅ 0)
        ∗ cred (tallyAt (cell c (kRecv L (par t))) (sl t) N) ∗ owesE c O)
      ⊢ iprop((∀ r, ⌜shapeCast S512x1024 r shapeCasts_S1x512x1024_S512x1024 = sent m L t (src L c)⌝
            ∗ (bigSep Finset.univ fun b : Fin 2 => atPos ER (cell c (kRecv L b)) (cnt (t + 1) b) ∅ 0)
            ∗ reached ER (cell c (kRecv L (par t))) (t / 2 + 1) ∗ slotOf (c, .inl (L, par t)) ∗ heard Φe (back L c (t % 7)) ∗ owesE c O -∗ run c (k r) Q)
        -∗ run c (waitRecvK L (par t) (loadRecvK L (par t) k)) Q) := by
  have hpar : 2 * (t / 2) + (par t).val = t := by show 2 * (t / 2) + t % 2 = t; omega
  have hpay : payK m c (kRecv L (par t)) (t / 2) 0 = recvPay m c L (par t) t := by
    show recvPay m c L (par t) (2 * (t / 2) + (par t).val) = _
    rw [hpar]
  unfold waitRecvK
  iintro ⟨#H, Hat, Hc, Ho⟩ Hk
  ihave Hat := (cnt_step (fun b n => (atPos ER (cell c (kRecv L b)) n ∅ 0 : sProp 𝕄)) t) $$ Hat
  icases Hat with ⟨Hat, Hat'⟩
  iapply (wp_wait1 m K KS c (kRecv L (par t)) (t / 2) (sl t)
    (w := .waitDma2 (slotS L (par t)).sem (sendM L) (slotM L (par t)) (sendM_whole L).wordExact ((slot_words L (par t)).reshape _ _)) (wpE_waitDma2_eq 𝒱₀ (c : Thread nD τ) none Set.univ) (slot_credit L (par t))
    (by show (if t / 2 < 7 then _ else _) = _; exact if_pos (by omega)) (lt_trans (sl_small ht) (by decide)) hO) $$ [Hc Ho Hat]
  · isplitr; · iexact H
    isplitl [Hc]; · iexact Hc
    isplitl [Ho]; · iexact Ho
    iexact Hat
  iintro ⟨Ho, Hat, Hreach, Hpay⟩
  ihave Hat := Hat' $$ Hat
  ihave Hpay := (Entails.of_eq hpay) $$ Hpay
  unfold recvPay
  icases Hpay with ⟨⟨%f, Hslot, %hf⟩, Hheard⟩
  iapply (wp_load_slot c L (par t)) $$ Hslot
  iintro Hslot
  iapply Hk
  isplitr; · ipureintro; exact (slot_read L (par t) f).trans hf
  isplitl [Hat]; · iexact Hat
  isplitl [Hreach]; · iexact Hreach
  isplitl [Hslot]; · unfold slotOf; iexists f; iexact Hslot
  isplitl [Hheard]; · iexact Hheard
  iexact Ho

/-- The slot of hop t released and its credit signalled. -/
theorem wp_credit (c : Dev nD) (L : Lane) (t a : ℕ) (h12 : t < 12) {O : CellTallies nD τ sig ℕ} {k : P F} {Q : PUnit → sProp 𝕄} :
    iprop(ctx m K KS ∗ (bigSep Finset.univ fun b : Fin 2 => readerAt ES (c, (.inl (L, b) : SK)) (cnt t b + 1)) ∗ slotFacts c L t
        ∗ slotOf (c, .inl (L, par t)) ∗ reached ER (cell c (kRecv L (par t))) (t / 2 + 1) ∗ dutyTok ER (cell (src L c) (kCred L)) 0 t ∗ owesE c (O + laneO c L a t))
      ⊢ iprop(((bigSep Finset.univ fun b : Fin 2 => readerAt ES (c, (.inl (L, b) : SK)) (cnt (t + 1) b + 1)) ∗ slotFacts c L (t + 1)
            ∗ owesE c (O + laneO c L a (t + 1)) -∗ run c k Q)
        -∗ run c (creditK c L k) Q) := by
  rw [laneO_cred c L a h12, ← add_assoc]
  iintro ⟨#H, Hrd, Hf, Hslot, #Hreach, Hd, ⟨%W, Ho⟩⟩ Hk
  ihave Hrd := (cnt_step (fun b n => (readerAt ES (c, (.inl (L, b) : SK)) (n + 1) : sProp 𝕄)) t) $$ Hrd
  icases Hrd with ⟨Hrd, Hrd'⟩
  imod (Release.slot_release ES (ι := KS (c, .inl (L, par t))) (k := (c, .inl (L, par t))) (S := slotOf (c, .inl (L, par t))) (Set.mem_univ _) (slotOf_false c L (par t)) (t / 2 + 1)) $$ [Hrd Hslot] with ⟨Hrd, #Hrel⟩
  · isplitr; · iapply (ctx_slot m K KS (c, .inl (L, par t))); iexact H
    isplitl [Hrd]; · iexact Hrd
    iexact Hslot
  ihave Hrd := Hrd' $$ Hrd
  unfold slotFacts
  ihave Hf := (cnt_step (fun b n => (iprop(released ES (c, (.inl (L, b) : SK)) (n + 1) ∗ reached ER (cell c (kRecv L b)) n) : sProp 𝕄)) t) $$ Hf
  icases Hf with ⟨-, Hf⟩
  ihave #Hf := Hf $$ []
  · isplitr; · iexact Hrel
    iexact Hreach
  unfold creditK
  iapply (Rounds.wp_signal 𝒱₀ ER (ringRd m) (c : Thread nD τ) none (dst := (src L c : Thread nD τ)) (κ := K (src L c, kCred L)) (sem := (creditS L).sem) (r := 0)
      (d := t) (by rw [show ((src L c : Thread nD τ), SemLoc.reg (creditS L).sem) = cell (src L c) (kCred L) from rfl, duties_cell]; exact Finset.mem_range.mpr h12)
      (amount_cell m (src L c) (kCred L) 0 t) (cl t) (O + laneO c L a (t + 1)) rfl) $$ [Ho Hd]
  · isplitr; · iapply (ctx_inv m K KS (src L c) (kCred L)); iexact H
    isplitl [Ho]; · iexact Ho
    isplitl [Hd]; · iexact Hd
    isplitr
    · iapply (Entails.of_eq (show slotFacts c L (t + 1) = (ringRd m).payload ((src L c : Thread nD τ), SemLoc.reg (creditS L).sem) 0 t by
        rw [show ((src L c : Thread nD τ), SemLoc.reg (creditS L).sem) = cell (src L c) (kCred L) from rfl, payload_cell]; show _ = credPay (dst L (src L c)) L t; rw [dst_src, credPay_eq]))
      unfold slotFacts; iexact Hf
    iapply (ctx_reached m K KS (src L c) (kCred L)); iexact H
  iintro Ho
  iapply Hk
  isplitl [Hrd]; · iexact Hrd
  isplitr; · iexact Hf
  iexists W; iexact Ho

theorem wp_recv (c : Dev nD) (L : Lane) (t a : ℕ) (ht : t < 14) (ha : t + 1 ≤ a) {O : CellTallies nD τ sig ℕ} (hO : Ge (sl t + 1) O)
    {k : Vec F S1x512x1024 .bf16 → P F} {Q : PUnit → sProp 𝕄} :
    iprop(ctx m K KS ∗ recvI c L t ∗ owesE c (O + laneO c L a t))
      ⊢ iprop((∀ r, ⌜shapeCast S512x1024 r shapeCasts_S1x512x1024_S512x1024 = sent m L t (src L c)⌝ ∗ recvI c L (t + 1) ∗ heard Φe (back L c (t % 7))
            ∗ owesE c (O + laneO c L a (t + 1)) -∗ run c (k r) Q)
        -∗ run c (waitRecvK L (par t) (loadRecvK L (par t) fun r => if t ≤ 11 then creditK c L (k r) else k r)) Q) := by
  have hO' : Ge (sl t + 1) (O + laneO c L a t) := hO.add (laneO_ge c L (sl_mono ha |> le_trans sl_lt) le_rfl)
  unfold recvI recvTok
  rw [bigSep_Ico_succ_bot ht]
  by_cases h12 : t < 12
  · rw [if_pos h12, if_pos (by omega : t < 13), if_pos (by omega : t < 13), if_pos (by omega : t + 1 < 13), if_pos (by omega : t + 1 < 13),
      Finset.Ico_eq_empty (by omega : ¬ 12 < t), Finset.Ico_eq_empty (by omega : ¬ 12 < t + 1)]
    simp only [if_pos (show t ≤ 11 by omega)]
    iintro ⟨#H, ⟨Hat, Hrd, Hf, Hkept, ⟨⟨Hc, Hd⟩, Htoks⟩⟩, Ho⟩ Hk
    iapply (wp_take m K KS c L t ht hO') $$ [Hat Hc Ho]
    · isplitr; · iexact H
      isplitl [Hat]; · iexact Hat
      isplitl [Hc]; · iexact Hc
      iexact Ho
    iintro %r ⟨%hr, Hat, Hreach, Hslot, Hheard, Ho⟩
    iapply (wp_credit m K KS c L t a h12) $$ [Hrd Hf Hslot Hreach Hd Ho]
    · isplitr; · iexact H
      isplitl [Hrd]; · iexact Hrd
      isplitl [Hf]; · iexact Hf
      isplitl [Hslot]; · iexact Hslot
      isplitl [Hreach]; · iexact Hreach
      isplitl [Hd]; · iexact Hd
      iexact Ho
    iintro ⟨Hrd, Hf, Ho⟩
    iapply Hk
    isplitr; · ipureintro; exact hr
    isplitr [Ho Hheard]
    · isplitl [Hat]; · iexact Hat
      isplitl [Hrd]; · iexact Hrd
      isplitl [Hf]; · iexact Hf
      isplitl [Hkept]; · iexact Hkept
      iexact Htoks
    isplitl [Hheard]; · iexact Hheard
    iexact Ho
  · rw [if_neg h12, if_neg (by omega : ¬ t + 1 < 13), if_neg (by omega : ¬ t + 1 < 13),
      bigSep_Ico_succ_top (by omega : 12 ≤ t)]
    simp only [if_neg (show ¬ t ≤ 11 by omega)]
    iintro ⟨#H, ⟨Hat, -, -, Hkept, ⟨⟨Hc, -⟩, Htoks⟩⟩, Ho⟩ Hk
    iapply (wp_take m K KS c L t ht hO') $$ [Hat Hc Ho]
    · isplitr; · iexact H
      isplitl [Hat]; · iexact Hat
      isplitl [Hc]; · iexact Hc
      iexact Ho
    iintro %r ⟨%hr, Hat, -, Hslot, Hheard, Ho⟩
    ihave Ho := (Entails.of_eq (show owesE (F := F) c (O + laneO c L a t) = owesE c (O + laneO c L a (t + 1)) by rw [laneO_nocred c L a (by omega : 12 ≤ t)])) $$ Ho
    iapply Hk
    isplitr; · ipureintro; exact hr
    isplitr [Ho Hheard]
    · isplitl [Hat]; · iexact Hat
      isplitr; · iempintro
      isplitr; · iempintro
      isplitl [Hkept Hslot]
      · isplitl [Hslot]; · iexact Hslot
        iexact Hkept
      iexact Htoks
    isplitl [Hheard]; · iexact Hheard
    iexact Ho

end Cert.KernelIdeal.Ring
-- ==== Proof.Send.lean ====
/-
Sending a hop on a lane: the waits for the slot and for the send buffer, the write, and the copy.
-/
module

public import proofs.«01_k».proof.Proof.Recv

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok heard USlots)

variable {F : FTy → Type} [FloatOps F]

local notation "𝕄" => MT nD τ sig ℕ (Elt F) ℕ UU ℕ

variable (m : (ℓ : Loc nD τ sig) → Buf (Elt F) ℓ) (K : Dev nD × CK → ℕ) (KS : SKey → ℕ)

/-! ## The slot a hop goes to -/

/-- The receiver has released the slot of hop t as often as the hop needs, and its cell has come to the hop's round. -/
def free (e : Dev nD) (L : Lane) (t : ℕ) : sProp 𝕄 :=
  iprop(released ES (e, (.inl (L, par t) : SK)) (t / 2 + 1) ∗ reached ER (cell e (kRecv L (par t))) (t / 2))

instance (e : Dev nD) (L : Lane) (t : ℕ) : BI.Persistent (free (F := F) e L t) := by unfold free; infer_instance

theorem bigSep_at' {I : Type} [Fintype I] (s : Finset I) (Φ : I → sProp 𝕄) {i : I} (hi : i ∈ s) : bigSep s Φ ⊢ Φ i := by
  classical exact bigSep_elim hi

theorem free_first (e : Dev nD) (L : Lane) {t : ℕ} (ht : t < 2) : iprop(ctx m K KS ∗ Φe e) ⊢ free e L t := by
  have h : t / 2 = 0 := by omega
  unfold free Φe
  rw [h]
  iintro ⟨H, H'⟩
  isplitl [H']
  · iapply (bigSep_at (fun k : SK => (released ES (e, k) 1 : sProp 𝕄)) (.inl (L, par t))); iexact H'
  iapply (ctx_reached m K KS e (kRecv L (par t))); iexact H

theorem free_later (e : Dev nD) (L : Lane) {t d : ℕ} (hd : t ≤ d + 2) : credPay (F := F) e L d ⊢ free e L t := by
  have hp : (par t).val = t % 2 := rfl
  have h : t / 2 ≤ (d + 2 - (par t).val) / 2 := by rw [hp]; omega
  unfold credPay free
  refine (bigSep_at (fun b : Fin 2 => (iprop(released ES (e, (.inl (L, b) : SK)) ((d + 2 - b.val) / 2 + 1) ∗ reached ER (cell e (kRecv L b)) ((d + 2 - b.val) / 2)) : sProp 𝕄)) (par t)).trans ?_
  iintro ⟨H, H'⟩
  isplitl [H]
  · iapply (Release.released_mono ES (Nat.succ_le_succ h)); iexact H
  iapply (Rounds.reached_mono ER h); iexact H'

/-! ## The sending half of a lane -/

/-- The send cell and buffer after n hops: the last copy may still be leaving. -/
def sendPart (c : Dev nD) (L : Lane) : ℕ → sProp 𝕄
  | 0 => iprop(atPos ER (cell c (kSend L)) 0 ∅ 0 ∗ sendSlot c L)
  | n + 1 => iprop(atPos ER (cell c (kSend L)) n ∅ 0 ∗ cred (tallyAt (cell c (kSend L)) 0 N))

/-- The credit cell after n hops. -/
def credPart (c : Dev nD) (L : Lane) (n : ℕ) : sProp 𝕄 :=
  if n = 14 then atPos ER (cell c (kCred L)) 1 ∅ 0
  else iprop(∃ T, atPos ER (cell c (kCred L)) 0 T (n - 2) ∗ bigSep T fun d => credPay (dst L c) L d)

/-- The tokens of sending hop t. -/
def sendTok (c : Dev nD) (L : Lane) (t : ℕ) : sProp 𝕄 :=
  iprop(dutyTok ER (cell c (kSend L)) t 0 ∗ dutyTok ER (cell (dst L c) (kRecv L (par t))) (t / 2) 0 ∗ writeTok ES (dst L c, (.inl (L, par t) : SK)) (t / 2 + 1)
    ∗ (if 2 ≤ t then cred (tallyAt (cell c (kCred L)) (cl (t - 2)) 1) else emp))

/-- A lane having sent n hops. -/
def sendI (c : Dev nD) (L : Lane) (n : ℕ) : sProp 𝕄 :=
  iprop(sendPart c L n ∗ credPart c L n ∗ bigSep (Finset.Ico n 14) (sendTok c L))

/-- The wait for a credit: hop t's slot is free. -/
theorem wp_waitCredit (c : Dev nD) (L : Lane) (t : ℕ) (h2 : 2 ≤ t) (ht : t < 14) {O : CellTallies nD τ sig ℕ} (hO : Ge (cl (t - 2) + 1) O)
    {k : P F} {Q : PUnit → sProp 𝕄} :
    iprop(ctx m K KS ∗ credPart c L t ∗ cred (tallyAt (cell c (kCred L)) (cl (t - 2)) 1) ∗ owesE c O)
      ⊢ iprop((credPart c L (t + 1) ∗ free (dst L c) L t ∗ owesE c O -∗ run c k Q) -∗ run c (waitCreditK L k) Q) := by
  have hcl : cl (t - 2) < 64 := lt_trans (Nat.succ_lt_succ (sl_small (by omega))) (by decide)
  have hex : (ringRd m).expect (cell c (kCred L)) 0 = 12 := by rw [expect_cell]; rfl
  have hdu : (ringRd m).duties (cell c (kCred L)) 0 = Finset.range 12 := by rw [duties_cell]; rfl
  have hpay : ∀ S : Finset ℕ, bigSep S (fun d => (ringRd m).payload ((c : Thread nD τ), SemLoc.reg (creditS L).sem) 0 d) = bigSep S fun d => credPay (dst L c) L d :=
    fun S => bigSep_congr fun d _ => (payload_cell m c (kCred L) 0 d)
  have hone : ∀ S : Finset ℕ, (∃ d ∈ S, t ≤ d + 2) → (bigSep S fun d => credPay (F := F) (dst L c) L d) ⊢ free (dst L c) L t := by
    rintro S ⟨d, hd, hle⟩
    exact (bigSep_elim hd).trans (free_later _ _ hle)
  unfold credPart waitCreditK
  rw [if_neg (by omega : t ≠ 14)]
  by_cases h13 : t = 13
  · rw [if_pos (by omega : t + 1 = 14)]
    iintro ⟨#H, ⟨%T, Hat, #HT⟩, Hc, ⟨%W, Ho⟩⟩ Hk
    iapply (Rounds.wp_wait_rest_token 𝒱₀ ER (ringRd m) (c : Thread nD τ) none (κ := K (c, kCred L)) (wpE_semWait_eq 𝒱₀ (c : Thread nD τ) none Set.univ) (Set.mem_univ _)
        (cl (t - 2)) (O := O) (W := W) (R := 0) (m := t - 2) (T := T)
        (show t - 2 + 1 = (ringRd m).expect (cell c (kCred L)) 0 by rw [hex]; omega)) $$ [Hc Ho Hat]
    · isplitr; · iapply (ctx_inv m K KS c (kCred L)); iexact H
      isplitl [Hc]; · iexact Hc
      isplitl [Ho]; · iexact Ho
      isplitr
      · iapply (mayWait c (csem (kCred L)) (cl (t - 2)) hcl hO); iapply (ctx_lev m K KS); iexact H
      iexact Hat
    iintro ⟨Ho, Hat, -, Hpay⟩
    ihave #Hpay := (Entails.of_eq (hpay ((ringRd m).duties ((c : Thread nD τ), SemLoc.reg (creditS L).sem) 0 \ T))) $$ Hpay
    iapply Hk
    isplitl [Hat]; · iexact Hat
    isplitr
    · iapply (hone (T ∪ ((ringRd m).duties (cell c (kCred L)) 0 \ T)) ⟨11, by rw [Finset.union_sdiff_self_eq_union, hdu]; exact Finset.mem_union_right _ (by decide), by omega⟩)
      iapply (Entails.of_eq (show iprop((bigSep T fun d => credPay (F := F) (dst L c) L d) ∗ bigSep ((ringRd m).duties (cell c (kCred L)) 0 \ T) fun d => credPay (F := F) (dst L c) L d) = _ from
        (bigSep_union Finset.disjoint_sdiff).symm))
      isplitr; · iexact HT
      iexact Hpay
    iexists _; iexact Ho
  · rw [if_neg (by omega : t + 1 ≠ 14)]
    iintro ⟨#H, ⟨%T, Hat, #HT⟩, Hc, ⟨%W, Ho⟩⟩ Hk
    iapply (Rounds.wp_wait 𝒱₀ ER (ringRd m) (c : Thread nD τ) none (κ := K (c, kCred L)) (wpE_semWait_eq 𝒱₀ (c : Thread nD τ) none Set.univ) (Set.mem_univ _) {(csem (kCred L), cl (t - 2))}
      (cr := Finsupp.single (cl (t - 2)) 1) (O := O) (W := W) (R := 0) (m := t - 2) (T := T)
        (Util.total_single _ _) (image_single_subset _ _ _)) $$ [Hc Ho Hat]
    · isplitr; · iapply (ctx_inv m K KS c (kCred L)); iexact H
      isplitl [Hc]; · iexact Hc
      isplitl [Ho]; · iexact Ho
      isplitr
      · iapply (mayWait c (csem (kCred L)) (cl (t - 2)) hcl hO); iapply (ctx_lev m K KS); iexact H
      iexact Hat
    iintro %S ⟨%hS, Ho, Hat, Hpay⟩
    ihave #Hpay := (Entails.of_eq (hpay (S \ T))) $$ Hpay
    have hfree : ∃ d ∈ S, t ≤ d + 2 := by
      obtain ⟨-, hsub, hle⟩ := hS
      rw [show ((c : Thread nD τ), SemLoc.reg (creditS L).sem) = cell c (kCred L) from rfl, hdu] at hsub hle
      rw [hex, Finset.card_sdiff_of_subset hsub, Finset.card_range] at hle
      by_contra hno
      have hlt : S ⊆ Finset.range (t - 2) := fun d hd => Finset.mem_range.mpr (by
        by_contra h; exact hno ⟨d, hd, by omega⟩)
      have h1 := Finset.card_le_card hlt
      have h2 := Finset.card_le_card hsub
      rw [Finset.card_range] at h1 h2
      have hle' : t - 2 + 1 + (12 - S.card) ≤ 12 := hle
      omega
    ihave #HS : (bigSep S fun d => credPay (F := F) (dst L c) L d) $$ []
    · iapply (Entails.of_eq (show iprop((bigSep T fun d => credPay (F := F) (dst L c) L d) ∗ bigSep (S \ T) fun d => credPay (F := F) (dst L c) L d) = _ from
        (bigSep_sdiff_split hS.1).symm))
      isplitr; · iexact HT
      iexact Hpay
    iapply Hk
    isplitl [Hat]
    · iexists S
      isplitl [Hat]
      · iapply (Entails.of_eq (show atPos ER ((c : Thread nD τ), csem (kCred L)) 0 S (t - 2 + 1) = (atPos ER (cell c (kCred L)) 0 S (t + 1 - 2) : sProp 𝕄) by
          rw [show t + 1 - 2 = t - 2 + 1 by omega])); iexact Hat
      iexact HS
    isplitr; · iapply (hone S hfree); iexact HS
    iexists _; iexact Ho

/-- The wait for the last copy to have left. -/
theorem wp_waitSend (c : Dev nD) (L : Lane) (n : ℕ) (hn : n < 14) (b : Fin 2) {O : CellTallies nD τ sig ℕ} (hO : Ge 1 O) {k : P F} {Q : PUnit → sProp 𝕄} :
    iprop(ctx m K KS ∗ sendPart c L (n + 1) ∗ owesE c O)
      ⊢ iprop((atPos ER (cell c (kSend L)) (n + 1) ∅ 0 ∗ reached ER (cell c (kSend L)) (n + 1) ∗ sendSlot c L ∗ owesE c O -∗ run c k Q) -∗ run c (waitSendK L b k) Q) := by
  unfold sendPart waitSendK
  iintro ⟨#H, ⟨Hat, Hc⟩, Ho⟩ Hk
  iapply (wp_wait1 m K KS c (kSend L) n 0
    (w := .waitDma2 (sendS L).sem (slotM L b) (sendM L) ((slot_words L b).reshape _ _) (sendM_whole L).wordExact) (wpE_waitDma2_eq 𝒱₀ (c : Thread nD τ) none Set.univ) (send_credit L)
    (by show (if n < 14 then _ else _) = _; exact if_pos hn) (by decide) hO) $$ [Hc Ho Hat]
  · isplitr; · iexact H
    isplitl [Hc]; · iexact Hc
    isplitl [Ho]; · iexact Ho
    iexact Hat
  iintro ⟨Ho, Hat, Hr, Hpay⟩
  iapply Hk
  isplitl [Hat]; · iexact Hat
  isplitl [Hr]; · iexact Hr
  isplitl [Hpay]
  · iapply (Entails.of_eq (show payK m c (kSend L) n 0 = sendSlot c L from rfl)); iexact Hpay
  iexact Ho

/-- A write of the whole send buffer. -/
theorem sendM_set (L : Lane) : (sendM L).view.set = Finset.univ := by
  fin_cases L <;> exact View.set_whole _

theorem put_read (L : Lane) (f : (sendM L).view.ty.Contents (Elt F)) (v : FVec F S512x1024 .bf16) :
    (sendM L).view.read (Elt F) (((sendM L).access sR).write (Elt F) f v Finset.univ) = v := by
  have h0 : (![0, 0] : Fin 2 → ℕ) = fun _ => 0 := by decide
  match L, f with
  | 0, f => exact (congrArg ((sendM 0).view.read (Elt F)) (Memref.write_access_unit_zero_univ (Elt F) cc0_scratch0 h0 inb_S512x1024_S512x1024_0_0 f v)).trans (View.read_whole _ _)
  | 1, f => exact (congrArg ((sendM 1).view.read (Elt F)) (Memref.write_access_unit_zero_univ (Elt F) cc0_scratch5 h0 inb_S512x1024_S512x1024_0_0 f v)).trans (View.read_whole _ _)
  | 2, f => exact (congrArg ((sendM 2).view.read (Elt F)) (Memref.write_access_unit_zero_univ (Elt F) cc0_scratch10 h0 inb_S512x1024_S512x1024_0_0 f v)).trans (View.read_whole _ _)
  | 3, f => exact (congrArg ((sendM 3).view.read (Elt F)) (Memref.write_access_unit_zero_univ (Elt F) cc0_scratch15 h0 inb_S512x1024_S512x1024_0_0 f v)).trans (View.read_whole _ _)

theorem wp_putSend (c : Dev nD) (L : Lane) (v : FVec F S512x1024 .bf16) {k : P F} {Q : PUnit → sProp 𝕄} :
    sendSlot c L ⊢ iprop((∀ f, ((sendM L).view.loc (c : Thread nD τ) ↦[(sendM L).view.set]{fullShare} f) ∗ ⌜(sendM L).view.read (Elt F) f = v⌝ -∗ run c k Q)
      -∗ run c (putSendK L v k) Q) := by
  have hset : ∀ s : Finset _, s ⊆ (sendM L).view.set := fun s => (sendM_set L).symm ▸ Finset.subset_univ s
  unfold sendSlot putSendK
  iintro ⟨%f, Hf⟩ Hk
  iapply (wp_load 𝒱₀ (c : Thread nD τ) none Set.univ (m := sendM L) (S := (sendM L).view.set) (hset _)) $$ Hf
  iintro Hf
  iapply (wp_store 𝒱₀ (c : Thread nD τ) none Set.univ (m := sendM L) (r := sR) (Mk := Finset.univ) (S := (sendM L).view.set) (hset _)) $$ Hf
  iintro Hf
  iapply Hk $$ %(((sendM L).access sR).write (Elt F) f v Finset.univ)
  isplitl [Hf]; · iexact Hf
  ipureintro; exact put_read L f v

/-- What the receiver of hop t hears: the sender's and what the sender has heard. -/
theorem heard_next (c : Dev nD) (L : Lane) (s : ℕ) :
    iprop(Φe c ∗ (if s = 0 then emp else heard Φe (back L c (s - 1)))) ⊢ heard (Φe (F := F)) (back L (dst L c) s) := by
  cases s with
  | zero =>
    rw [if_pos rfl]
    show _ ⊢ heard Φe {src L (dst L c)}
    rw [src_dst]
    iintro ⟨H, -⟩
    iapply (Release.heard_single Φe c); iexact H
  | succ s =>
    rw [if_neg (Nat.succ_ne_zero s)]
    show _ ⊢ heard Φe (insert (src L (dst L c)) (back L (src L (dst L c)) s))
    rw [src_dst, Nat.add_sub_cancel, Finset.insert_eq]
    iintro ⟨H, H'⟩
    iapply (Release.heard_union Φe {c} (back L c s))
    isplitl [H]
    · iapply (Release.heard_single Φe c); iexact H
    iexact H'

/-- The copy of hop t. -/
theorem wp_copy (c : Dev nD) (L : Lane) (t b : ℕ) (ht : t < 14) {O : CellTallies nD τ sig ℕ} {f : (sendM L).view.ty.Contents (Elt F)}
    (hf : (sendM L).view.read (Elt F) f = sent m L t c) {k : P F} {Q : PUnit → sProp 𝕄} :
    iprop(ctx m K KS ∗ ((sendM L).view.loc (c : Thread nD τ) ↦[(sendM L).view.set]{fullShare} f) ∗ slotOf (dst L c, .inl (L, par t))
        ∗ heard Φe (back L (dst L c) (t % 7)) ∗ dutyTok ER (cell c (kSend L)) t 0 ∗ reached ER (cell c (kSend L)) t
        ∗ dutyTok ER (cell (dst L c) (kRecv L (par t))) (t / 2) 0 ∗ reached ER (cell (dst L c) (kRecv L (par t))) (t / 2) ∗ owesE c (O + laneO c L t b))
      ⊢ iprop((cred (tallyAt (cell c (kSend L)) 0 N) ∗ owesE c (O + laneO c L (t + 1) b) -∗ run c k Q)
        -∗ run c (copyK c L (par t) k) Q) := by
  have hpar : 2 * (t / 2) + (par t).val = t := by show 2 * (t / 2) + t % 2 = t; omega
  unfold slotOf copyK
  rw [laneO_send c L ht, ← add_assoc]
  iintro ⟨#H, Hf, ⟨%fd, Hd⟩, Hh, Ht, Hr, Ht', Hr', ⟨%W, Ho⟩⟩ Hk
  iapply (Rounds.wp_send_pointsTo_with 𝒱₀ ER (ringRd m) (c : Thread nD τ) none (c' := (dst L c : Thread nD τ)) (src := sendM L) (dst := slotM L (par t))
      (sS := csem (kSend L)) (sem := csem (kRecv L (par t)))
      (κ₁ := K (c, kSend L)) (κ₂ := K (dst L c, kRecv L (par t))) (r₁ := t) (r₂ := t / 2) (d₁ := 0) (d₂ := 0) (q := fullShare) (fs := f) (fd := fd) (F := heard Φe (back L (dst L c) (t % 7)))
      (show 0 ∈ (ringRd m).duties (cell c (kSend L)) t by
        rw [duties_cell]; show 0 ∈ (if t < 14 then {0} else ∅ : Finset ℕ); rw [if_pos ht]; exact Finset.mem_singleton_self 0)
      (show 0 ∈ (ringRd m).duties (cell (dst L c) (kRecv L (par t))) (t / 2) by
        rw [duties_cell]; show 0 ∈ (if t / 2 < 7 then {0} else ∅ : Finset ℕ); rw [if_pos (by omega)]; exact Finset.mem_singleton_self 0)
      (sl t) 0 N (slot_credit L (par t)) (amount_cell m c (kSend L) t 0) (amount_cell m (dst L c) (kRecv L (par t)) (t / 2) 0)
      (O + laneO c L (t + 1) b) rfl
      (by rw [show ((c : Thread nD τ), csem (kSend L)) = cell c (kSend L) from rfl, payload_cell]; show _ ⊢ sendSlot c L
          unfold sendSlot; iintro Hf; iexists f; iexact Hf)
      (by rw [show ((dst L c : Thread nD τ), csem (kRecv L (par t))) = cell (dst L c) (kRecv L (par t)) from rfl, payload_cell]
          show _ ⊢ recvPay m (dst L c) L (par t) (2 * (t / 2) + (par t).val)
          unfold recvPay
          rw [hpar, src_dst]
          iintro ⟨Hd, Hh⟩
          isplitl [Hd]
          · iexists _
            isplitl [Hd]; · iexact Hd
            ipureintro
            rw [View.read_write_univ]; exact hf
          iexact Hh)) $$ [Hf Hd Hh Ht Hr Ht' Hr' Ho]
  · isplitr; · iapply (ctx_inv m K KS c (kSend L)); iexact H
    isplitr; · iapply (ctx_inv m K KS (dst L c) (kRecv L (par t))); iexact H
    isplitl [Hf]; · iexact Hf
    isplitl [Hd Hh]
    · isplitl [Hd]; · iexact Hd
      iexact Hh
    isplitl [Ho]; · iexact Ho
    isplitl [Ht]; · iexact Ht
    isplitl [Hr]; · iexact Hr
    isplitl [Ht']; · iexact Ht'
    iexact Hr'
  iintro ⟨Hc, Ho⟩
  iapply Hk
  isplitl [Hc]; · iexact Hc
  iexists W; iexact Ho

/-- The write and the copy of hop t, its slot free and the send buffer at hand. -/
theorem wp_go (c : Dev nD) (L : Lane) (t b : ℕ) (ht : t < 14) {O : CellTallies nD τ sig ℕ} {v : FVec F S512x1024 .bf16} (hv : v = sent m L t c)
    {k : P F} {Q : PUnit → sProp 𝕄} :
    iprop(ctx m K KS ∗ (atPos ER (cell c (kSend L)) t ∅ 0 ∗ reached ER (cell c (kSend L)) t ∗ sendSlot c L) ∗ credPart c L (t + 1) ∗ free (dst L c) L t
        ∗ (dutyTok ER (cell c (kSend L)) t 0 ∗ dutyTok ER (cell (dst L c) (kRecv L (par t))) (t / 2) 0 ∗ writeTok ES (dst L c, (.inl (L, par t) : SK)) (t / 2 + 1))
        ∗ bigSep (Finset.Ico (t + 1) 14) (sendTok c L) ∗ heard Φe (back L (dst L c) (t % 7)) ∗ owesE c (O + laneO c L t b))
      ⊢ iprop((sendI c L (t + 1) ∗ owesE c (O + laneO c L (t + 1) b) -∗ run c k Q)
        -∗ run c (putSendK L v (copyK c L (par t) k)) Q) := by
  unfold free sendI
  iintro ⟨#H, ⟨Hat, Hr, Hs⟩, Hcp, ⟨Hrel, Hr'⟩, ⟨Ht, Ht', Hw⟩, Htoks, Hh, Ho⟩ Hk
  iapply (wp_putSend c L v) $$ Hs
  iintro %f ⟨Hf, %hf⟩
  imod (Release.slot_take ES (ι := KS (dst L c, .inl (L, par t))) (k := (dst L c, .inl (L, par t))) (S := slotOf (dst L c, .inl (L, par t))) (Set.mem_univ _) (t / 2 + 1)) $$ [Hrel Hw] with Hslot
  · isplitr; · iapply (ctx_slot m K KS (dst L c, .inl (L, par t))); iexact H
    isplitl [Hrel]; · iexact Hrel
    iexact Hw
  iapply (wp_copy m K KS c L t b ht (hf.trans hv)) $$ [Hf Hslot Hh Ht Hr Ht' Hr' Ho]
  · isplitr; · iexact H
    isplitl [Hf]; · iexact Hf
    isplitl [Hslot]; · iexact Hslot
    isplitl [Hh]; · iexact Hh
    isplitl [Ht]; · iexact Ht
    isplitl [Hr]; · iexact Hr
    isplitl [Ht']; · iexact Ht'
    isplitl [Hr']; · iexact Hr'
    iexact Ho
  iintro ⟨Hc, Ho⟩
  iapply Hk
  isplitr [Ho]
  · isplitl [Hat Hc]
    · unfold sendPart
      isplitl [Hat]; · iexact Hat
      iexact Hc
    isplitl [Hcp]; · iexact Hcp
    iexact Htoks
  iexact Ho

/-- The send buffer at hand: the last copy has left. -/
theorem wp_mid (c : Dev nD) (L : Lane) (t b : ℕ) (ht : t < 14) {O : CellTallies nD τ sig ℕ} (hO : Ge 1 (O + laneO c L t b)) {v : FVec F S512x1024 .bf16} (hv : v = sent m L t c)
    {k : P F} {Q : PUnit → sProp 𝕄} :
    iprop(ctx m K KS ∗ sendPart c L t ∗ credPart c L (t + 1) ∗ free (dst L c) L t
        ∗ (dutyTok ER (cell c (kSend L)) t 0 ∗ dutyTok ER (cell (dst L c) (kRecv L (par t))) (t / 2) 0 ∗ writeTok ES (dst L c, (.inl (L, par t) : SK)) (t / 2 + 1))
        ∗ bigSep (Finset.Ico (t + 1) 14) (sendTok c L) ∗ heard Φe (back L (dst L c) (t % 7)) ∗ owesE c (O + laneO c L t b))
      ⊢ iprop((sendI c L (t + 1) ∗ owesE c (O + laneO c L (t + 1) b) -∗ run c k Q)
        -∗ run c (if 1 ≤ t then waitSendK L (par (t + 1)) (putSendK L v (copyK c L (par t) k)) else putSendK L v (copyK c L (par t) k)) Q) := by
  cases t with
  | zero =>
    rw [if_neg (by omega : ¬ 1 ≤ 0)]
    show iprop(_ ∗ (atPos ER (cell c (kSend L)) 0 ∅ 0 ∗ sendSlot c L) ∗ _) ⊢ _
    iintro ⟨#H, ⟨Hat, Hs⟩, Hrest⟩ Hk
    iapply (wp_go m K KS c L 0 b ht hv) $$ [Hat Hs Hrest]
    · isplitr; · iexact H
      isplitl [Hat Hs]
      · isplitl [Hat]; · iexact Hat
        isplitr; · iapply (ctx_reached m K KS c (kSend L)); iexact H
        iexact Hs
      iexact Hrest
    iexact Hk
  | succ n =>
    rw [if_pos (by omega : 1 ≤ n + 1)]
    iintro ⟨#H, Hs, Hcp, Hf, Ht, Htoks, Hh, Ho⟩ Hk
    iapply (wp_waitSend m K KS c L n (by omega) (par (n + 1 + 1)) hO) $$ [Hs Ho]
    · isplitr; · iexact H
      isplitl [Hs]; · iexact Hs
      iexact Ho
    iintro ⟨Hat, Hr, Hs, Ho⟩
    iapply (wp_go m K KS c L (n + 1) b ht hv) $$ [Hat Hr Hs Hcp Hf Ht Htoks Hh Ho]
    · isplitr; · iexact H
      isplitl [Hat Hr Hs]
      · isplitl [Hat]; · iexact Hat
        isplitl [Hr]; · iexact Hr
        iexact Hs
      isplitl [Hcp]; · iexact Hcp
      isplitl [Hf]; · iexact Hf
      isplitl [Ht]; · iexact Ht
      isplitl [Htoks]; · iexact Htoks
      isplitl [Hh]; · iexact Hh
      iexact Ho
    iexact Hk

theorem credPart_first (c : Dev nD) (L : Lane) {t : ℕ} (ht : t < 2) : credPart (F := F) c L t = credPart c L (t + 1) := by
  unfold credPart
  rw [if_neg (by omega), if_neg (by omega), show t - 2 = 0 by omega, show t + 1 - 2 = 0 by omega]

/-- Sending hop t. -/
theorem wp_sendK (c : Dev nD) (L : Lane) (t b : ℕ) (ht : t < 14) (hb : sl t ≤ cl b) {O : CellTallies nD τ sig ℕ} (hO : Ge (sl t) O)
    {a : FVec F S512x1024 .f32} (ha : packV a = sent m L t c) {k : P F} {Q : PUnit → sProp 𝕄} :
    iprop(ctx m K KS ∗ Φe c ∗ Φe (dst L c) ∗ sendI c L t ∗ (if t % 7 = 0 then emp else heard Φe (back L c (t % 7 - 1))) ∗ owesE c (O + laneO c L t b))
      ⊢ iprop((sendI c L (t + 1) ∗ owesE c (O + laneO c L (t + 1) b) -∗ run c k Q)
        -∗ run c (sendK c L t a k) Q) := by
  have hO' : Ge (sl t) (O + laneO c L t b) := hO.add (laneO_ge c L le_rfl hb)
  have h1 : Ge 1 (O + laneO c L t b) := hO'.mono (by unfold sl; omega)
  unfold sendI sendK
  rw [bigSep_Ico_succ_bot ht]
  by_cases h2 : 2 ≤ t
  · unfold sendTok
    simp only [if_pos h2]
    iintro ⟨#H, #He, -, ⟨Hs, Hcp, ⟨Ht, Ht', Hw, Hc⟩, Htoks⟩, Hh, Ho⟩ Hk
    iapply (wp_waitCredit m K KS c L t h2 ht (hO'.mono (by unfold cl sl; omega))) $$ [Hcp Hc Ho]
    · isplitr; · iexact H
      isplitl [Hcp]; · iexact Hcp
      isplitl [Hc]; · iexact Hc
      iexact Ho
    iintro ⟨Hcp, Hf, Ho⟩
    iapply (wp_mid m K KS c L t b ht h1 ha) $$ [Hs Hcp Hf Ht Ht' Hw Htoks Hh Ho]
    · isplitr; · iexact H
      isplitl [Hs]; · iexact Hs
      isplitl [Hcp]; · iexact Hcp
      isplitl [Hf]; · iexact Hf
      isplitl [Ht Ht' Hw]
      · isplitl [Ht]; · iexact Ht
        isplitl [Ht']; · iexact Ht'
        iexact Hw
      isplitl [Htoks]; · iexact Htoks
      isplitl [Hh]
      · iapply (heard_next c L (t % 7))
        isplitr; · iexact He
        iexact Hh
      iexact Ho
    unfold sendI sendTok
    iexact Hk
  · unfold sendTok
    simp only [if_neg h2]
    rw [credPart_first c L (by omega : t < 2)]
    iintro ⟨#H, #He, #He', ⟨Hs, Hcp, ⟨Ht, Ht', Hw, -⟩, Htoks⟩, Hh, Ho⟩ Hk
    iapply (wp_mid m K KS c L t b ht h1 ha) $$ [Hs Hcp Ht Ht' Hw Htoks Hh Ho]
    · isplitr; · iexact H
      isplitl [Hs]; · iexact Hs
      isplitl [Hcp]; · iexact Hcp
      isplitr
      · iapply (free_first m K KS (dst L c) L (by omega : t < 2))
        isplitr; · iexact H
        iexact He'
      isplitl [Ht Ht' Hw]
      · isplitl [Ht]; · iexact Ht
        isplitl [Ht']; · iexact Ht'
        iexact Hw
      isplitl [Htoks]; · iexact Htoks
      isplitl [Hh]
      · iapply (heard_next c L (t % 7))
        isplitr; · iexact He
        iexact Hh
      iexact Ho
    unfold sendI sendTok
    iexact Hk

end Cert.KernelIdeal.Ring
-- ==== Proof.Hop.lean ====
/-
One hop of a lane, over the state a device keeps between steps.
-/
module

public import proofs.«01_k».proof.Proof.Send

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok heard USlots)

variable {F : FTy → Type} [FloatOps F]

local notation "𝕄" => MT nD τ sig ℕ (Elt F) ℕ UU ℕ

variable (m : (ℓ : Loc nD τ sig) → Buf (Elt F) ℓ) (K : Dev nD × CK → ℕ) (KS : SKey → ℕ)

/-! ## The operands and the output block -/

/-- The staged operand blocks. -/
def xw (c : Dev nD) : sProp 𝕄 :=
  iprop((((c : Thread nD τ).loc cc0_stg0_0) ↦{fullShare} xstg m c) ∗ (((c : Thread nD τ).loc cc0_stg1_0) ↦{fullShare} wstg m c))

/-- Which blocks of the output are known, and what they hold. -/
abbrev Known (F : FTy → Type) := Lane → Fin 2 → Option (FVec F S512x1024 .f32)

/-- One more block known. -/
def learn (B : Known F) (L : Lane) (cp : Fin 2) (v : FVec F S512x1024 .f32) : Known F :=
  fun L' cp' => if L' = L ∧ cp' = cp then some v else B L' cp'

/-- The output holds what is known of it. -/
def Holds (B : Known F) (f : (cc0_stg2_0 : Ref sig .tc).ty.Contents (Elt F)) : Prop :=
  ∀ L cp v, B L cp = some v → outM.view.readAt (Elt F) (cR L cp).toLoadRect f = v

/-- The output block. -/
def outI (c : Dev nD) (B : Known F) : sProp 𝕄 := iprop(∃ f, (((c : Thread nD τ).loc cc0_stg2_0) ↦{fullShare} f) ∗ ⌜Holds B f⌝)

theorem col_far : ∀ (L L' : Lane) (cp cp' : Fin 2), ¬ (L' = L ∧ cp' = cp) → col L cp + 1024 ≤ col L' cp' ∨ col L' cp' + 1024 ≤ col L cp := by decide

theorem holds_learn {B : Known F} {f : (cc0_stg2_0 : Ref sig .tc).ty.Contents (Elt F)} (h : Holds B f) (L : Lane) (cp : Fin 2) (v : FVec F S512x1024 .f32) :
    Holds (learn B L cp v) ((outM.access (cR L cp)).write (Elt F) f v Finset.univ) := by
  intro L' cp' v' hv
  unfold learn at hv
  by_cases hc : L' = L ∧ cp' = cp
  · rw [if_pos hc] at hv
    obtain ⟨rfl, rfl⟩ := hc
    rw [View.readAt_rect, ← Option.some.inj hv]
    exact View.read_write_univ _ _
  · rw [if_neg hc] at hv
    rw [← h L' cp' v' hv]
    funext i
    refine View.read_slice_write_of_not_mem (v := outM.view) (cR L cp) f v Finset.univ (y := (cR L' cp').emb i) fun hm => ?_
    obtain ⟨j, -, hj⟩ := Finset.mem_map.mp hm
    have e := congrArg (fun z : S512x8192.Idx => (z 1).val) hj
    have e' : col L cp + 1 * (j 1).val = col L' cp' + 1 * (i 1).val := e
    have hj1 : (j 1).val < 1024 := (j 1).isLt
    have hi1 : (i 1).val < 1024 := (i 1).isLt
    rcases col_far L L' cp cp' hc with h | h <;> omega

theorem wp_dot (c : Dev nD) (off : Fin 2 → ℕ) (h : ∀ a, off a + S512x512.size a ≤ S4096x512.size a) (L : Lane) (cp : Fin 2)
    {k : FVec F S512x1024 .f32 → P F} {Q : PUnit → sProp 𝕄} :
    xw m c ⊢ iprop((xw m c -∗ run c (k (dotV (xM.view.readAt (Elt F) (Rect.unit (s := S4096x512) off S512x512.size h).toLoadRect (xstg m c))
        (wM.view.readAt (Elt F) (cR L cp).toLoadRect (wstg m c)))) Q) -∗ run c (dotK off h L cp k) Q) := by
  unfold xw dotK
  iintro ⟨Hx, Hw⟩ Hk
  iapply (wp_load 𝒱₀ (c : Thread nD τ) none Set.univ (m := xM) (Finset.subset_univ _)) $$ Hx
  iintro Hx
  iapply (wp_load 𝒱₀ (c : Thread nD τ) none Set.univ (m := wM) (Finset.subset_univ _)) $$ Hw
  iintro Hw
  iapply Hk
  isplitl [Hx]; · iexact Hx
  iexact Hw

theorem wp_putOut (c : Dev nD) (B : Known F) (L : Lane) (cp : Fin 2) (v : FVec F S512x1024 .f32) {k : P F} {Q : PUnit → sProp 𝕄} :
    outI c B ⊢ iprop((outI c (learn B L cp v) -∗ run c k Q) -∗ run c (putOutK L cp v k) Q) := by
  unfold outI putOutK
  iintro ⟨%f, Hf, %h⟩ Hk
  iapply (wp_load 𝒱₀ (c : Thread nD τ) none Set.univ (m := outM) (Finset.subset_univ _)) $$ Hf
  iintro Hf
  iapply (wp_store 𝒱₀ (c : Thread nD τ) none Set.univ (m := outM) (r := cR L cp) (Mk := Finset.univ) (Finset.subset_univ _)) $$ Hf
  iintro Hf
  iapply Hk
  iexists _
  isplitl [Hf]; · iexact Hf
  ipureintro; exact holds_learn h L cp v

theorem wp_loadOut (c : Dev nD) (B : Known F) (L : Lane) (cp : Fin 2) {v : FVec F S512x1024 .f32} (hv : B L cp = some v)
    {k : Vec F S512x1024 .f32 → P F} {Q : PUnit → sProp 𝕄} :
    outI c B ⊢ iprop((outI c B -∗ run c (k v) Q) -∗ run c (loadOutK L cp k) Q) := by
  unfold outI loadOutK
  iintro ⟨%f, Hf, %h⟩ Hk
  iapply (wp_load 𝒱₀ (c : Thread nD τ) none Set.univ (m := outM) (Finset.subset_univ _)) $$ Hf
  iintro Hf
  have e := h L cp v hv
  subst e
  iapply Hk
  iexists f
  isplitl [Hf]; · iexact Hf
  ipureintro; exact h

/-! ## The values along a pass -/

theorem hop_lt (cp : Fin 2) (s : Fin 7) : hop cp s.val < 14 := by unfold hop; omega
theorem cpOf_hop (cp : Fin 2) (s : Fin 7) : cpOf (hop cp s.val) = cp := by revert cp s; decide
theorem hop_mod (cp : Fin 2) (s : Fin 7) : hop cp s.val % 7 = s.val := by revert cp s; decide

theorem sent_hop (L : Lane) (cp : Fin 2) (s : Fin 7) (c : Dev nD) : sent m L (hop cp s.val) c = packV (acc m L cp s.val c) := by
  unfold sent; rw [cpOf_hop, hop_mod]

theorem addV_eq (a : FVec F S512x1024 .f32) (r : Vec F S1x512x1024 .bf16) : addV a r = addS a (shapeCast S512x1024 r shapeCasts_S1x512x1024_S512x1024) := rfl

theorem reluV_eq (L : Lane) (cp : Fin 2) (c : Dev nD) (r : Vec F S1x512x1024 .bf16)
    (hr : shapeCast S512x1024 r shapeCasts_S1x512x1024_S512x1024 = sent m L (hop cp 6) (src L c)) : reluV (ownAt m L cp c) r = fin m L cp c := by
  unfold reluV fin
  rw [addV_eq, hr, show sent m L (hop cp 6) (src L c) = _ from sent_hop m L cp 6 (src L c)]
  rfl

/-! ## The state between steps -/

/-- What a device knows from its barrier on. -/
def kn (c : Dev nD) : sProp 𝕄 := iprop(ctx m K KS ∗ Φe c ∗ bigSep Finset.univ fun L : Lane => Φe (dst L c))

instance (c : Dev nD) : BI.Persistent (kn m K KS c) := by unfold kn; infer_instance

theorem kn_ctx (c : Dev nD) : kn m K KS c ⊢ ctx m K KS := by unfold kn; iintro ⟨H, -, -⟩; iexact H
theorem kn_self (c : Dev nD) : kn m K KS c ⊢ Φe c := by unfold kn; iintro ⟨-, H, -⟩; iexact H
theorem kn_dst (c : Dev nD) (L : Lane) : kn m K KS c ⊢ Φe (dst L c) := by
  unfold kn; iintro ⟨-, -, H⟩; iapply (bigSep_at (fun L : Lane => (Φe (dst L c) : sProp 𝕄)) L); iexact H

/-- Lane by lane: a hops sent and b received; the known blocks of the output; what is owed. -/
def st (c : Dev nD) (a b : Lane → ℕ) (B : Known F) : sProp 𝕄 :=
  iprop(xw m c ∗ outI c B ∗ (bigSep Finset.univ fun L : Lane => iprop(sendI c L (a L) ∗ recvI c L (b L)))
    ∗ owesE c (axO c 0 + ∑ L : Lane, laneO c L (a L) (b L)))

/-- The other lanes' dues. -/
def restO (c : Dev nD) (a b : Lane → ℕ) (L : Lane) : CellTallies nD τ sig ℕ := axO c 0 + ∑ L' ∈ Finset.univ.erase L, laneO c L' (a L') (b L')

theorem restO_eq (c : Dev nD) (a b : Lane → ℕ) (L : Lane) : axO c 0 + ∑ L' : Lane, laneO c L' (a L') (b L') = restO c a b L + laneO c L (a L) (b L) := by
  unfold restO
  rw [← Finset.sum_erase_add _ _ (Finset.mem_univ L), add_assoc]

theorem restO_update (c : Dev nD) (a b : Lane → ℕ) (L : Lane) (x y : ℕ) : restO c (Function.update a L x) (Function.update b L y) L = restO c a b L := by
  unfold restO
  congr 1
  refine Finset.sum_congr rfl fun L' hL' => ?_
  rw [Function.update_of_ne (Finset.ne_of_mem_erase hL'), Function.update_of_ne (Finset.ne_of_mem_erase hL')]

theorem restO_ge (c : Dev nD) (a b : Lane → ℕ) (L : Lane) {n : ℕ} (hn : n ≤ 30) (h : ∀ L', n ≤ sl (a L') ∧ n ≤ cl (b L')) : Ge n (restO c a b L) :=
  ((axO_ge c 0).mono hn).add (Ge.sum _ _ fun L' _ => laneO_ge c L' (h L').1 (h L').2)

/-- One lane taken out of the state, and put back further on. -/
theorem st_lane (c : Dev nD) (a b : Lane → ℕ) (B : Known F) (L : Lane) :
    st m c a b B ⊢ iprop(xw m c ∗ outI c B ∗ sendI c L (a L) ∗ recvI c L (b L) ∗ owesE c (restO c a b L + laneO c L (a L) (b L))
      ∗ (∀ x y B', xw m c ∗ outI c B' ∗ sendI c L x ∗ recvI c L y ∗ owesE c (restO c a b L + laneO c L x y)
          -∗ st m c (Function.update a L x) (Function.update b L y) B')) := by
  unfold st
  rw [bigSep_univ_at (fun L : Lane => (iprop(sendI c L (a L) ∗ recvI c L (b L)) : sProp 𝕄)) L, restO_eq c a b L]
  iintro ⟨Hxw, Hout, ⟨⟨Hs, Hr⟩, Hrest⟩, Ho⟩
  isplitl [Hxw]; · iexact Hxw
  isplitl [Hout]; · iexact Hout
  isplitl [Hs]; · iexact Hs
  isplitl [Hr]; · iexact Hr
  isplitl [Ho]; · iexact Ho
  iintro %x %y %B' ⟨Hxw, Hout, Hs, Hr, Ho⟩
  isplitl [Hxw]; · iexact Hxw
  isplitl [Hout]; · iexact Hout
  isplitl [Hs Hr Hrest]
  · iapply (Entails.of_eq (show iprop((sendI c L x ∗ recvI c L y) ∗ bigSep (Finset.univ.erase L) fun L : Lane => iprop(sendI c L (a L) ∗ recvI c L (b L)))
        = bigSep Finset.univ fun L' : Lane => (iprop(sendI c L' (Function.update a L x L') ∗ recvI c L' (Function.update b L y L')) : sProp 𝕄) by
      rw [bigSep_univ_at (fun L' : Lane => (iprop(sendI c L' (Function.update a L x L') ∗ recvI c L' (Function.update b L y L')) : sProp 𝕄)) L,
        Function.update_self, Function.update_self]
      congr 1
      exact bigSep_congr fun L' hL' => by
        rw [Function.update_of_ne (Finset.ne_of_mem_erase hL'), Function.update_of_ne (Finset.ne_of_mem_erase hL')]))
    isplitr [Hrest]
    · isplitl [Hs]; · iexact Hs
      iexact Hr
    iexact Hrest
  iapply (Entails.of_eq (show owesE (F := F) c (restO c a b L + laneO c L x y) = _ by
    rw [restO_eq c (Function.update a L x) (Function.update b L y) L, restO_update, Function.update_self, Function.update_self]))
  iexact Ho

/-! ## A hop -/

/-- How many hops a lane has received before sending hop s of a pass. -/
def pre (cp : Fin 2) (s : Fin 7) : ℕ := if 1 ≤ s.val then hop cp s.val - 1 else hop cp s.val

/-- What a hop leaves known of the output. -/
def afterHop (c : Dev nD) (cp : Fin 2) (s : Fin 7) (L : Lane) (B : Known F) : Known F := if s.val = 6 then learn B L cp (ownAt m L cp c) else B

theorem wp_hop (c : Dev nD) (cp : Fin 2) (s : Fin 7) (L : Lane) (a b : Lane → ℕ) (B : Known F) (ha : a L = hop cp s.val) (hb : b L = pre cp s)
    (hO : ∀ L', sl (hop cp s.val) ≤ sl (a L') ∧ sl (hop cp s.val) ≤ cl (b L')) {k : P F} {Q : PUnit → sProp 𝕄} :
    iprop(kn m K KS c ∗ st m c a b B)
      ⊢ iprop((st m c (Function.update a L (hop cp s.val + 1)) (Function.update b L (hop cp s.val)) (afterHop m c cp s L B) -∗ run c k Q)
        -∗ run c (hopK c cp s L k) Q) := by
  have ht := hop_lt cp s
  have hg : Ge (sl (hop cp s.val)) (restO c a b L) := restO_ge c a b L (le_of_lt (lt_trans (sl_small ht) (by decide))) hO
  -- the end of a hop, whatever was received
  have hend : ∀ (v : FVec F S512x1024 .f32), packV v = sent m L (hop cp s.val) c →
      iprop(kn m K KS c ∗ xw m c ∗ outI c B ∗ sendI c L (hop cp s.val) ∗ recvI c L (hop cp s.val)
          ∗ (if hop cp s.val % 7 = 0 then emp else heard Φe (back L c (hop cp s.val % 7 - 1)))
          ∗ owesE c (restO c a b L + laneO c L (hop cp s.val) (hop cp s.val))
          ∗ (xw m c ∗ outI c (afterHop m c cp s L B) ∗ sendI c L (hop cp s.val + 1) ∗ recvI c L (hop cp s.val)
            ∗ owesE c (restO c a b L + laneO c L (hop cp s.val + 1) (hop cp s.val)) -∗ run c k Q))
        ⊢ run c (sendK c L (hop cp s.val) v (if s.val = 6 then dotK (k0_off3 c) (k0_off3_inb c) L cp fun o => putOutK L cp o k else k)) Q := by
    intro v hv
    unfold afterHop
    by_cases h6 : s.val = 6
    · simp only [if_pos h6]
      iintro ⟨#H, Hxw, Hout, Hs, Hr, Hh, Ho, Hk⟩
      iapply (wp_sendK m K KS c L (hop cp s.val) (hop cp s.val) ht (Nat.le_succ _) hg hv) $$ [Hs Hh Ho]
      · isplitr; · iapply (kn_ctx m K KS c); iexact H
        isplitr; · iapply (kn_self m K KS c); iexact H
        isplitr; · iapply (kn_dst m K KS c L); iexact H
        isplitl [Hs]; · iexact Hs
        isplitl [Hh]; · iexact Hh
        iexact Ho
      iintro ⟨Hs, Ho⟩
      iapply (wp_dot m c (k0_off3 c) (k0_off3_inb c) L cp) $$ Hxw
      iintro Hxw
      iapply (wp_putOut c B L cp) $$ Hout
      iintro Hout
      iapply Hk
      isplitl [Hxw]; · iexact Hxw
      isplitl [Hout]; · iexact Hout
      isplitl [Hs]; · iexact Hs
      isplitl [Hr]; · iexact Hr
      iexact Ho
    · simp only [if_neg h6]
      iintro ⟨#H, Hxw, Hout, Hs, Hr, Hh, Ho, Hk⟩
      iapply (wp_sendK m K KS c L (hop cp s.val) (hop cp s.val) ht (Nat.le_succ _) hg hv) $$ [Hs Hh Ho]
      · isplitr; · iapply (kn_ctx m K KS c); iexact H
        isplitr; · iapply (kn_self m K KS c); iexact H
        isplitr; · iapply (kn_dst m K KS c L); iexact H
        isplitl [Hs]; · iexact Hs
        isplitl [Hh]; · iexact Hh
        iexact Ho
      iintro ⟨Hs, Ho⟩
      iapply Hk
      isplitl [Hxw]; · iexact Hxw
      isplitl [Hout]; · iexact Hout
      isplitl [Hs]; · iexact Hs
      isplitl [Hr]; · iexact Hr
      iexact Ho
  refine (sep_mono_right (st_lane m c a b B L)).trans ?_
  rw [ha, hb]
  unfold hopK
  by_cases h1 : 1 ≤ s.val
  · have hp : pre cp s = hop cp s.val - 1 := by unfold pre; rw [if_pos h1]
    have hp1 : hop cp s.val - 1 + 1 = hop cp s.val := by unfold hop; omega
    have hpm : (hop cp s.val - 1) % 7 = s.val - 1 := by unfold hop; omega
    rw [hp]
    simp only [if_pos h1]
    iintro ⟨#H, Hxw, Hout, Hs, Hr, Ho, Hput⟩ Hk
    iapply (wp_dot m c (xOff L c s) (xOff_inb L c s) L cp) $$ Hxw
    iintro Hxw
    unfold recvK
    iapply (wp_recv m K KS c L (hop cp s.val - 1) (hop cp s.val) (by omega) (by omega) (hg.mono (by rw [← hp1]; exact sl_lt))) $$ [Hr Ho]
    · isplitr; · iapply (kn_ctx m K KS c); iexact H
      isplitl [Hr]; · iexact Hr
      iexact Ho
    iintro %r ⟨%hr, Hr, Hh, Ho⟩
    iapply (hend _ (show packV (addV (dotAt m L cp s c) r) = sent m L (hop cp s.val) c by
      rw [sent_hop, addV_eq, hr]
      obtain ⟨n, hn⟩ : ∃ n, s.val = n + 1 := ⟨s.val - 1, by omega⟩
      have hs' : Fin.ofNat 7 (n + 1) = s := Fin.ext (by rw [← hn]; exact Nat.mod_eq_of_lt s.isLt)
      have hsent : sent m L (hop cp s.val - 1) (src L c) = packV (acc m L cp n (src L c)) := by
        have := sent_hop m L cp ⟨n, by omega⟩ (src L c)
        rwa [show hop cp s.val - 1 = hop cp n by unfold hop; omega]
      rw [hsent, hn]
      show _ = packV (addS (dotAt m L cp (Fin.ofNat 7 (n + 1)) c) _)
      rw [hs']))
    isplitr; · iexact H
    isplitl [Hxw]; · iexact Hxw
    isplitl [Hout]; · iexact Hout
    isplitl [Hs]; · iexact Hs
    isplitl [Hr]
    · iapply (Entails.of_eq (show recvI (F := F) c L (hop cp s.val - 1 + 1) = recvI c L (hop cp s.val) by rw [hp1])); iexact Hr
    isplitl [Hh]
    · iapply (Entails.of_eq (show heard (Φe (F := F)) (back L c ((hop cp s.val - 1) % 7)) = iprop(if hop cp s.val % 7 = 0 then emp else heard Φe (back L c (hop cp s.val % 7 - 1))) by
        rw [hpm, hop_mod, if_neg (by omega)])); iexact Hh
    isplitl [Ho]
    · iapply (Entails.of_eq (show owesE (F := F) c (restO c a b L + laneO c L (hop cp s.val) (hop cp s.val - 1 + 1)) = owesE c (restO c a b L + laneO c L (hop cp s.val) (hop cp s.val)) by
        rw [hp1])); iexact Ho
    iintro ⟨Hxw, Hout, Hs, Hr, Ho⟩
    iapply Hk
    iapply Hput $$ %(hop cp s.val + 1) %(hop cp s.val) %(afterHop m c cp s L B)
    isplitl [Hxw]; · iexact Hxw
    isplitl [Hout]; · iexact Hout
    isplitl [Hs]; · iexact Hs
    isplitl [Hr]; · iexact Hr
    iexact Ho
  · have hp : pre cp s = hop cp s.val := by unfold pre; rw [if_neg h1]
    have hs0 : s = 0 := Fin.ext (by omega)
    rw [hp]
    simp only [if_neg h1]
    iintro ⟨#H, Hxw, Hout, Hs, Hr, Ho, Hput⟩ Hk
    iapply (wp_dot m c (xOff L c s) (xOff_inb L c s) L cp) $$ Hxw
    iintro Hxw
    iapply (hend _ (show packV (dotAt m L cp s c) = sent m L (hop cp s.val) c by rw [sent_hop, hs0]; rfl))
    isplitr; · iexact H
    isplitl [Hxw]; · iexact Hxw
    isplitl [Hout]; · iexact Hout
    isplitl [Hs]; · iexact Hs
    isplitl [Hr]; · iexact Hr
    isplitr
    · iapply (Entails.of_eq (show (iprop(emp) : sProp 𝕄) = iprop(if hop cp s.val % 7 = 0 then emp else heard Φe (back L c (hop cp s.val % 7 - 1))) by
        rw [hop_mod, if_pos (by omega)])); iempintro
    isplitl [Ho]; · iexact Ho
    iintro ⟨Hxw, Hout, Hs, Hr, Ho⟩
    iapply Hk
    iapply Hput $$ %(hop cp s.val + 1) %(hop cp s.val) %(afterHop m c cp s L B)
    isplitl [Hxw]; · iexact Hxw
    isplitl [Hout]; · iexact Hout
    isplitl [Hs]; · iexact Hs
    isplitl [Hr]; · iexact Hr
    iexact Ho

end Cert.KernelIdeal.Ring
-- ==== Proof.Pass.lean ====
/-
A pass: seven rows of hops and the closing steps.
-/
module

public import proofs.«01_k».proof.Proof.Hop

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok heard USlots)

variable {F : FTy → Type} [FloatOps F]

local notation "𝕄" => MT nD τ sig ℕ (Elt F) ℕ UU ℕ

variable (m : (ℓ : Loc nD τ sig) → Buf (Elt F) ℓ) (K : Dev nD × CK → ℕ) (KS : SKey → ℕ)

/-! ## Rows of hops -/

theorem far_update {a b : Lane → ℕ} {n x y : ℕ} (h : ∀ L', n ≤ sl (a L') ∧ n ≤ cl (b L')) (L : Lane) (hx : n ≤ sl x) (hy : n ≤ cl y) :
    ∀ L', n ≤ sl (Function.update a L x L') ∧ n ≤ cl (Function.update b L y L') := by
  intro L'
  by_cases e : L' = L
  · subst e; rw [Function.update_self, Function.update_self]; exact ⟨hx, hy⟩
  · rw [Function.update_of_ne e, Function.update_of_ne e]; exact h L'

theorem update_all {x y : ℕ} : Function.update (Function.update (Function.update (Function.update (fun _ : Lane => x) 0 y) 1 y) 2 y) 3 y = fun _ => y := by
  funext L; fin_cases L <;> rfl

theorem sl_pre (cp : Fin 2) (s : Fin 7) : sl (hop cp s.val) ≤ cl (pre cp s) := by revert cp s; decide

theorem learn_ne (B : Known F) {L L' : Lane} (cp cp' : Fin 2) (v : FVec F S512x1024 .f32) (h : L' ≠ L) : learn B L cp v L' cp' = B L' cp' := by
  unfold learn; exact if_neg fun h' => h h'.1

/-- All lanes' blocks of a pass known. -/
def learnAll (B : Known F) (cp : Fin 2) (v : Lane → FVec F S512x1024 .f32) : Known F := fun L' cp' => if cp' = cp then some (v L') else B L' cp'

theorem learn_all (B : Known F) (cp : Fin 2) (v : Lane → FVec F S512x1024 .f32) :
    learn (learn (learn (learn B 0 cp (v 0)) 1 cp (v 1)) 2 cp (v 2)) 3 cp (v 3) = learnAll B cp v := by
  funext L' cp'
  unfold learn learnAll
  by_cases h : cp' = cp
  · fin_cases L' <;> simp [h]
  · fin_cases L' <;> simp [h]

/-- What a row leaves known of the output. -/
def afterRow (c : Dev nD) (cp : Fin 2) (s : Fin 7) (B : Known F) : Known F := if s.val = 6 then learnAll B cp (fun L => ownAt m L cp c) else B

theorem afterRow_eq (c : Dev nD) (cp : Fin 2) (s : Fin 7) (B : Known F) :
    afterHop m c cp s 3 (afterHop m c cp s 2 (afterHop m c cp s 1 (afterHop m c cp s 0 B))) = afterRow m c cp s B := by
  unfold afterHop afterRow
  by_cases h : s.val = 6
  · simp only [if_pos h]; exact learn_all B cp fun L => ownAt m L cp c
  · simp only [if_neg h]

theorem wp_row (c : Dev nD) (cp : Fin 2) (s : Fin 7) (B : Known F) {a b a' b' : ℕ} (ha : a = hop cp s.val) (hb : b = pre cp s) (ha' : a' = hop cp s.val + 1) (hb' : b' = hop cp s.val)
    {k : P F} {Q : PUnit → sProp 𝕄} :
    iprop(kn m K KS c ∗ st m c (fun _ => a) (fun _ => b) B)
      ⊢ iprop((st m c (fun _ => a') (fun _ => b') (afterRow m c cp s B) -∗ run c k Q) -∗ run c (rowK c cp s k) Q) := by
  subst ha hb ha' hb'
  have hx : sl (hop cp s.val) ≤ sl (hop cp s.val + 1) := le_of_lt sl_lt
  have hy : sl (hop cp s.val) ≤ cl (hop cp s.val) := Nat.le_succ _
  have h0 : ∀ L' : Lane, sl (hop cp s.val) ≤ sl ((fun _ => hop cp s.val) L') ∧ sl (hop cp s.val) ≤ cl ((fun _ : Lane => pre cp s) L') := fun _ => ⟨le_rfl, sl_pre cp s⟩
  have h1 := far_update h0 0 hx hy
  have h2 := far_update h1 1 hx hy
  have h3 := far_update h2 2 hx hy
  unfold rowK
  iintro ⟨#H, Hst⟩ Hk
  iapply (wp_hop m K KS c cp s 0 _ _ B rfl rfl h0) $$ [Hst]
  · isplitr; · iexact H
    iexact Hst
  iintro Hst
  iapply (wp_hop m K KS c cp s 1 _ _ _ rfl rfl h1) $$ [Hst]
  · isplitr; · iexact H
    iexact Hst
  iintro Hst
  iapply (wp_hop m K KS c cp s 2 _ _ _ rfl rfl h2) $$ [Hst]
  · isplitr; · iexact H
    iexact Hst
  iintro Hst
  iapply (wp_hop m K KS c cp s 3 _ _ _ rfl rfl h3) $$ [Hst]
  · isplitr; · iexact H
    iexact Hst
  iintro Hst
  ihave Hst := (Entails.of_eq (show _ = st m c (fun _ => hop cp s.val + 1) (fun _ => hop cp s.val) (afterRow m c cp s B) by
    rw [← update_all (x := hop cp s.val) (y := hop cp s.val + 1), ← update_all (x := pre cp s) (y := hop cp s.val), ← afterRow_eq])) $$ Hst
  iapply Hk
  iexact Hst

/-- The seven rows of a pass. -/
theorem wp_pass (c : Dev nD) (cp : Fin 2) (B : Known F) {k : P F} {Q : PUnit → sProp 𝕄} :
    iprop(kn m K KS c ∗ st m c (fun _ => 7 * cp.val) (fun _ => 7 * cp.val) B)
      ⊢ iprop((st m c (fun _ => 7 * cp.val + 7) (fun _ => 7 * cp.val + 6) (learnAll B cp (fun L => ownAt m L cp c)) -∗ run c k Q) -∗ run c (passK c cp k) Q) := by
  unfold passK
  iintro ⟨#H, Hst⟩ Hk
  iapply (wp_row m K KS c cp 0 B (a' := 7 * cp.val + 1) (b' := 7 * cp.val) rfl rfl rfl rfl) $$ [Hst]
  · isplitr; · iexact H
    iexact Hst
  iintro Hst
  iapply (wp_row m K KS c cp 1 _ (a' := 7 * cp.val + 2) (b' := 7 * cp.val + 1) rfl rfl rfl rfl) $$ [Hst]
  · isplitr; · iexact H
    iexact Hst
  iintro Hst
  iapply (wp_row m K KS c cp 2 _ (a' := 7 * cp.val + 3) (b' := 7 * cp.val + 2) rfl rfl rfl rfl) $$ [Hst]
  · isplitr; · iexact H
    iexact Hst
  iintro Hst
  iapply (wp_row m K KS c cp 3 _ (a' := 7 * cp.val + 4) (b' := 7 * cp.val + 3) rfl rfl rfl rfl) $$ [Hst]
  · isplitr; · iexact H
    iexact Hst
  iintro Hst
  iapply (wp_row m K KS c cp 4 _ (a' := 7 * cp.val + 5) (b' := 7 * cp.val + 4) rfl rfl rfl rfl) $$ [Hst]
  · isplitr; · iexact H
    iexact Hst
  iintro Hst
  iapply (wp_row m K KS c cp 5 _ (a' := 7 * cp.val + 6) (b' := 7 * cp.val + 5) rfl rfl rfl rfl) $$ [Hst]
  · isplitr; · iexact H
    iexact Hst
  iintro Hst
  iapply (wp_row m K KS c cp 6 _ (a' := 7 * cp.val + 7) (b' := 7 * cp.val + 6) rfl rfl rfl rfl) $$ [Hst]
  · isplitr; · iexact H
    iexact Hst
  iintro Hst
  iapply Hk
  iexact Hst

/-! ## The closing steps of a pass -/

theorem wp_last (c : Dev nD) (cp : Fin 2) (L : Lane) (a b : Lane → ℕ) (B : Known F) {x : ℕ} (hx : x = hop cp 6 + 1) (ha : a L = hop cp 6 + 1) (hb : b L = hop cp 6)
    (hB : B L cp = some (ownAt m L cp c)) (hO : ∀ L', sl (hop cp 6) + 1 ≤ sl (a L') ∧ sl (hop cp 6) + 1 ≤ cl (b L')) {k : F .f32 → P F} {Q : PUnit → sProp 𝕄} :
    iprop(kn m K KS c ∗ st m c a b B)
      ⊢ iprop((st m c (Function.update a L x) (Function.update b L x) (learn B L cp (fin m L cp c)) ∗ heard Φe (back L c 6) -∗ run c (k (maxV (fin m L cp c))) Q)
        -∗ run c (lastK c cp L k) Q) := by
  subst hx
  have ht : hop cp 6 < 14 := hop_lt cp 6
  have hm : hop cp 6 % 7 = 6 := hop_mod cp 6
  have hg : Ge (sl (hop cp 6) + 1) (restO c a b L) := restO_ge c a b L (by have := sl_small ht; omega) hO
  refine (sep_mono_right (st_lane m c a b B L)).trans ?_
  rw [ha, hb]
  unfold lastK
  iintro ⟨#H, Hxw, Hout, Hs, Hr, Ho, Hput⟩ Hk
  iapply (wp_loadOut c B L cp hB) $$ Hout
  iintro Hout
  iapply (wp_recv m K KS c L (hop cp 6) (hop cp 6 + 1) ht le_rfl hg) $$ [Hr Ho]
  · isplitr; · iapply (kn_ctx m K KS c); iexact H
    isplitl [Hr]; · iexact Hr
    iexact Ho
  iintro %r ⟨%hr, Hr, Hh, Ho⟩
  have hfin := reluV_eq m L cp c r hr
  rw [hfin]
  iapply (wp_putOut c B L cp) $$ Hout
  iintro Hout
  iapply Hk
  isplitr [Hh]
  · iapply Hput $$ %(hop cp 6 + 1) %(hop cp 6 + 1) %(learn B L cp (fin m L cp c))
    isplitl [Hxw]; · iexact Hxw
    isplitl [Hout]; · iexact Hout
    isplitl [Hs]; · iexact Hs
    isplitl [Hr]; · iexact Hr
    iexact Ho
  iapply (Entails.of_eq (show heard (Φe (F := F)) (back L c (hop cp 6 % 7)) = heard Φe (back L c 6) by rw [hm])); iexact Hh

theorem wp_close (c : Dev nD) (cp : Fin 2) (B : Known F) {k : F .f32 → F .f32 → F .f32 → F .f32 → P F} {Q : PUnit → sProp 𝕄} :
    iprop(kn m K KS c ∗ st m c (fun _ => 7 * cp.val + 7) (fun _ => 7 * cp.val + 6) (learnAll B cp (fun L => ownAt m L cp c)))
      ⊢ iprop((st m c (fun _ => 7 * cp.val + 7) (fun _ => 7 * cp.val + 7) (learnAll B cp (fun L => fin m L cp c)) ∗ heard Φe (back 0 c 6)
          -∗ run c (k (maxV (fin m 0 cp c)) (maxV (fin m 1 cp c)) (maxV (fin m 2 cp c)) (maxV (fin m 3 cp c))) Q)
        -∗ run c (closeK c cp k) Q) := by
  obtain ⟨x, hx⟩ : ∃ x, x = 7 * cp.val + 7 := ⟨_, rfl⟩
  obtain ⟨y, hy⟩ : ∃ y, y = 7 * cp.val + 6 := ⟨_, rfl⟩
  rw [← hx, ← hy]
  have hx' : x = hop cp 6 + 1 := by unfold hop; omega
  have hy' : y = hop cp 6 := by unfold hop; omega
  have hsx : sl (hop cp 6) + 1 ≤ sl x := by rw [hx']; exact sl_lt
  have hcx : sl (hop cp 6) + 1 ≤ cl x := le_trans hsx (Nat.le_succ _)
  have hcy : sl (hop cp 6) + 1 ≤ cl y := by rw [hy']; exact le_rfl
  have h0 : ∀ L' : Lane, sl (hop cp 6) + 1 ≤ sl ((fun _ => x) L') ∧ sl (hop cp 6) + 1 ≤ cl ((fun _ : Lane => y) L') := fun _ => ⟨hsx, hcy⟩
  have h1 := far_update h0 0 hsx hcx
  have h2 := far_update h1 1 hsx hcx
  have h3 := far_update h2 2 hsx hcx
  have he : learn (learn (learn (learn (learnAll B cp fun L => ownAt m L cp c) 0 cp (fin m 0 cp c)) 1 cp (fin m 1 cp c)) 2 cp (fin m 2 cp c)) 3 cp (fin m 3 cp c)
      = learnAll B cp fun L => fin m L cp c := by
    rw [learn_all _ cp fun L => fin m L cp c]
    funext L' cp'
    unfold learnAll
    by_cases h : cp' = cp
    · rw [if_pos h, if_pos h]
    · rw [if_neg h, if_neg h, if_neg h]
  have hB : ∀ L, learnAll B cp (fun L => ownAt m L cp c) L cp = some (ownAt m L cp c) := fun L => by unfold learnAll; rw [if_pos rfl]
  have hlast : st m c (Function.update (Function.update (Function.update (Function.update (fun _ => x) 0 x) 1 x) 2 x) 3 x)
        (Function.update (Function.update (Function.update (Function.update (fun _ => y) 0 x) 1 x) 2 x) 3 x) (learn (learn (learn (learn (learnAll B cp fun L => ownAt m L cp c) 0 cp (fin m 0 cp c)) 1 cp (fin m 1 cp c)) 2 cp (fin m 2 cp c)) 3 cp (fin m 3 cp c))
      = st m c (fun _ => x) (fun _ => x) (learnAll B cp (fun L => fin m L cp c)) := by
    rw [he, update_all, update_all]
  obtain ⟨B0, hB0⟩ : ∃ B0, B0 = learnAll B cp (fun L => ownAt m L cp c) := ⟨_, rfl⟩
  rw [← hB0] at hB hlast ⊢
  unfold closeK
  iintro ⟨#H, Hst⟩ Hk
  iapply (wp_last m K KS c cp 0 (fun _ => x) (fun _ => y) B0 hx' hx' hy' (hB 0) h0) $$ [Hst]
  · isplitr; · iexact H
    iexact Hst
  iintro ⟨Hst, Hh⟩
  iapply (wp_last m K KS c cp 1 (Function.update (fun _ => x) 0 x) (Function.update (fun _ => y) 0 x) (learn B0 0 cp (fin m 0 cp c)) hx' hx' hy'
    (by rw [learn_ne _ _ _ _ (by decide)]; exact hB 1) h1) $$ [Hst]
  · isplitr; · iexact H
    iexact Hst
  iintro ⟨Hst, -⟩
  iapply (wp_last m K KS c cp 2 (Function.update (Function.update (fun _ => x) 0 x) 1 x) (Function.update (Function.update (fun _ => y) 0 x) 1 x)
    (learn (learn B0 0 cp (fin m 0 cp c)) 1 cp (fin m 1 cp c)) hx' hx' hy' (by rw [learn_ne _ _ _ _ (by decide), learn_ne _ _ _ _ (by decide)]; exact hB 2) h2) $$ [Hst]
  · isplitr; · iexact H
    iexact Hst
  iintro ⟨Hst, -⟩
  iapply (wp_last m K KS c cp 3 (Function.update (Function.update (Function.update (fun _ => x) 0 x) 1 x) 2 x) (Function.update (Function.update (Function.update (fun _ => y) 0 x) 1 x) 2 x)
    (learn (learn (learn B0 0 cp (fin m 0 cp c)) 1 cp (fin m 1 cp c)) 2 cp (fin m 2 cp c)) hx' hx' hy'
    (by rw [learn_ne _ _ _ _ (by decide), learn_ne _ _ _ _ (by decide), learn_ne _ _ _ _ (by decide)]; exact hB 3) h3) $$ [Hst]
  · isplitr; · iexact H
    iexact Hst
  iintro ⟨Hst, -⟩
  iapply Hk
  isplitl [Hst]
  · iapply (Entails.of_eq hlast); iexact Hst
  iexact Hh

end Cert.KernelIdeal.Ring
-- ==== Proof.Ends.lean ====
/-
The end of the kernel: the exchange of the largest values.
-/
module

public import proofs.«01_k».proof.Proof.Pass

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok heard USlots)

variable {F : FTy → Type} [FloatOps F]

local notation "𝕄" => MT nD τ sig ℕ (Elt F) ℕ UU ℕ

variable (m : (ℓ : Loc nD τ sig) → Buf (Elt F) ℓ) (K : Dev nD × CK → ℕ) (KS : SKey → ℕ)

/-! ## Steps taken once for each of the seven slots -/

theorem seven (Φ : Fin 7 → sProp 𝕄) : bigSep Finset.univ Φ = iprop(Φ 0 ∗ Φ 1 ∗ Φ 2 ∗ Φ 3 ∗ Φ 4 ∗ Φ 5 ∗ Φ 6) :=
  BI.bigSep_univ_eq_bigSepL [0, 1, 2, 3, 4, 5, 6] (by decide) (by decide) Φ

theorem four (Φ : Lane → sProp 𝕄) : bigSep Finset.univ Φ = iprop(Φ 0 ∗ Φ 1 ∗ Φ 2 ∗ Φ 3) :=
  BI.bigSep_univ_eq_bigSepL [0, 1, 2, 3] (by decide) (by decide) Φ

/-- A step for each slot turns each slot's resource into another, something else being threaded through. -/
theorem wp_each (c : Dev nD) (f : Fin 7 → P F → P F) (H : sProp 𝕄) [BI.Persistent H] (Φ Ψ : Fin 7 → sProp 𝕄) (R : ℕ → sProp 𝕄) {Q : PUnit → sProp 𝕄}
    (h : ∀ (b : Fin 7) (k : P F), iprop(H ∗ Φ b ∗ R b.val) ⊢ iprop((Ψ b ∗ R (b.val + 1) -∗ run c k Q) -∗ run c (f b k) Q)) {k : P F} :
    iprop(H ∗ bigSep Finset.univ Φ ∗ R 0) ⊢ iprop((bigSep Finset.univ Ψ ∗ R 7 -∗ run c k Q) -∗ run c (each f k) Q) := by
  rw [seven Φ, seven Ψ]
  unfold each
  have h0 : ∀ k : P F, iprop(H ∗ Φ 0 ∗ R 0) ⊢ iprop((Ψ 0 ∗ R 1 -∗ run c k Q) -∗ run c (f 0 k) Q) := h 0
  have h1 : ∀ k : P F, iprop(H ∗ Φ 1 ∗ R 1) ⊢ iprop((Ψ 1 ∗ R 2 -∗ run c k Q) -∗ run c (f 1 k) Q) := h 1
  have h2 : ∀ k : P F, iprop(H ∗ Φ 2 ∗ R 2) ⊢ iprop((Ψ 2 ∗ R 3 -∗ run c k Q) -∗ run c (f 2 k) Q) := h 2
  have h3 : ∀ k : P F, iprop(H ∗ Φ 3 ∗ R 3) ⊢ iprop((Ψ 3 ∗ R 4 -∗ run c k Q) -∗ run c (f 3 k) Q) := h 3
  have h4 : ∀ k : P F, iprop(H ∗ Φ 4 ∗ R 4) ⊢ iprop((Ψ 4 ∗ R 5 -∗ run c k Q) -∗ run c (f 4 k) Q) := h 4
  have h5 : ∀ k : P F, iprop(H ∗ Φ 5 ∗ R 5) ⊢ iprop((Ψ 5 ∗ R 6 -∗ run c k Q) -∗ run c (f 5 k) Q) := h 5
  have h6 : ∀ k : P F, iprop(H ∗ Φ 6 ∗ R 6) ⊢ iprop((Ψ 6 ∗ R 7 -∗ run c k Q) -∗ run c (f 6 k) Q) := h 6
  iintro ⟨#H, ⟨H0, H1, H2, H3, H4, H5, H6⟩, Hr⟩ Hk
  iapply (h0 _) $$ [H0 Hr]
  · isplitr; · iexact H
    isplitl [H0]; · iexact H0
    iexact Hr
  iintro ⟨H0, Hr⟩
  iapply (h1 _) $$ [H1 Hr]
  · isplitr; · iexact H
    isplitl [H1]; · iexact H1
    iexact Hr
  iintro ⟨H1, Hr⟩
  iapply (h2 _) $$ [H2 Hr]
  · isplitr; · iexact H
    isplitl [H2]; · iexact H2
    iexact Hr
  iintro ⟨H2, Hr⟩
  iapply (h3 _) $$ [H3 Hr]
  · isplitr; · iexact H
    isplitl [H3]; · iexact H3
    iexact Hr
  iintro ⟨H3, Hr⟩
  iapply (h4 _) $$ [H4 Hr]
  · isplitr; · iexact H
    isplitl [H4]; · iexact H4
    iexact Hr
  iintro ⟨H4, Hr⟩
  iapply (h5 _) $$ [H5 Hr]
  · isplitr; · iexact H
    isplitl [H5]; · iexact H5
    iexact Hr
  iintro ⟨H5, Hr⟩
  iapply (h6 _) $$ [H6 Hr]
  · isplitr; · iexact H
    isplitl [H6]; · iexact H6
    iexact Hr
  iintro ⟨H6, Hr⟩
  iapply Hk
  isplitr [Hr]
  · isplitl [H0]; · iexact H0
    isplitl [H1]; · iexact H1
    isplitl [H2]; · iexact H2
    isplitl [H3]; · iexact H3
    isplitl [H4]; · iexact H4
    isplitl [H5]; · iexact H5
    iexact H6
  iexact Hr

/-! ## The largest values' copies -/

theorem axO_step (c : Dev nD) (b : Fin 7) : axO c b.val = axO c (b.val + 1) + tallyAt (cell (axDst b c) (kAxr b)) 30 Nax := by
  unfold axO
  rw [show Finset.univ.filter (fun b' : Fin 7 => b.val ≤ b'.val) = insert b (Finset.univ.filter (fun b' : Fin 7 => b.val + 1 ≤ b'.val)) by
      ext x; simp only [Finset.mem_filter, Finset.mem_univ, true_and, Finset.mem_insert, Fin.ext_iff]; omega,
    Finset.sum_insert (by simp only [Finset.mem_filter, Finset.mem_univ, true_and]; omega), add_comm]

theorem axO_end (c : Dev nD) : axO c 7 = 0 := by
  unfold axO
  rw [Finset.filter_eq_empty_iff.mpr (fun b _ => by have := b.isLt; omega), Finset.sum_empty]

/-- What sending the largest value to slot b takes besides a share of the buffer. -/
def axTok (c : Dev nD) (b : Fin 7) : sProp 𝕄 :=
  iprop(dutyTok ER (cell c (kAxs b)) 0 0 ∗ dutyTok ER (cell (axDst b c) (kAxr b)) 0 0 ∗ writeTok ES (axDst b c, (.inr b : SK)) 1)

theorem wp_copyAx (c : Dev nD) (b : Fin 7) {k : P F} {Q : PUnit → sProp 𝕄} :
    iprop((ctx m K KS ∗ heard Φe (back 0 c 6)) ∗ (axsPay m c b ∗ axTok c b) ∗ owesE c (axO c b.val))
      ⊢ iprop((cred (tallyAt (cell c (kAxs b)) 0 Nax) ∗ owesE c (axO c (b.val + 1)) -∗ run c k Q) -∗ run c (copyAxK c b k) Q) := by
  unfold axTok axsPay copyAxK
  rw [axO_step]
  iintro ⟨⟨#H, #Hh⟩, ⟨Hf, Ht, Ht', Hw⟩, ⟨%W, Ho⟩⟩ Hk
  ihave #He := (Release.heard_elim Φe (back_all b c)) $$ Hh
  imod (Release.slot_take ES (ι := KS (axDst b c, .inr b)) (k := (axDst b c, .inr b)) (S := slotOf (axDst b c, .inr b)) (Set.mem_univ _) 1) $$ [Hw] with Hslot
  · isplitr; · iapply (ctx_slot m K KS (axDst b c, .inr b)); iexact H
    isplitr
    · unfold Φe
      iapply (bigSep_at (fun k : SK => (released ES (axDst b c, k) 1 : sProp 𝕄)) (.inr b)); iexact He
    iexact Hw
  unfold slotOf
  icases Hslot with ⟨%fd, Hd⟩
  iapply (Rounds.wp_send_pointsTo 𝒱₀ ER (ringRd m) (c : Thread nD τ) none (c' := (axDst b c : Thread nD τ)) (src := axM) (dst := axSlot b)
      (sS := csem (kAxs b)) (sem := csem (kAxr b))
      (κ₁ := K (c, kAxs b)) (κ₂ := K (axDst b c, kAxr b)) (r₁ := 0) (r₂ := 0) (d₁ := 0) (d₂ := 0) (q := Transfers.shareTok fullShare 7 b) (fs := spreadV (locV m c)) (fd := fd)
      (show 0 ∈ (ringRd m).duties (cell c (kAxs b)) 0 by rw [duties_cell]; exact Finset.mem_singleton_self 0)
      (show 0 ∈ (ringRd m).duties (cell (axDst b c) (kAxr b)) 0 by rw [duties_cell]; exact Finset.mem_singleton_self 0)
      30 0 Nax (ax_credit b) (amount_cell m c (kAxs b) 0 0) (amount_cell m (axDst b c) (kAxr b) 0 0)
      (axO c (b.val + 1)) rfl
      (by rw [show ((c : Thread nD τ), csem (kAxs b)) = cell c (kAxs b) from rfl, payload_cell]; exact BI.Entails.refl _)
      (by rw [show ((axDst b c : Thread nD τ), csem (kAxr b)) = cell (axDst b c) (kAxr b) from rfl, payload_cell]
          show _ ⊢ axrPay m (axDst b c) b
          unfold axrPay
          rw [axSrc_axDst]
          iintro Hd
          iexists _
          isplitl [Hd]; · iexact Hd
          ipureintro
          rw [View.read_write_univ]; exact View.read_whole _ _)) $$ [Hf Hd Ht Ht' Ho]
  · isplitr; · iapply (ctx_inv m K KS c (kAxs b)); iexact H
    isplitr; · iapply (ctx_inv m K KS (axDst b c) (kAxr b)); iexact H
    isplitl [Hf]; · iexact Hf
    isplitl [Hd]; · iexact Hd
    isplitl [Ho]; · iexact Ho
    isplitl [Ht]; · iexact Ht
    isplitr; · iapply (ctx_reached m K KS c (kAxs b)); iexact H
    isplitl [Ht']; · iexact Ht'
    iapply (ctx_reached m K KS (axDst b c) (kAxr b)); iexact H
  iintro ⟨Hc, Ho⟩
  iapply Hk
  isplitl [Hc]; · iexact Hc
  iexists W; iexact Ho

theorem wp_waitAxSend (c : Dev nD) (b : Fin 7) {k : P F} {Q : PUnit → sProp 𝕄} :
    iprop(ctx m K KS ∗ (cred (tallyAt (cell c (kAxs b)) 0 Nax) ∗ atPos ER (cell c (kAxs b)) 0 ∅ 0) ∗ owesE c 0)
      ⊢ iprop(((atPos ER (cell c (kAxs b)) 1 ∅ 0 ∗ axsPay m c b) ∗ owesE c 0 -∗ run c k Q) -∗ run c (waitAxSendK b k) Q) := by
  unfold waitAxSendK
  iintro ⟨#H, ⟨Hc, Hat⟩, Ho⟩ Hk
  iapply (wp_wait1 m K KS c (kAxs b) 0 0
    (w := .waitDma2 (axSendS b).sem (axSlot b) axM ((View.wordExact_bits rfl).reshape _ _) (Memref.isWhole_whole cc0_scratch20).wordExact) (wpE_waitDma2_eq 𝒱₀ (c : Thread nD τ) none Set.univ) rfl
    rfl (by decide) (Ge.zero 1)) $$ [Hc Ho Hat]
  · isplitr; · iexact H
    isplitl [Hc]; · iexact Hc
    isplitl [Ho]; · iexact Ho
    iexact Hat
  iintro ⟨Ho, Hat, -, Hpay⟩
  iapply Hk
  isplitr [Ho]
  · isplitl [Hat]; · iexact Hat
    iapply (Entails.of_eq (show payK m c (kAxs b) 0 0 = axsPay m c b from rfl)); iexact Hpay
  iexact Ho

theorem wp_waitAxRecv (c : Dev nD) (b : Fin 7) {k : P F} {Q : PUnit → sProp 𝕄} :
    iprop(ctx m K KS ∗ (cred (tallyAt (cell c (kAxr b)) 30 Nax) ∗ atPos ER (cell c (kAxr b)) 0 ∅ 0) ∗ owesE c 0)
      ⊢ iprop(((atPos ER (cell c (kAxr b)) 1 ∅ 0 ∗ axrPay m c b) ∗ owesE c 0 -∗ run c k Q) -∗ run c (waitAxRecvK b k) Q) := by
  unfold waitAxRecvK
  iintro ⟨#H, ⟨Hc, Hat⟩, Ho⟩ Hk
  iapply (wp_wait1 m K KS c (kAxr b) 0 30
    (w := .waitDma2 (axRecvS b).sem axM (axSlot b) (Memref.isWhole_whole cc0_scratch20).wordExact ((View.wordExact_bits rfl).reshape _ _)) (wpE_waitDma2_eq 𝒱₀ (c : Thread nD τ) none Set.univ) (ax_credit b)
    rfl (by decide) (Ge.zero 31)) $$ [Hc Ho Hat]
  · isplitr; · iexact H
    isplitl [Hc]; · iexact Hc
    isplitl [Ho]; · iexact Ho
    iexact Hat
  iintro ⟨Ho, Hat, -, Hpay⟩
  iapply Hk
  isplitr [Ho]
  · isplitl [Hat]; · iexact Hat
    iapply (Entails.of_eq (show payK m c (kAxr b) 0 0 = axrPay m c b from rfl)); iexact Hpay
  iexact Ho

/-! ## The buffers of the largest values -/

/-- A whole buffer of the kernel's, at any contents. -/
abbrev anyBuf (c : Dev nD) (b : Ref sig .tc) : sProp 𝕄 := iprop(∃ f : Buf (Elt F) ((c : Thread nD τ).loc b), ((c : Thread nD τ).loc b) ↦{fullShare} f)

theorem wp_putAx (c : Dev nD) (v : FVec F S1x128 .f32) {k : P F} {Q : PUnit → sProp 𝕄} :
    anyBuf c cc0_scratch20 ⊢ iprop(((((c : Thread nD τ).loc cc0_scratch20) ↦{fullShare} v) -∗ run c k Q) -∗ run c (putAxK v k) Q) := by
  have h0 : (![0, 0] : Fin 2 → ℕ) = fun _ => 0 := by decide
  unfold putAxK
  iintro ⟨%f, Hf⟩ Hk
  iapply (wp_load 𝒱₀ (c : Thread nD τ) none Set.univ (m := axM) (Finset.subset_univ _)) $$ Hf
  iintro Hf
  iapply (wp_store 𝒱₀ (c : Thread nD τ) none Set.univ (m := axM) (r := aR) (Mk := Finset.univ) (Finset.subset_univ _)) $$ Hf
  rw [show (axM.access aR).write (Elt F) f v Finset.univ = v from Memref.write_access_unit_zero_univ (Elt F) cc0_scratch20 h0 inb_S1x128_S1x128_0_0 f v]
  iintro Hf
  iapply Hk
  iexact Hf

theorem axSlot_set (b : Fin 7) : (axSlot b).view.set = (Rect.unit (s := S7x1x128) ![b.val, 0, 0] S1x1x128.size (ax_inb b)).set :=
  (View.set_reshape _ _).trans (View.set_slice_whole _ _)

theorem mem_axSlot (b : Fin 7) (i : S7x1x128.Idx) : i ∈ (Rect.unit (s := S7x1x128) ![b.val, 0, 0] S1x1x128.size (ax_inb b)).set ↔ i 0 = b := by
  rw [Rect.mem_set_unit]
  constructor
  · intro h
    have h0 := h 0
    simp only [Matrix.cons_val_zero] at h0
    have : S1x1x128.size 0 = 1 := rfl
    exact Fin.ext (by omega)
  · rintro rfl a
    have h1 : (i 1).val < 1 := (i 1).isLt
    have h2 : (i 2).val < 128 := (i 2).isLt
    fin_cases a
    · exact ⟨le_rfl, Nat.lt_succ_self _⟩
    · exact ⟨Nat.zero_le _, (by show (i 1).val < 0 + 1; omega)⟩
    · exact ⟨Nat.zero_le _, (by show (i 2).val < 0 + 128; omega)⟩

theorem spreadV_apply (v : F .f32) (j : S1x128.Idx) : spreadV v j = v := rfl

/-- A buffer that reads as a slot's value holds it throughout the slot. -/
theorem axSlot_val (b : Fin 7) (v : F .f32) (f : (axSlot b).view.ty.Contents (Elt F)) (h : (axSlot b).view.read (Elt F) f = spreadV v)
    (i : S7x1x128.Idx) (hi : i ∈ (axSlot b).view.set) : f i = v := by
  obtain ⟨j, -, rfl⟩ := Finset.mem_map.mp hi
  exact congrFun h j

abbrev axK (b : Fin 7) : Finset S7x1x128.Idx := (axSlot b).view.set

theorem axK_disjoint (b b' : Fin 7) (h : b ≠ b') : Disjoint (axK b) (axK b') := by
  rw [Finset.disjoint_left]
  intro i hi hi'
  unfold axK at hi hi'
  rw [axSlot_set, mem_axSlot] at hi hi'
  exact h (hi.symm.trans hi')

theorem axK_cover (i : S7x1x128.Idx) : ∃ b, i ∈ axK b := by
  obtain ⟨b, hb⟩ : ∃ b : Fin 7, i 0 = b := ⟨i 0, rfl⟩
  refine ⟨b, ?_⟩
  unfold axK
  rw [axSlot_set, mem_axSlot]
  exact hb

/-- The buffer of received values is its seven slots. -/
theorem ax_slots (c : Dev nD) (f : Buf (Elt F) ((c : Thread nD τ).loc cc0_scratch21)) :
    (((c : Thread nD τ).loc cc0_scratch21) ↦{fullShare} f : sProp 𝕄) = bigSep Finset.univ fun b : Fin 7 => (((c : Thread nD τ).loc cc0_scratch21) ↦[axK b]{fullShare} f) := by
  refine Eq.trans ?_ (pointsTo_biUnion (ℓ := (c : Thread nD τ).loc cc0_scratch21) (q := fullShare) (f := f) Finset.univ
    (fun b : Fin 7 => (axK b : Finset (Idx ((c : Thread nD τ).loc cc0_scratch21)))) fun b _ b' _ h => axK_disjoint b b' h)
  refine congrArg (fun S : Finset (Idx ((c : Thread nD τ).loc cc0_scratch21)) => (((c : Thread nD τ).loc cc0_scratch21) ↦[S]{fullShare} f : sProp 𝕄)) ?_
  refine (Finset.eq_univ_iff_forall.mpr fun i => ?_).symm
  obtain ⟨b, hb⟩ := axK_cover i
  exact Finset.mem_biUnion.mpr ⟨b, Finset.mem_univ _, hb⟩

theorem ax_filled (c : Dev nD) (b : Fin 7) : axrPay m c b ⊢ (((c : Thread nD τ).loc cc0_scratch21) ↦[axK b]{fullShare} axV m c : sProp 𝕄) := by
  unfold axrPay
  iintro ⟨%f, Hf, %h⟩
  iapply (Entails.of_eq (pointsTo_congr (f := f) (g := axV m c) (ℓ := (c : Thread nD τ).loc cc0_scratch21) (I := axK b) (q := fullShare) fun i hi => (axSlot_val b _ f h i hi).trans (by
    unfold axV
    have hb : i 0 = b := (mem_axSlot b i).mp (axSlot_set b ▸ hi)
    rw [hb])))
  iexact Hf

/-- The seven filled slots are the buffer of received values. -/
theorem ax_join (c : Dev nD) : bigSep Finset.univ (axrPay m c) ⊢ (((c : Thread nD τ).loc cc0_scratch21) ↦{fullShare} axV m c : sProp 𝕄) :=
  (BI.bigSep_mono fun b _ => ax_filled m c b).trans (Entails.of_eq (ax_slots c _).symm)

theorem wp_loadAx (c : Dev nD) {f : Buf (Elt F) ((c : Thread nD τ).loc cc0_scratch21)} {k : Vec F S7x1x128 .f32 → P F} {Q : PUnit → sProp 𝕄} :
    (((c : Thread nD τ).loc cc0_scratch21) ↦{fullShare} f)
      ⊢ iprop(((((c : Thread nD τ).loc cc0_scratch21) ↦{fullShare} f) -∗ run c (k f) Q) -∗ run c (loadAxK k) Q) := by
  have h0 : (![0, 0, 0] : Fin 3 → ℕ) = fun _ => 0 := by decide
  unfold loadAxK
  iintro Hf Hk
  iapply (wp_load 𝒱₀ (c : Thread nD τ) none Set.univ (m := axsM) (Finset.subset_univ _)) $$ Hf
  rw [show axsM.view.readAt (Elt F) (Rect.unit (s := S7x1x128) ![0, 0, 0] S7x1x128.size inb_S7x1x128_S7x1x128_0_0_0).toLoadRect f = f from
    Memref.readAt_unit_zero (Elt F) cc0_scratch21 h0 inb_S7x1x128_S7x1x128_0_0_0 f]
  iexact Hk

/-! ## The quantised blocks -/

theorem wp_quant (c : Dev nD) (B : Known F) (g : F .f32) (L : Lane) (cp : Fin 2) {y : FVec F S512x1024 .f32} (hy : B L cp = some y) {k : P F} {Q : PUnit → sProp 𝕄} :
    outI c B ⊢ iprop((outI c (learn B L cp (quantV g y)) -∗ run c k Q) -∗ run c (quantK g L cp k) Q) := by
  unfold quantK
  iintro H Hk
  iapply (wp_loadOut c B L cp hy) $$ H
  iintro H
  iapply (wp_putOut c B L cp (quantV g y)) $$ H
  iintro H
  iapply Hk
  iexact H

theorem wp_quantAll (c : Dev nD) (B : Known F) (hB : ∀ L cp, B L cp = some (fin m L cp c)) {k : P F} {Q : PUnit → sProp 𝕄} :
    outI c B ⊢ iprop((outI c (fun L cp => some (outB m L cp c)) -∗ run c k Q) -∗ run c (quantAllK (gloV m c) k) Q) := by
  have hfin : (learn (learn (learn (learn (learn (learn (learn (learn B 0 0 (outB m 0 0 c)) 2 0 (outB m 2 0 c)) 0 1 (outB m 0 1 c)) 2 1 (outB m 2 1 c))
      1 0 (outB m 1 0 c)) 3 0 (outB m 3 0 c)) 1 1 (outB m 1 1 c)) 3 1 (outB m 3 1 c)) = fun L cp => some (outB m L cp c) := by
    funext L cp
    fin_cases L <;> fin_cases cp <;> simp [learn]
  rw [← hfin]
  unfold quantAllK
  iintro H Hk
  iapply (wp_quant c _ (gloV m c) 0 0 (y := fin m 0 0 c) (by simp [learn, hB])) $$ H
  iintro H
  iapply (wp_quant c _ (gloV m c) 2 0 (y := fin m 2 0 c) (by simp [learn, hB])) $$ H
  iintro H
  iapply (wp_quant c _ (gloV m c) 0 1 (y := fin m 0 1 c) (by simp [learn, hB])) $$ H
  iintro H
  iapply (wp_quant c _ (gloV m c) 2 1 (y := fin m 2 1 c) (by simp [learn, hB])) $$ H
  iintro H
  iapply (wp_quant c _ (gloV m c) 1 0 (y := fin m 1 0 c) (by simp [learn, hB])) $$ H
  iintro H
  iapply (wp_quant c _ (gloV m c) 3 0 (y := fin m 3 0 c) (by simp [learn, hB])) $$ H
  iintro H
  iapply (wp_quant c _ (gloV m c) 1 1 (y := fin m 1 1 c) (by simp [learn, hB])) $$ H
  iintro H
  iapply (wp_quant c _ (gloV m c) 3 1 (y := fin m 3 1 c) (by simp [learn, hB])) $$ H
  iintro H
  iapply Hk
  iexact H

/-! ## The end of the body -/

/-- A device's cells, each after its last round. -/
def doneAts (c : Dev nD) : sProp 𝕄 := bigSep Finset.univ fun k : CK => atPos ER (cell c k) (lastK' k) ∅ 0

/-- What a device hands back of its buffers. -/
def bufs (c : Dev nD) : sProp 𝕄 :=
  iprop((bigSep Finset.univ fun L : Lane => iprop(sendSlot c L ∗ bigSep Finset.univ fun b : Fin 2 => slotOf (c, .inl (L, b)))) ∗ anyBuf c cc0_scratch20 ∗ anyBuf c cc0_scratch21)

/-- What the exchange of the largest values takes. -/
def axRes (c : Dev nD) : sProp 𝕄 :=
  iprop((bigSep Finset.univ fun b : Fin 7 => axTok c b) ∗ (bigSep Finset.univ fun b : Fin 7 => atPos ER (cell c (kAxs b)) 0 ∅ 0)
    ∗ bigSep Finset.univ fun b : Fin 7 => iprop(cred (tallyAt (cell c (kAxr b)) 30 Nax) ∗ atPos ER (cell c (kAxr b)) 0 ∅ 0))

/-- A lane after its last step. -/
theorem lane_done (c : Dev nD) (L : Lane) :
    iprop(sendI c L 14 ∗ recvI c L 14) ⊢ (iprop(sendPart c L 14 ∗ (atPos ER (cell c (kCred L)) 1 ∅ 0 ∗ (bigSep Finset.univ fun b : Fin 2 => atPos ER (cell c (kRecv L b)) 7 ∅ 0))
      ∗ bigSep Finset.univ fun b : Fin 2 => slotOf (c, .inl (L, b))) : sProp 𝕄) := by
  unfold sendI recvI credPart
  rw [if_pos rfl, if_neg (by decide)]
  rw [show Finset.Ico 12 14 = {12, 13} from by decide, BI.bigSep_insert (by decide), BI.bigSep_singleton]
  rw [BI.bigSep_univ_eq_bigSepL [(0 : Fin 2), 1] (by decide) (by decide) fun b : Fin 2 => slotOf (F := F) (c, .inl (L, b))]
  iintro ⟨⟨Hs, Hc, -⟩, ⟨Hat, -, -, Hsl, -⟩⟩
  isplitl [Hs]; · iexact Hs
  isplitl [Hc Hat]
  · isplitl [Hc]; · iexact Hc
    iapply (Entails.of_eq (BI.bigSep_congr fun (b : Fin 2) _ => (show (atPos ER (cell c (kRecv L b)) (cnt 14 b) ∅ 0 : sProp 𝕄) = atPos ER (cell c (kRecv L b)) 7 ∅ 0 by fin_cases b <;> rfl)))
    iexact Hat
  iapply (Entails.of_eq (show (iprop(slotOf (c, .inl (L, par 12)) ∗ slotOf (c, .inl (L, par 13))) : sProp 𝕄) = bigSepL [0, 1] fun b : Fin 2 => slotOf (c, .inl (L, b)) from rfl))
  iexact Hsl

theorem wp_sendsOut (c : Dev nD) {k : P F} {Q : PUnit → sProp 𝕄} :
    iprop(ctx m K KS ∗ (bigSep Finset.univ fun L : Lane => sendPart c L 14) ∗ owesE c (axO c 0))
      ⊢ iprop(((bigSep Finset.univ fun L : Lane => iprop(atPos ER (cell c (kSend L)) 14 ∅ 0 ∗ sendSlot c L)) ∗ owesE c (axO c 0) -∗ run c k Q)
        -∗ run c (waitSendK 0 1 <| waitSendK 1 1 <| waitSendK 2 1 <| waitSendK 3 1 k) Q) := by
  have hO : Ge 1 (axO c 0) := (axO_ge c 0).mono (by decide)
  rw [four, four]
  iintro ⟨#H, ⟨H0, H1, H2, H3⟩, Ho⟩ Hk
  iapply (wp_waitSend m K KS c 0 13 (by decide) 1 hO) $$ [H0 Ho]
  · isplitr; · iexact H
    isplitl [H0]; · iexact H0
    iexact Ho
  iintro ⟨Ha0, -, H0, Ho⟩
  iapply (wp_waitSend m K KS c 1 13 (by decide) 1 hO) $$ [H1 Ho]
  · isplitr; · iexact H
    isplitl [H1]; · iexact H1
    iexact Ho
  iintro ⟨Ha1, -, H1, Ho⟩
  iapply (wp_waitSend m K KS c 2 13 (by decide) 1 hO) $$ [H2 Ho]
  · isplitr; · iexact H
    isplitl [H2]; · iexact H2
    iexact Ho
  iintro ⟨Ha2, -, H2, Ho⟩
  iapply (wp_waitSend m K KS c 3 13 (by decide) 1 hO) $$ [H3 Ho]
  · isplitr; · iexact H
    isplitl [H3]; · iexact H3
    iexact Ho
  iintro ⟨Ha3, -, H3, Ho⟩
  iapply Hk
  isplitr [Ho]
  · isplitl [Ha0 H0]
    · isplitl [Ha0]; · iexact Ha0
      iexact H0
    isplitl [Ha1 H1]
    · isplitl [Ha1]; · iexact Ha1
      iexact H1
    isplitl [Ha2 H2]
    · isplitl [Ha2]; · iexact Ha2
      iexact H2
    isplitl [Ha3]; · iexact Ha3
    iexact H3
  iexact Ho

/-- The exchange of the largest values. -/
theorem wp_exchange (c : Dev nD) {k : Vec F S7x1x128 .f32 → P F} {Q : PUnit → sProp 𝕄} :
    iprop((ctx m K KS ∗ heard Φe (back 0 c 6)) ∗ anyBuf c cc0_scratch20 ∗ axRes c ∗ owesE c (axO c 0))
      ⊢ iprop((anyBuf c cc0_scratch20 ∗ anyBuf c cc0_scratch21 ∗ (bigSep Finset.univ fun b : Fin 7 => atPos ER (cell c (kAxs b)) 1 ∅ 0)
            ∗ (bigSep Finset.univ fun b : Fin 7 => atPos ER (cell c (kAxr b)) 1 ∅ 0) ∗ owesE c 0 -∗ run c (k (axV m c)) Q)
        -∗ run c (putAxK (spreadV (locV m c)) <| each (copyAxK c) <| each waitAxSendK <| each waitAxRecvK <| loadAxK k) Q) := by
  unfold axRes
  iintro ⟨#H, Hb, ⟨Ht, Hs, Hr⟩, Ho⟩ Hk
  iapply (wp_putAx c (spreadV (locV m c))) $$ Hb
  iintro Hb
  ihave Hb := (Transfers.pointsTo_toks_split fullShare 7) $$ Hb
  icases Hb with ⟨Hd, Hb⟩
  iapply (wp_each c (copyAxK c) iprop(ctx m K KS ∗ heard Φe (back 0 c 6)) (fun b => iprop(axsPay m c b ∗ axTok c b)) (fun b => cred (tallyAt (cell c (kAxs b)) 0 Nax))
    (fun n => owesE c (axO c n)) (fun b k => wp_copyAx m K KS c b)) $$ [Hb Ht Ho]
  · isplitr; · iexact H
    isplitr [Ho]
    · iapply (Entails.of_eq (bigSep_sep' Finset.univ (axsPay m c) (axTok (F := F) c)).symm)
      isplitl [Hb]; · iexact Hb
      iexact Ht
    iexact Ho
  iintro ⟨Hc, Ho⟩
  ihave Ho := (Entails.of_eq (show owesE (F := F) c (axO c 7) = owesE c 0 by rw [axO_end])) $$ Ho
  icases H with ⟨#H, -⟩
  iapply (wp_each c waitAxSendK (ctx m K KS) (fun b => iprop(cred (tallyAt (cell c (kAxs b)) 0 Nax) ∗ atPos ER (cell c (kAxs b)) 0 ∅ 0))
    (fun b => iprop(atPos ER (cell c (kAxs b)) 1 ∅ 0 ∗ axsPay m c b)) (fun _ => owesE c 0) (fun b k => wp_waitAxSend m K KS c b)) $$ [Hc Hs Ho]
  · isplitr; · iexact H
    isplitr [Ho]
    · iapply (Entails.of_eq (bigSep_sep' Finset.univ (fun b : Fin 7 => (cred (tallyAt (cell c (kAxs b)) 0 Nax) : sProp 𝕄)) (fun b => atPos ER (cell c (kAxs b)) 0 ∅ 0)).symm)
      isplitl [Hc]; · iexact Hc
      iexact Hs
    iexact Ho
  iintro ⟨Hs, Ho⟩
  ihave Hs := (Entails.of_eq (bigSep_sep' Finset.univ (fun b : Fin 7 => (atPos ER (cell c (kAxs b)) 1 ∅ 0 : sProp 𝕄)) (axsPay m c))) $$ Hs
  icases Hs with ⟨Hs, Hb⟩
  iapply (wp_each c waitAxRecvK (ctx m K KS) (fun b => iprop(cred (tallyAt (cell c (kAxr b)) 30 Nax) ∗ atPos ER (cell c (kAxr b)) 0 ∅ 0))
    (fun b => iprop(atPos ER (cell c (kAxr b)) 1 ∅ 0 ∗ axrPay m c b)) (fun _ => owesE c 0) (fun b k => wp_waitAxRecv m K KS c b)) $$ [Hr Ho]
  · isplitr; · iexact H
    isplitr [Ho]; · iexact Hr
    iexact Ho
  iintro ⟨Hr, Ho⟩
  ihave Hr := (Entails.of_eq (bigSep_sep' Finset.univ (fun b : Fin 7 => (atPos ER (cell c (kAxr b)) 1 ∅ 0 : sProp 𝕄)) (axrPay m c))) $$ Hr
  icases Hr with ⟨Hr, Hg⟩
  ihave Hg := (ax_join m c) $$ Hg
  iapply (wp_loadAx c) $$ Hg
  iintro Hg
  iapply Hk
  isplitl [Hd Hb]
  · iexists _
    iapply (Transfers.pointsTo_toks_join fullShare 7)
    isplitl [Hd]; · iexact Hd
    iexact Hb
  isplitl [Hg]; · iexists _; iexact Hg
  isplitl [Hs]; · iexact Hs
  isplitl [Hr]; · iexact Hr
  iexact Ho

/-- The cells' last positions, kind by kind. -/
theorem doneAts_intro (c : Dev nD) :
    iprop(atPos ER (cell c kBar) 1 ∅ 0 ∗ (bigSep Finset.univ fun L : Lane => atPos ER (cell c (kSend L)) 14 ∅ 0)
      ∗ (bigSep Finset.univ fun L : Lane => bigSep Finset.univ fun b : Fin 2 => atPos ER (cell c (kRecv L b)) 7 ∅ 0)
      ∗ (bigSep Finset.univ fun L : Lane => atPos ER (cell c (kCred L)) 1 ∅ 0)
      ∗ (bigSep Finset.univ fun b : Fin 7 => atPos ER (cell c (kAxs b)) 1 ∅ 0) ∗ bigSep Finset.univ fun b : Fin 7 => atPos ER (cell c (kAxr b)) 1 ∅ 0)
    ⊢ (doneAts c : sProp 𝕄) := by
  unfold doneAts
  rw [BI.bigSep_univ_sum, BI.bigSep_univ_sum, BI.bigSep_univ_sum, BI.bigSep_univ_sum, BI.bigSep_univ_sum, BI.bigSep_univ_prod,
    BI.bigSep_univ_eq_bigSepL [()] (by decide) (by decide)]
  exact BI.Entails.refl _

/-- What the body leaves. -/
def endRes (c : Dev nD) : sProp 𝕄 :=
  iprop(xw m c ∗ outI c (fun L cp => some (outB m L cp c)) ∗ bufs c ∗ doneAts c ∗ owesE c 0)

theorem run_ret (c : Dev nD) (R : sProp 𝕄) : iprop(|={Set.univ}=> R) ⊢ run c (.ret ⟨⟩ : P F) (fun _ => R) := by
  unfold run
  rw [wp_ret]

theorem wp_end (c : Dev nD) (R : sProp 𝕄) (hR : iprop(ctx m K KS ∗ endRes m c) ⊢ iprop(|={Set.univ}=> R)) (B : Known F) (hB : ∀ L cp, B L cp = some (fin m L cp c)) :
    iprop((kn m K KS c ∗ heard Φe (back 0 c 6)) ∗ st m c (fun _ => 14) (fun _ => 14) B ∗ anyBuf c cc0_scratch20 ∗ axRes c ∗ atPos ER (cell c kBar) 1 ∅ 0)
      ⊢ run c (endK c (locV m c)) (fun _ => R) := by
  unfold st endK
  rw [show axO c 0 + ∑ L : Lane, laneO c L 14 14 = axO c 0 by rw [Finset.sum_eq_zero fun L _ => laneO_end c L, add_zero]]
  iintro ⟨⟨#Hk, #Hh⟩, ⟨Hx, Hout, Hl, Ho⟩, Hb, Hax, Hbar⟩
  ihave #H := (kn_ctx m K KS c) $$ Hk
  ihave Hl := (show (bigSep Finset.univ fun L : Lane => iprop(sendI c L 14 ∗ recvI c L 14)) ⊢ (bigSep Finset.univ fun L : Lane => iprop(sendPart c L 14 ∗ (atPos ER (cell c (kCred L)) 1 ∅ 0 ∗ (bigSep Finset.univ fun b : Fin 2 => atPos ER (cell c (kRecv L b)) 7 ∅ 0))
      ∗ bigSep Finset.univ fun b : Fin 2 => slotOf (c, .inl (L, b))) : sProp 𝕄) from BI.bigSep_mono fun L _ => lane_done c L) $$ Hl
  ihave Hl := (Entails.of_eq (bigSep_sep' Finset.univ (fun L : Lane => (sendPart c L 14 : sProp 𝕄))
    (fun L : Lane => iprop((atPos ER (cell c (kCred L)) 1 ∅ 0 ∗ (bigSep Finset.univ fun b : Fin 2 => atPos ER (cell c (kRecv L b)) 7 ∅ 0))
      ∗ bigSep Finset.univ fun b : Fin 2 => slotOf (c, .inl (L, b)))))) $$ Hl
  icases Hl with ⟨Hs, Hl⟩
  ihave Hl := (Entails.of_eq (bigSep_sep' Finset.univ (fun L : Lane => (iprop(atPos ER (cell c (kCred L)) 1 ∅ 0 ∗ (bigSep Finset.univ fun b : Fin 2 => atPos ER (cell c (kRecv L b)) 7 ∅ 0)) : sProp 𝕄))
    (fun L : Lane => bigSep Finset.univ fun b : Fin 2 => slotOf (c, .inl (L, b))))) $$ Hl
  icases Hl with ⟨Hl, Hsl⟩
  ihave Hl := (Entails.of_eq (bigSep_sep' Finset.univ (fun L : Lane => (atPos ER (cell c (kCred L)) 1 ∅ 0 : sProp 𝕄))
    (fun L : Lane => bigSep Finset.univ fun b : Fin 2 => atPos ER (cell c (kRecv L b)) 7 ∅ 0))) $$ Hl
  icases Hl with ⟨Hcr, Hrv⟩
  iapply (wp_sendsOut m K KS c) $$ [Hs Ho]
  · isplitr; · iexact H
    isplitl [Hs]; · iexact Hs
    iexact Ho
  iintro ⟨Hs, Ho⟩
  ihave Hs := (Entails.of_eq (bigSep_sep' Finset.univ (fun L : Lane => (atPos ER (cell c (kSend L)) 14 ∅ 0 : sProp 𝕄)) (fun L : Lane => sendSlot c L))) $$ Hs
  icases Hs with ⟨Hs, Hss⟩
  iapply (wp_exchange m K KS c) $$ [Hb Hax Ho]
  · isplitr
    · isplitr; · iexact H
      iexact Hh
    isplitl [Hb]; · iexact Hb
    isplitl [Hax]; · iexact Hax
    iexact Ho
  iintro ⟨Hb, Hb', Has, Har, Ho⟩
  iapply (wp_quantAll m c B hB) $$ Hout
  iintro Hout
  iapply (run_ret c R)
  iapply hR
  isplitr; · iexact H
  unfold endRes bufs
  isplitl [Hx]; · iexact Hx
  isplitl [Hout]; · iexact Hout
  isplitl [Hss Hsl Hb Hb']
  · isplitl [Hss Hsl]
    · iapply (Entails.of_eq (bigSep_sep' Finset.univ (fun L : Lane => (sendSlot c L : sProp 𝕄)) (fun L : Lane => bigSep Finset.univ fun b : Fin 2 => slotOf (c, .inl (L, b)))).symm)
      isplitl [Hss]; · iexact Hss
      iexact Hsl
    isplitl [Hb]; · iexact Hb
    iexact Hb'
  isplitr [Ho]
  · iapply (doneAts_intro c)
    isplitl [Hbar]; · iexact Hbar
    isplitl [Hs]; · iexact Hs
    isplitl [Hrv]; · iexact Hrv
    isplitl [Hcr]; · iexact Hcr
    isplitl [Has]; · iexact Has
    iexact Har
  iexact Ho

end Cert.KernelIdeal.Ring
-- ==== Proof.Entry.lean ====
/-
The start of the kernel, and the whole body.
-/
module

public import proofs.«01_k».proof.Proof.Ends

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok heard USlots)

variable {F : FTy → Type} [FloatOps F]

local notation "𝕄" => MT nD τ sig ℕ (Elt F) ℕ UU ℕ

variable (m : (ℓ : Loc nD τ sig) → Buf (Elt F) ℓ) (K : Dev nD × CK → ℕ) (KS : SKey → ℕ)

/-! ## Buffers and slots -/

/-- A lane's buffer of receive slots, at any contents. -/
def anyRecv (c : Dev nD) (L : Lane) : sProp 𝕄 := iprop(∃ f : Buf (Elt F) ((recvM L).view.loc (c : Thread nD τ)), (recvM L).view.loc (c : Thread nD τ) ↦{fullShare} f)

/-- The buffers a device's body works with. -/
def scr (c : Dev nD) : sProp 𝕄 :=
  iprop((bigSep Finset.univ fun L : Lane => iprop(sendSlot c L ∗ anyRecv c L)) ∗ anyBuf c cc0_scratch20 ∗ anyBuf c cc0_scratch21)

theorem mem_slotR (b : Fin 2) (i : S2x512x1024.Idx) : i ∈ (slotR b).set ↔ i 0 = b := by
  rw [Rect.mem_set_unit]
  constructor
  · intro h
    have h0 := h 0
    simp only [Matrix.cons_val_zero] at h0
    have : S1x512x1024.size 0 = 1 := rfl
    exact Fin.ext (by omega)
  · rintro rfl a
    have h1 : (i 1).val < 512 := (i 1).isLt
    have h2 : (i 2).val < 1024 := (i 2).isLt
    fin_cases a
    · exact ⟨le_rfl, Nat.lt_succ_self _⟩
    · exact ⟨Nat.zero_le _, (by show (i 1).val < 0 + 512; omega)⟩
    · exact ⟨Nat.zero_le _, (by show (i 2).val < 0 + 1024; omega)⟩

abbrev slK (c : Dev nD) (L : Lane) (b : Fin 2) : Finset (Idx ((recvM L).view.loc (c : Thread nD τ))) := (slotM L b).view.set

theorem slK_disjoint (c : Dev nD) (L : Lane) : Disjoint (slK c L 0) (slK c L 1) := by
  unfold slK
  rw [slot_set, slot_set]
  refine (Finset.disjoint_map _).mpr ?_
  rw [Finset.disjoint_left]
  intro i hi hi'
  rw [mem_slotR] at hi hi'
  exact absurd (show (0 : Fin 2) = 1 from hi.symm.trans hi') (by decide)

theorem slK_cover (c : Dev nD) (L : Lane) : slK c L 0 ∪ slK c L 1 = Finset.univ := by
  have hw : (recvM L).view.set = Finset.univ := by fin_cases L <;> exact View.set_whole _
  refine Finset.eq_univ_iff_forall.mpr fun i => ?_
  have hi : i ∈ (recvM L).view.set := hw ▸ Finset.mem_univ i
  obtain ⟨j, -, rfl⟩ := Finset.mem_map.mp hi
  obtain ⟨b, hb⟩ : ∃ b : Fin 2, j 0 = b := ⟨j 0, rfl⟩
  have hj : (recvM L).view.emb j ∈ (slotM L b).view.set := by
    rw [slot_set]
    exact Finset.mem_map_of_mem _ ((mem_slotR b j).mpr hb)
  fin_cases b
  · exact Finset.mem_union_left _ hj
  · exact Finset.mem_union_right _ hj

theorem two (Φ : Fin 2 → sProp 𝕄) : bigSep Finset.univ Φ = iprop(Φ 0 ∗ Φ 1) :=
  BI.bigSep_univ_eq_bigSepL [0, 1] (by decide) (by decide) Φ

theorem recv_split (c : Dev nD) (L : Lane) : anyRecv c L ⊢ (bigSep Finset.univ fun b : Fin 2 => slotOf (c, .inl (L, b)) : sProp 𝕄) := by
  unfold anyRecv slotOf
  rw [two]
  iintro ⟨%f, H⟩
  ihave H := (Entails.of_eq (show ((recvM L).view.loc (c : Thread nD τ) ↦{fullShare} f : sProp 𝕄) = (recvM L).view.loc (c : Thread nD τ) ↦[slK c L 0 ∪ slK c L 1]{fullShare} f by rw [slK_cover])) $$ H
  ihave H := (pointsTo_union (slK_disjoint c L)).1 $$ H
  icases H with ⟨H0, H1⟩
  isplitl [H0]; · iexists f; iexact H0
  iexists f; iexact H1

theorem recv_join (c : Dev nD) (L : Lane) : (bigSep Finset.univ fun b : Fin 2 => slotOf (c, .inl (L, b)) : sProp 𝕄) ⊢ anyRecv c L := by
  unfold anyRecv slotOf
  rw [two]
  iintro ⟨⟨%f, H0⟩, ⟨%g, H1⟩⟩
  iexists _
  iapply (Entails.of_eq (show ((recvM L).view.loc (c : Thread nD τ) ↦[slK c L 0 ∪ slK c L 1]{fullShare} ((slK c L 1).piecewise g f) : sProp 𝕄) = (recvM L).view.loc (c : Thread nD τ) ↦{fullShare} _ by rw [slK_cover]))
  iapply (pointsTo_join (slK_disjoint c L))
  isplitl [H0]; · iexact H0
  iexact H1

theorem axs_one (c : Dev nD) (b : Fin 7) (f : Buf (Elt F) ((c : Thread nD τ).loc cc0_scratch21)) :
    (((c : Thread nD τ).loc cc0_scratch21) ↦[axK b]{fullShare} f : sProp 𝕄) ⊢ iprop(∃ f, (axSlot b).view.loc (c : Thread nD τ) ↦[(axSlot b).view.set]{fullShare} f) := by
  iintro H
  iexists f
  iexact H

theorem axs_split (c : Dev nD) : anyBuf c cc0_scratch21 ⊢ (bigSep Finset.univ fun b : Fin 7 => slotOf (c, .inr b) : sProp 𝕄) := by
  unfold slotOf
  iintro ⟨%f, H⟩
  ihave H := (Entails.of_eq (ax_slots c f)) $$ H
  iapply (show (bigSep Finset.univ fun b : Fin 7 => (((c : Thread nD τ).loc cc0_scratch21) ↦[axK b]{fullShare} f : sProp 𝕄))
      ⊢ bigSep Finset.univ fun b : Fin 7 => iprop(∃ f, (axSlot b).view.loc (c : Thread nD τ) ↦[(axSlot b).view.set]{fullShare} f) from
    BI.bigSep_mono fun b _ => axs_one c b f)
  iexact H

/-- What holds of every slot, kind by kind. -/
theorem slots_eq (Φ : SK → sProp 𝕄) :
    bigSep Finset.univ Φ = iprop((bigSep Finset.univ fun L : Lane => bigSep Finset.univ fun b : Fin 2 => Φ (.inl (L, b))) ∗ bigSep Finset.univ fun b : Fin 7 => Φ (.inr b)) := by
  rw [BI.bigSep_univ_sum, BI.bigSep_univ_prod]; rfl

/-- All buffers, as the slots and the rest. -/
theorem scr_split (c : Dev nD) :
    scr c ⊢ (iprop((bigSep Finset.univ fun L : Lane => sendSlot c L) ∗ anyBuf c cc0_scratch20 ∗ bigSep Finset.univ fun k : SK => slotOf (c, k)) : sProp 𝕄) := by
  unfold scr
  rw [slots_eq]
  iintro ⟨H, Hb, Ha⟩
  ihave H := (Entails.of_eq (bigSep_sep' Finset.univ (fun L : Lane => (sendSlot c L : sProp 𝕄)) (fun L : Lane => anyRecv c L))) $$ H
  icases H with ⟨Hs, Hr⟩
  isplitl [Hs]; · iexact Hs
  isplitl [Hb]; · iexact Hb
  isplitl [Hr]
  · iapply (show (bigSep Finset.univ fun L : Lane => (anyRecv c L : sProp 𝕄)) ⊢ bigSep Finset.univ fun L : Lane => bigSep Finset.univ fun b : Fin 2 => slotOf (c, .inl (L, b)) from
      BI.bigSep_mono fun L _ => recv_split c L)
    iexact Hr
  iapply (axs_split c); iexact Ha

theorem lane_join (c : Dev nD) (L : Lane) :
    (iprop(sendSlot c L ∗ bigSep Finset.univ fun b : Fin 2 => slotOf (c, .inl (L, b))) : sProp 𝕄) ⊢ iprop(sendSlot c L ∗ anyRecv c L) := by
  iintro ⟨H, H'⟩
  isplitl [H]; · iexact H
  iapply (recv_join c L); iexact H'

theorem bufs_scr (c : Dev nD) : bufs c ⊢ (scr c : sProp 𝕄) := by
  unfold bufs scr
  iintro ⟨H, Hb⟩
  isplitl [H]
  · iapply (show (bigSep Finset.univ fun L : Lane => (iprop(sendSlot c L ∗ bigSep Finset.univ fun b : Fin 2 => slotOf (c, .inl (L, b))) : sProp 𝕄))
        ⊢ bigSep Finset.univ fun L : Lane => iprop(sendSlot c L ∗ anyRecv c L) from
      BI.bigSep_mono fun L _ => lane_join c L)
    iexact H
  iexact Hb

/-! ## The first release of the slots -/

theorem axSlot_nonempty (b : Fin 7) : (axSlot b).view.set.Nonempty :=
  ⟨(axSlot b).view.emb (fun a => ⟨0, by revert a; decide⟩), Finset.mem_map_of_mem _ (Finset.mem_univ _)⟩

theorem slot_false (c : Dev nD) (k : SK) : iprop(slotOf (F := F) (c, k) ∗ slotOf (c, k)) ⊢ (False : sProp 𝕄) := by
  rcases k with ⟨L, b⟩ | b
  · exact slotOf_false c L b
  · exact Release.slot_slot_false (axSlot_nonempty b)

theorem release_one (c : Dev nD) (k : SK) :
    iprop(ctx m K KS ∗ readerAt ES (c, k) 0 ∗ slotOf (c, k)) ⊢ (iprop(|={Set.univ}=> (readerAt ES (c, k) 1 ∗ released ES (c, k) 1)) : sProp 𝕄) := by
  iintro ⟨#H, Hr, Hs⟩
  iapply (show iprop(slotInv ES (KS (c, k)) (c, k) (slotOf (c, k)) ∗ readerAt ES (c, k) 0 ∗ slotOf (c, k)) ⊢ (iprop(|={Set.univ}=> (readerAt ES (c, k) 1 ∗ released ES (c, k) 1)) : sProp 𝕄) from
    Release.slot_release ES (ι := KS (c, k)) (k := (c, k)) (S := slotOf (c, k)) (Set.mem_univ _) (slot_false c k) 0)
  isplitr; · iapply (ctx_slot m K KS (c, k)); iexact H
  isplitl [Hr]; · iexact Hr
  iexact Hs

/-- Something persistent may be used at each of several places. -/
theorem each_with {I : Type} [DecidableEq I] (S : Finset I) (H : sProp 𝕄) [BI.Persistent H] (Φ Ψ : I → sProp 𝕄) (h : ∀ i, iprop(H ∗ Φ i) ⊢ Ψ i) :
    iprop(H ∗ bigSep S Φ) ⊢ bigSep S Ψ := by
  induction S using Finset.induction_on with
  | empty =>
    rw [BI.bigSep_empty, BI.bigSep_empty]
    iintro ⟨-, H⟩; iexact H
  | insert i S hi ih =>
    rw [BI.bigSep_insert hi, BI.bigSep_insert hi]
    show iprop(H ∗ (Φ i ∗ bigSep S Φ)) ⊢ iprop(Ψ i ∗ bigSep S Ψ)
    iintro ⟨#H, Hi, HS⟩
    isplitl [Hi]
    · iapply (h i); isplitr; · iexact H
      iexact Hi
    iapply ih; isplitr; · iexact H
    iexact HS

theorem release_each (c : Dev nD) :
    iprop(ctx m K KS ∗ bigSep Finset.univ fun k : SK => iprop(readerAt ES (c, k) 0 ∗ slotOf (c, k)))
      ⊢ (iprop(|={Set.univ}=> (bigSep Finset.univ fun k : SK => iprop(readerAt ES (c, k) 1 ∗ released ES (c, k) 1))) : sProp 𝕄) :=
  (each_with Finset.univ (ctx m K KS) (fun k : SK => iprop(readerAt ES (c, k) 0 ∗ slotOf (c, k))) _ (release_one m K KS c)).trans (BI.bigSep_fupd _ _)

theorem release_all (c : Dev nD) :
    iprop(ctx m K KS ∗ (bigSep Finset.univ fun k : SK => readerAt ES (c, k) 0) ∗ bigSep Finset.univ fun k : SK => slotOf (c, k))
      ⊢ (iprop(|={Set.univ}=> ((bigSep Finset.univ fun L : Lane => bigSep Finset.univ fun b : Fin 2 => readerAt ES (c, (.inl (L, b) : SK)) 1) ∗ Φe c)) : sProp 𝕄) := by
  iintro ⟨#H, Hr, Hs⟩
  imod (release_each m K KS c) $$ [Hr Hs] with Hr
  · isplitr; · iexact H
    iapply (Entails.of_eq (bigSep_sep' Finset.univ (fun k : SK => (readerAt ES (c, k) 0 : sProp 𝕄)) (fun k : SK => slotOf (c, k))).symm)
    isplitl [Hr]; · iexact Hr
    iexact Hs
  ihave Hr := (Entails.of_eq (bigSep_sep' Finset.univ (fun k : SK => (readerAt ES (c, k) 1 : sProp 𝕄)) (fun k : SK => released ES (c, k) 1))) $$ Hr
  icases Hr with ⟨Hr, Hf⟩
  imodintro
  isplitl [Hr]
  · ihave Hr := (Entails.of_eq (slots_eq fun k : SK => (readerAt ES (c, k) 1 : sProp 𝕄))) $$ Hr
    icases Hr with ⟨Hr, -⟩
    iexact Hr
  unfold Φe; iexact Hf

/-! ## The barrier -/

/-- What the barrier takes. -/
def barRes (c : Dev nD) : sProp 𝕄 :=
  iprop(cred (tallyAt (cell c kBar) 1 2) ∗ atPos ER (cell c kBar) 0 ∅ 0 ∗ dutyTok ER (cell (leftD c) kBar) 0 1 ∗ dutyTok ER (cell (rightD c) kBar) 0 0)

theorem wp_barrier (c : Dev nD) {k : Dev nD → P F} {Q : PUnit → sProp 𝕄} :
    iprop((ctx m K KS ∗ Φe c) ∗ barRes c ∗ owesE c (O₀ c))
      ⊢ iprop((kn m K KS c ∗ atPos ER (cell c kBar) 1 ∅ 0 ∗ owesE c (lanesO c 0 0) -∗ run c (k c) Q) -∗ run c (barrierK k) Q) := by
  have hO : Ge 2 (lanesO c 0 0) := lanesO_ge c (by decide) (by decide) (by decide)
  unfold barRes barrierK O₀ run
  simp only [wp_deviceId]
  iintro ⟨⟨#H, #Hf⟩, ⟨Hc, Hat, Htl, Htr⟩, ⟨%W, Ho⟩⟩ Hk
  iapply (Rounds.wp_signal 𝒱₀ ER (ringRd m) (c : Thread nD τ) none (dst := (leftD c : Thread nD τ)) (κ := K (leftD c, kBar)) (sem := barS) (r := 0)
      (d := 1) (by rw [show ((leftD c : Thread nD τ), SemLoc.reg barS) = cell (leftD c) kBar from rfl, duties_cell]; decide)
      (amount_cell m (leftD c) kBar 0 1) 1 (lanesO c 0 0 + tallyAt (cell (rightD c) kBar) 1 1) rfl) $$ [Ho Htl]
  · isplitr; · iapply (ctx_inv m K KS (leftD c) kBar); iexact H
    isplitl [Ho]; · iexact Ho
    isplitl [Htl]; · iexact Htl
    isplitr
    · iapply (Entails.of_eq (show Φe c = (ringRd m).payload ((leftD c : Thread nD τ), SemLoc.reg barS) 0 1 by
        rw [show ((leftD c : Thread nD τ), SemLoc.reg barS) = cell (leftD c) kBar from rfl, payload_cell]; show _ = Φe (rightD (leftD c)); rw [right_left]))
      iexact Hf
    iapply (ctx_reached m K KS (leftD c) kBar); iexact H
  iintro Ho
  iapply (Rounds.wp_signal 𝒱₀ ER (ringRd m) (c : Thread nD τ) none (dst := (rightD c : Thread nD τ)) (κ := K (rightD c, kBar)) (sem := barS) (r := 0)
      (d := 0) (by rw [show ((rightD c : Thread nD τ), SemLoc.reg barS) = cell (rightD c) kBar from rfl, duties_cell]; decide)
      (amount_cell m (rightD c) kBar 0 0) 1 (lanesO c 0 0) rfl) $$ [Ho Htr]
  · isplitr; · iapply (ctx_inv m K KS (rightD c) kBar); iexact H
    isplitl [Ho]; · iexact Ho
    isplitl [Htr]; · iexact Htr
    isplitr
    · iapply (Entails.of_eq (show Φe c = (ringRd m).payload ((rightD c : Thread nD τ), SemLoc.reg barS) 0 0 by
        rw [show ((rightD c : Thread nD τ), SemLoc.reg barS) = cell (rightD c) kBar from rfl, payload_cell]; show _ = Φe (leftD (rightD c)); rw [left_right]))
      iexact Hf
    iapply (ctx_reached m K KS (rightD c) kBar); iexact H
  iintro Ho
  iapply (Rounds.wp_wait_rest_token 𝒱₀ ER (ringRd m) (c : Thread nD τ) none (κ := K (c, kBar)) (wpE_semWait_eq 𝒱₀ (c : Thread nD τ) none Set.univ) (Set.mem_univ _)
      1 (O := lanesO c 0 0) (W := W) (R := 0) (m := 0) (T := ∅)
      (show 0 + 2 = (ringRd m).expect (cell c kBar) 0 by rw [expect_cell]; rfl)) $$ [Hc Ho Hat]
  · isplitr; · iapply (ctx_inv m K KS c kBar); iexact H
    isplitl [Hc]; · iexact Hc
    isplitl [Ho]; · iexact Ho
    isplitr
    · iapply (mayWait c (csem kBar) 1 (by decide) hO); iapply (ctx_lev m K KS); iexact H
    iexact Hat
  iintro ⟨Ho, Hat, -, Hpay⟩
  ihave Hpay := (Entails.of_eq (show bigSep ((ringRd m).duties ((c : Thread nD τ), SemLoc.reg barS) 0 \ ∅) (fun d => (ringRd m).payload ((c : Thread nD τ), SemLoc.reg barS) 0 d) = iprop(Φe (leftD c) ∗ Φe (rightD c)) by
    rw [show ((c : Thread nD τ), SemLoc.reg barS) = cell c kBar from rfl, Finset.sdiff_empty, duties_cell, show dutiesK kBar 0 = {0, 1} from rfl, bigSep_insert (by decide), bigSep_singleton, payload_cell, payload_cell]; rfl)) $$ Hpay
  icases Hpay with ⟨#Hl, #Hr⟩
  iapply Hk
  isplitr
  · unfold kn
    isplitr; · iexact H
    isplitr; · iexact Hf
    iapply (Entails.of_eq (four (fun L : Lane => (Φe (dst L c) : sProp 𝕄))).symm)
    isplitr; · iexact Hr
    isplitr; · iexact Hl
    isplitr; · iexact Hr
    iexact Hl
  isplitl [Hat]; · iexact Hat
  iexists _; iexact Ho

/-! ## The body -/

/-- What a lane starts from. -/
def laneRes (c : Dev nD) (L : Lane) : sProp 𝕄 :=
  iprop((atPos ER (cell c (kSend L)) 0 ∅ 0 ∗ atPos ER (cell c (kCred L)) 0 ∅ 0 ∗ bigSep (Finset.Ico 0 14) (sendTok c L))
    ∗ (bigSep Finset.univ fun b : Fin 2 => atPos ER (cell c (kRecv L b)) 0 ∅ 0) ∗ bigSep (Finset.Ico 0 14) (recvTok c L))

theorem lane_start (c : Dev nD) (L : Lane) :
    iprop((ctx m K KS ∗ Φe c) ∗ laneRes c L ∗ sendSlot c L ∗ bigSep Finset.univ fun b : Fin 2 => readerAt ES (c, (.inl (L, b) : SK)) 1)
      ⊢ (iprop(sendI c L 0 ∗ recvI c L 0) : sProp 𝕄) := by
  unfold laneRes sendI recvI credPart sendPart
  rw [if_neg (by decide), if_pos (by decide), if_pos (by decide), show Finset.Ico 12 0 = ∅ from by decide, bigSep_empty]
  iintro ⟨⟨#H, #Hf⟩, ⟨⟨Has, Hac, Hst⟩, Har, Hrt⟩, Hs, Hrd⟩
  isplitr [Har Hrt Hrd]
  · isplitl [Has Hs]
    · isplitl [Has]; · iexact Has
      iexact Hs
    isplitl [Hac]
    · iexists ∅
      isplitl [Hac]; · iexact Hac
      rw [bigSep_empty]; iempintro
    iexact Hst
  isplitl [Har]
  · iapply (Entails.of_eq (BI.bigSep_congr fun (b : Fin 2) _ => (show (atPos ER (cell c (kRecv L b)) 0 ∅ 0 : sProp 𝕄) = atPos ER (cell c (kRecv L b)) (cnt 0 b) ∅ 0 by fin_cases b <;> rfl)))
    iexact Har
  isplitl [Hrd]
  · iapply (Entails.of_eq (BI.bigSep_congr fun (b : Fin 2) _ => (show (readerAt ES (c, (.inl (L, b) : SK)) 1 : sProp 𝕄) = readerAt ES (c, (.inl (L, b) : SK)) (cnt 0 b + 1) by fin_cases b <;> rfl)))
    iexact Hrd
  isplitr
  · unfold slotFacts
    rw [two]
    unfold Φe
    isplitr
    · isplitr
      · iapply (bigSep_at (fun k : SK => (released ES (c, k) 1 : sProp 𝕄)) (.inl (L, 0))); iexact Hf
      iapply (ctx_reached m K KS c (kRecv L 0)); iexact H
    isplitr
    · iapply (bigSep_at (fun k : SK => (released ES (c, k) 1 : sProp 𝕄)) (.inl (L, 1))); iexact Hf
    iapply (ctx_reached m K KS c (kRecv L 1)); iexact H
  isplitr; · iempintro
  iexact Hrt

/-- What a device's body starts from, besides its buffers. -/
def start (c : Dev nD) : sProp 𝕄 :=
  iprop(ctx m K KS ∗ barRes c ∗ (bigSep Finset.univ fun L : Lane => laneRes c L) ∗ (bigSep Finset.univ fun k : SK => readerAt ES (c, k) 0) ∗ axRes c)

theorem lanesO_eq (c : Dev nD) : lanesO c 0 0 = axO c 0 + ∑ L : Lane, laneO c L 0 0 := by
  rw [Fin.sum_univ_four]; unfold lanesO; ac_rfl

/-- Nothing known of the output. -/
def B₀ : Known F := fun _ _ => none

theorem wp_body (c : Dev nD) (R : sProp 𝕄) (hR : iprop(ctx m K KS ∗ endRes m c) ⊢ iprop(|={Set.univ}=> R)) :
    iprop(start m K KS c ∗ scr c ∗ xw m c ∗ anyBuf c cc0_stg2_0 ∗ owesE c (O₀ c)) ⊢ run c (prog F) (fun _ => R) := by
  unfold start prog
  iintro ⟨⟨#H, Hb, Hl, Hrd, Hax⟩, Hscr, Hx, ⟨%f, Hout⟩, Ho⟩
  ihave Hscr := (scr_split c) $$ Hscr
  icases Hscr with ⟨Hs, Hab, Hsl⟩
  imod (release_all m K KS c) $$ [Hrd Hsl] with ⟨Hrd, #Hf⟩
  · isplitr; · iexact H
    isplitl [Hrd]; · iexact Hrd
    iexact Hsl
  iapply (wp_barrier m K KS c) $$ [Hb Ho]
  · isplitr
    · isplitr; · iexact H
      iexact Hf
    isplitl [Hb]; · iexact Hb
    iexact Ho
  iintro ⟨#Hk, Hbar, Ho⟩
  ihave Hst : st m c (fun _ => 7 * (0 : Fin 2).val) (fun _ => 7 * (0 : Fin 2).val) B₀ $$ [Hx Hout Hl Hs Hrd Ho]
  · unfold st
    isplitl [Hx]; · iexact Hx
    isplitl [Hout]
    · unfold outI
      iexists f
      isplitl [Hout]; · iexact Hout
      ipureintro
      exact fun L cp v h => nomatch h
    isplitr [Ho]
    · iapply (each_with Finset.univ iprop(ctx m K KS ∗ Φe c) (fun L : Lane => iprop(laneRes c L ∗ sendSlot c L ∗ bigSep Finset.univ fun b : Fin 2 => readerAt ES (c, (.inl (L, b) : SK)) 1)) _ (lane_start m K KS c))
      isplitr
      · isplitr; · iexact H
        iexact Hf
      iapply (Entails.of_eq (bigSep_sep' Finset.univ (fun L : Lane => (laneRes c L : sProp 𝕄)) (fun L : Lane => iprop(sendSlot c L ∗ bigSep Finset.univ fun b : Fin 2 => readerAt ES (c, (.inl (L, b) : SK)) 1))).symm)
      isplitl [Hl]; · iexact Hl
      iapply (Entails.of_eq (bigSep_sep' Finset.univ (fun L : Lane => (sendSlot c L : sProp 𝕄)) (fun L : Lane => bigSep Finset.univ fun b : Fin 2 => readerAt ES (c, (.inl (L, b) : SK)) 1)).symm)
      isplitl [Hs]; · iexact Hs
      iexact Hrd
    iapply (Entails.of_eq (congrArg (owesE (F := F) c) (lanesO_eq c)))
    iexact Ho
  iapply (wp_pass m K KS c 0 B₀) $$ [Hst]
  · isplitr; · iexact Hk
    iexact Hst
  iintro Hst
  iapply (wp_close m K KS c 0 B₀) $$ [Hst]
  · isplitr; · iexact Hk
    iexact Hst
  iintro ⟨Hst, -⟩
  iapply (wp_pass m K KS c 1 (learnAll B₀ 0 (fun L => fin m L 0 c))) $$ [Hst]
  · isplitr; · iexact Hk
    iexact Hst
  iintro Hst
  iapply (wp_close m K KS c 1 (learnAll B₀ 0 (fun L => fin m L 0 c))) $$ [Hst]
  · isplitr; · iexact Hk
    iexact Hst
  iintro ⟨Hst, #Hh⟩
  iapply (wp_end m K KS c R hR (learnAll (learnAll B₀ 0 (fun L => fin m L 0 c)) 1 (fun L => fin m L 1 c)) (by
    intro L cp; unfold learnAll; fin_cases cp <;> simp))
  isplitr
  · isplitr; · iexact Hk
    iexact Hh
  isplitl [Hst]; · iexact Hst
  isplitl [Hab]; · iexact Hab
  isplitl [Hax]; · iexact Hax
  iexact Hbar

end Cert.KernelIdeal.Ring
-- ==== Proof.Body.lean ====
/-
The body's obligation to the pipeline.
-/
module

public import proofs.«01_k».proof.Proof.Entry
public import proofs.«01_k».proof.Proof.Gen.KernelIdeal.Launch
public import proofs.«01_k».proof.Proof.Gen.KernelIdeal.Points

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok heard USlots)

variable {F : FTy → Type} [FloatOps F]

local notation "𝕄" => MT nD τ sig ℕ (Elt F) ℕ UU ℕ

variable (m : (ℓ : Loc nD τ sig) → Buf (Elt F) ℓ) (K : Dev nD × CK → ℕ) (KS : SKey → ℕ)

open Idealize.ShloMosaic.Pipeline (Dat Cfg Window BodyObligation cellOf)

variable (ρ : Dev nD → PrngReg)

/-- The launch's memory. -/
def s₀ : MemSt nD τ sig (Elt F) := ⟨m, fun _ => 0, ρ⟩

/-! ## The output's contents -/

/-- Which lane and pass compute a block of columns. -/
def blkOf : Fin 8 → Lane × Fin 2
  | 0 => (0, 0)
  | 1 => (2, 0)
  | 2 => (0, 1)
  | 3 => (2, 1)
  | 4 => (1, 0)
  | 5 => (3, 0)
  | 6 => (1, 1)
  | 7 => (3, 1)

theorem col_blkOf : ∀ q : Fin 8, col (blkOf q).1 (blkOf q).2 = 1024 * q.val := by decide

/-- A column's block, and its place there. -/
def qOf (i : S512x8192.Idx) : Fin 8 := ⟨(i 1).val / 1024, by have : (i 1).val < 8192 := (i 1).isLt; omega⟩
def inBlk (i : S512x8192.Idx) : S512x1024.Idx := fun a => match a with
  | ⟨0, _⟩ => ⟨(i 0).val, (i 0).isLt⟩
  | ⟨1, _⟩ => ⟨(i 1).val % 1024, Nat.mod_lt _ (by decide)⟩

theorem emb_inBlk (i : S512x8192.Idx) : (cR (blkOf (qOf i)).1 (blkOf (qOf i)).2).emb (inBlk i) = i := by
  funext a
  apply Fin.ext
  have e := col_blkOf (qOf i)
  have h0 : (qOf i).val = (i 1).val / 1024 := rfl
  fin_cases a
  · show 0 + 1 * (i 0).val = (i 0).val; omega
  · show col (blkOf (qOf i)).1 (blkOf (qOf i)).2 + 1 * ((i 1).val % 1024) = (i 1).val
    omega

/-- The output, block by block. -/
def outV (c : Dev nD) : (cc0_stg2_0 : Ref sig .tc).ty.Contents (Elt F) := fun i => outB m (blkOf (qOf i)).1 (blkOf (qOf i)).2 c (inBlk i)

theorem holds_outV (c : Dev nD) (f : (cc0_stg2_0 : Ref sig .tc).ty.Contents (Elt F)) (h : Holds (fun L cp => some (outB m L cp c)) f) : f = outV m c := by
  funext i
  have e := congrFun (h (blkOf (qOf i)).1 (blkOf (qOf i)).2 _ rfl) (inBlk i)
  have e' : f ((cR (blkOf (qOf i)).1 (blkOf (qOf i)).2).emb (inBlk i)) = outB m (blkOf (qOf i)).1 (blkOf (qOf i)).2 c (inBlk i) := e
  rw [emb_inBlk] at e'
  exact e'

/-! ## The kernel's data -/

def Φ₀ (c : Dev nD) : sProp 𝕄 := iprop((∃ K KS, start m K KS c) ∗ scr c)
/-- After the body: the buffers, and every cell closed at zero. -/
def Φ₁ (c : Dev nD) : sProp 𝕄 := iprop(scr c ∗ bigSep Finset.univ fun k : CK => semVal (cell c k) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ = iprop(Φ (0 : Fin 3) ∗ Φ (1 : Fin 3) ∗ Φ (2 : Fin 3)) := bigSep_W0 Φ

theorem fetch_0 (t : Fin cfg0.N) : (cfg0.win (0 : Fin 3)).fetch t = true := fetch0_0 t
theorem fetch_1 (t : Fin cfg0.N) : (cfg0.win (1 : Fin 3)).fetch t = true := fetch0_1 t

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt 0 t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt 0 t₀.succ ∗ stg c cc0_stg0_0 (xstg m c) ∗ stg c cc0_stg1_0 (wstg m c) ∗ stg c cc0_stg2_0 (outV m c))

theorem close_one (c : Dev nD) (k : CK) :
    iprop(ctx m K KS ∗ atPos ER (cell c k) (lastK' k) ∅ 0) ⊢ (iprop(|={Set.univ}=> semVal (cell c k) 0) : sProp 𝕄) := by
  iintro ⟨#H, Hat⟩
  iapply (Rounds.cell_close ER (ringRd m) (g := cell c k) (κ := K (c, k)) (Es := Set.univ) (Set.mem_univ _) (fun h => h) (R := lastK' k)
    (fun r hr => (duties_cell m c k r).trans (duties_after k r hr)))
  isplitr; · iapply (ctx_inv m K KS c k); iexact H
  iexact Hat

theorem close_all (c : Dev nD) :
    iprop(ctx m K KS ∗ doneAts c) ⊢ (iprop(|={Set.univ}=> (bigSep Finset.univ fun k : CK => semVal (cell c k) 0)) : sProp 𝕄) :=
  (each_with Finset.univ (ctx m K KS) (fun k : CK => atPos ER (cell c k) (lastK' k) ∅ 0) _ (close_one m K KS c)).trans (BI.bigSep_fupd _ _)

theorem post_intro (c : Dev nD) : iprop(ctx m K KS ∗ endRes m c) ⊢ iprop(|={Set.univ}=> bodyPost m ρ c) := by
  unfold endRes xw outI
  iintro ⟨#H, ⟨Hx, Hw⟩, ⟨%f, Hf, %hf⟩, Hb, Hd, ⟨%W, Ho⟩⟩
  imod (close_all m K KS c) $$ [Hd] with Hd
  · isplitr; · iexact H
    iexact Hd
  imodintro
  unfold bodyPost Φ₁ Dat.owesAt Pipeline.owesWithin
  rw [show (dats m ρ 0 c).owed t₀.succ = 0 from rfl]
  isplitl [Hb Hd]
  · isplitl [Hb]; · iapply (bufs_scr c); iexact Hb
    iexact Hd
  isplitl [Ho]
  · iexists W
    isplitr; · (ipureintro; exact fun _ _ => Or.inl trivial)
    iexact Ho
  isplitl [Hx]
  · iexists _; isplitr; · (ipureintro; rfl)
    iexact Hx
  isplitl [Hw]
  · iexists _; isplitr; · (ipureintro; rfl)
    iexact Hw
  iexists f; isplitr; · (ipureintro; exact holds_outV m c f hf)
  iexact Hf

theorem sound_body (c : Dev nD) : bodyPre m ρ c ⊢ run c (prog F) (fun _ => bodyPost m ρ c) := by
  unfold bodyPre Φ₀
  iintro ⟨⟨⟨%K, %KS, Hs⟩, Hscr⟩, Ho, ⟨%d0, %g0, %hg0, Hx⟩, ⟨%d1, %g1, %hg1, Hw⟩, ⟨%d2, %g2, %hg2, Hout⟩⟩
  have hx : g0 = xstg m c := by rw [hg0]; unfold Dat.before; rw [if_pos (fetch_0 t₀)]; rfl
  have hw : g1 = wstg m c := by rw [hg1]; unfold Dat.before; rw [if_pos (fetch_1 t₀)]; rfl
  subst hx hw
  unfold Dat.owesAt Pipeline.owesWithin
  icases Ho with ⟨%W, %hW, Ho⟩
  rw [show (dats m ρ 0 c).owed t₀.castSucc = O₀ c from rfl]
  iapply (wp_body m K KS c (bodyPost m ρ c) (post_intro m K KS ρ c))
  isplitl [Hs]; · iexact Hs
  isplitl [Hscr]; · iexact Hscr
  unfold xw
  isplitl [Hx Hw]
  · isplitl [Hx]; · iexact Hx
    iexact Hw
  isplitl [Hout]; · iexists g2; iexact Hout
  iexists W; iexact Ho

theorem body_at : (defs₀ (F := F)) Proc.tc (0 : Fin 1) (t₀, cfg0.slots t₀) = prog F := by
  refine Eq.trans ?_ body_eq
  rfl

theorem body_obligation (c : Dev nD) : BodyObligation (dats (F := F) m ρ 0 c) (defs₀ (F := F)) 𝒱₀ 0 Set.univ := fun t => by
  rw [fin_N t]
  rw [bigSep_W, bigSep_W]
  simp only [owns_whole_eq]
  refine BIBase.Entails.trans (Q := bodyPre m ρ c) (Entails.of_eq rfl) ?_
  refine BIBase.Entails.trans (sound_body m ρ c) ?_
  rw [body_at]
  generalize prog F = k
  exact Entails.of_eq rfl

end Cert.KernelIdeal.Ring
-- ==== Proof.Fund.lean ====
/-
What the launch deals each device: the tokens of its duties and writes, and its credits.
-/
module

public import proofs.«01_k».proof.Proof.Entry
public import Idealize.SL.BI.BigOpNat

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok heard USlots)

variable {F : FTy → Type} [FloatOps F]

local notation "𝕄" => MT nD τ sig ℕ (Elt F) ℕ UU ℕ

variable (m : (ℓ : Loc nD τ sig) → Buf (Elt F) ℓ) (K : Dev nD × CK → ℕ) (KS : SKey → ℕ)

/-! ## Runs and families -/

theorem all_bar (Φ : Unit → sProp 𝕄) : bigSep Finset.univ Φ = Φ () := BI.bigSep_univ_eq_bigSepL [()] (by decide) (by decide) Φ

/-- What holds of every cell of a device, kind by kind. -/
theorem cells_eq (Φ : CK → sProp 𝕄) :
    bigSep Finset.univ Φ = iprop(Φ kBar ∗ (bigSep Finset.univ fun L : Lane => Φ (kSend L)) ∗ (bigSep Finset.univ fun L : Lane => bigSep Finset.univ fun b : Fin 2 => Φ (kRecv L b))
      ∗ (bigSep Finset.univ fun L : Lane => Φ (kCred L)) ∗ (bigSep Finset.univ fun b : Fin 7 => Φ (kAxs b)) ∗ bigSep Finset.univ fun b : Fin 7 => Φ (kAxr b)) := by
  rw [BI.bigSep_univ_sum, BI.bigSep_univ_sum, BI.bigSep_univ_sum, BI.bigSep_univ_sum, BI.bigSep_univ_sum, BI.bigSep_univ_prod, all_bar]; rfl

/-- A family over the numbers below n, as a run. -/
theorem fin_run (n : ℕ) (Φ : ℕ → sProp 𝕄) : (bigSep Finset.univ fun t : Fin n => Φ t.val) = bigSep (Finset.Ico 0 n) Φ := by
  rw [show Finset.Ico 0 n = Finset.univ.map Fin.valEmbedding from ?_, bigSep_map]
  · rfl
  · ext x
    simp only [Finset.mem_Ico, Finset.mem_map, Finset.mem_univ, true_and, Fin.valEmbedding_apply]
    exact ⟨fun h => ⟨⟨x, h.2⟩, rfl⟩, fun ⟨t, h⟩ => ⟨Nat.zero_le _, h ▸ t.isLt⟩⟩

/-- A family over devices and an index, each member dealt to another device. -/
theorem deal {J : Type} [Fintype J] (e : J → Dev nD ≃ Dev nD) (Φ : Dev nD → J → sProp 𝕄) :
    (bigSep Finset.univ fun c : Dev nD => bigSep Finset.univ fun j : J => Φ c j) = bigSep Finset.univ fun c : Dev nD => bigSep Finset.univ fun j : J => Φ (e j c) j := by
  rw [BI.bigSep_univ_comm Φ, BI.bigSep_univ_comm fun c j => Φ (e j c) j]
  exact BI.bigSep_congr fun j _ => BI.bigSep_univ_equiv (e j) fun c => Φ c j

theorem run_shift (Φ : ℕ → sProp 𝕄) (n k : ℕ) : bigSep (Finset.Ico 0 n) (fun t => Φ (t + k)) = bigSep (Finset.Ico (0 + k) (n + k)) Φ := by
  have h : Finset.Ico (0 + k) (n + k) = (Finset.Ico 0 n).map ⟨fun t => t + k, fun a b h => Nat.add_right_cancel h⟩ := by
    ext x
    simp only [Finset.mem_Ico, Finset.mem_map, Function.Embedding.coeFn_mk]
    exact ⟨fun hx => ⟨x - k, by omega, (show x - k + k = x by omega)⟩, fun ⟨y, hy, hx⟩ => by have hx : y + k = x := hx; omega⟩
  rw [h, BI.bigSep_map]; rfl

/-- A run's places from the third on, and its places but the last two. -/
abbrev late (Φ : ℕ → sProp 𝕄) (t : ℕ) : sProp 𝕄 := iprop(if 2 ≤ t then Φ (t - 2) else emp)
abbrev early (Φ : ℕ → sProp 𝕄) (n t : ℕ) : sProp 𝕄 := iprop(if t < n then Φ t else emp)

/-- A run that begins with two empty places. -/
theorem run_late (Φ : ℕ → sProp 𝕄) (n : ℕ) : bigSep (Finset.Ico 0 n) Φ ⊢ bigSep (Finset.Ico 0 (n + 2)) (late Φ) := by
  rw [BI.bigSep_Ico_succ_bot (show 0 < n + 2 by omega), BI.bigSep_Ico_succ_bot (show 0 + 1 < n + 2 by omega),
    show bigSep (Finset.Ico 0 n) Φ = bigSep (Finset.Ico 0 n) (fun t => late Φ (t + 2)) from
      BI.bigSep_congr fun t _ => by unfold late; rw [if_pos (by omega), Nat.add_sub_cancel],
    run_shift (late Φ) n 2]
  unfold late
  rw [if_neg (by decide), if_neg (by decide)]
  iintro H
  isplitr; · iempintro
  isplitr; · iempintro
  iexact H

/-- A run that ends with two empty places. -/
theorem run_early (Φ : ℕ → sProp 𝕄) (n : ℕ) : bigSep (Finset.Ico 0 n) Φ ⊢ bigSep (Finset.Ico 0 (n + 2)) (early Φ n) := by
  rw [BI.bigSep_Ico_succ_top (show 0 ≤ n + 1 by omega), BI.bigSep_Ico_succ_top (show 0 ≤ n by omega),
    show bigSep (Finset.Ico 0 n) Φ = bigSep (Finset.Ico 0 n) (early Φ n) from
      BI.bigSep_congr fun t ht => by unfold early; rw [if_pos (Finset.mem_Ico.mp ht).2]]
  iintro H
  isplitr; · (unfold early; rw [if_neg (by omega)]; iempintro)
  isplitr; · (unfold early; rw [if_neg (by omega)]; iempintro)
  iexact H

/-! ## The duty tokens -/

/-- Every duty of a device's cells: the barrier's two; a lane's sends, receives, credits; the largest values' sends and receives. -/
abbrev TK : Type := Fin 2 ⊕ (Lane × Fin 14) ⊕ (Lane × Fin 14) ⊕ (Lane × Fin 12) ⊕ Fin 7 ⊕ Fin 7

/-- The duty's kind of cell, round and number. -/
def tokK : TK → CK × ℕ × ℕ
  | .inl d => (kBar, 0, d.val)
  | .inr (.inl (L, t)) => (kSend L, t.val, 0)
  | .inr (.inr (.inl (L, t))) => (kRecv L (par t.val), t.val / 2, 0)
  | .inr (.inr (.inr (.inl (L, t)))) => (kCred L, 0, t.val)
  | .inr (.inr (.inr (.inr (.inl b)))) => (kAxs b, 0, 0)
  | .inr (.inr (.inr (.inr (.inr b)))) => (kAxr b, 0, 0)

theorem par_div {t t' : ℕ} (h : par t = par t') (h' : t / 2 = t' / 2) : t = t' := by
  have : t % 2 = t' % 2 := congrArg Fin.val h
  omega

theorem tokK_inj : Function.Injective tokK := by
  intro j j' h
  rcases j with d | ⟨L, t⟩ | ⟨L, t⟩ | ⟨L, t⟩ | b | b <;> rcases j' with d' | ⟨L', t'⟩ | ⟨L', t'⟩ | ⟨L', t'⟩ | b' | b' <;>
    simp only [tokK, Prod.mk.injEq, Sum.inr.injEq, Sum.inl.injEq, reduceCtorEq, false_and, and_true, true_and] at h
  · rw [Fin.ext h]
  · rw [h.1, Fin.ext h.2]
  · obtain ⟨⟨h1, h2⟩, h3⟩ := h
    rw [h1, Fin.ext (par_div h2 h3)]
  · rw [h.1, Fin.ext h.2]
  · rw [h]
  · rw [h]

abbrev tokOf (cj : Dev nD × TK) : GSem nD τ sig × ℕ × ℕ := (cell cj.1 (tokK cj.2).1, (tokK cj.2).2.1, (tokK cj.2).2.2)

theorem tokOf_inj : Function.Injective tokOf := by
  rintro ⟨c, j⟩ ⟨c', j'⟩ h
  have h1 := cell_inj (a₁ := (c, (tokK j).1)) (a₂ := (c', (tokK j').1)) (congrArg Prod.fst h)
  have h2 := congrArg Prod.snd h
  have hk : tokK j = tokK j' := Prod.ext (congrArg Prod.snd h1) h2
  rw [tokK_inj hk, show c = c' from congrArg Prod.fst h1]

def ringCells : Finset (GSem nD τ sig) := Finset.univ.map ⟨fun ck : Dev nD × CK => cell ck.1 ck.2, cell_inj⟩
def ringToks : Finset (GSem nD τ sig × ℕ × ℕ) := Finset.univ.map ⟨tokOf, tokOf_inj⟩

/-- Which device's cell a device's own duties are at. -/
def payE : TK → Dev nD ≃ Dev nD
  | .inl 0 => rightE
  | .inl 1 => leftE
  | .inr (.inl _) => Equiv.refl _
  | .inr (.inr (.inl (L, _))) => dstE L
  | .inr (.inr (.inr (.inl (L, _)))) => srcE L
  | .inr (.inr (.inr (.inr (.inl _)))) => Equiv.refl _
  | .inr (.inr (.inr (.inr (.inr b)))) => axE b

abbrev dtok (g : GSem nD τ sig) (r d : ℕ) : sProp 𝕄 := dutyTok ER g r d

/-- The tokens of the duties a device performs. -/
def dues (c : Dev nD) : sProp 𝕄 :=
  iprop((dtok (cell (rightD c) kBar) 0 0 ∗ dtok (cell (leftD c) kBar) 0 1)
    ∗ (bigSep Finset.univ fun L : Lane => bigSep (Finset.Ico 0 14) fun t => dtok (cell c (kSend L)) t 0)
    ∗ (bigSep Finset.univ fun L : Lane => bigSep (Finset.Ico 0 14) fun t => dtok (cell (dst L c) (kRecv L (par t))) (t / 2) 0)
    ∗ (bigSep Finset.univ fun L : Lane => bigSep (Finset.Ico 0 12) fun t => dtok (cell (src L c) (kCred L)) 0 t)
    ∗ (bigSep Finset.univ fun b : Fin 7 => dtok (cell c (kAxs b)) 0 0)
    ∗ bigSep Finset.univ fun b : Fin 7 => dtok (cell (axDst b c) (kAxr b)) 0 0)

theorem dues_eq (c : Dev nD) :
    (bigSep Finset.univ fun j : TK => (dutyTok ER (tokOf (payE j c, j)).1 (tokOf (payE j c, j)).2.1 (tokOf (payE j c, j)).2.2 : sProp 𝕄)) = dues c := by
  unfold dues
  rw [BI.bigSep_univ_sum, BI.bigSep_univ_sum, BI.bigSep_univ_sum, BI.bigSep_univ_sum, BI.bigSep_univ_sum, BI.bigSep_univ_prod, BI.bigSep_univ_prod, BI.bigSep_univ_prod, two,
    BI.bigSep_congr (s := (Finset.univ : Finset Lane)) fun L _ => (fin_run 14 (fun t => (dtok (cell c (kSend L)) t 0 : sProp 𝕄))).symm,
    BI.bigSep_congr (s := (Finset.univ : Finset Lane)) fun L _ => (fin_run 14 (fun t => (dtok (cell (dst L c) (kRecv L (par t))) (t / 2) 0 : sProp 𝕄))).symm,
    BI.bigSep_congr (s := (Finset.univ : Finset Lane)) fun L _ => (fin_run 12 (fun t => (dtok (cell (src L c) (kCred L)) 0 t : sProp 𝕄))).symm]
  rfl

theorem toks_around :
    (bigSep ringToks fun x => (dutyTok ER x.1 x.2.1 x.2.2 : sProp 𝕄)) = bigSep Finset.univ fun c : Dev nD => dues c := by
  unfold ringToks
  rw [BI.bigSep_map, BI.bigSep_univ_prod]
  exact (deal payE fun c j => (dutyTok ER (tokOf (c, j)).1 (tokOf (c, j)).2.1 (tokOf (c, j)).2.2 : sProp 𝕄)).trans (BI.bigSep_congr fun c _ => dues_eq c)

/-! ## The write tokens -/

abbrev WK : Type := (Lane × Fin 14) ⊕ Fin 7

def wKey : WK → SK × ℕ
  | .inl (L, t) => (.inl (L, par t.val), t.val / 2)
  | .inr b => (.inr b, 0)

theorem wKey_inj : Function.Injective wKey := by
  intro j j' h
  rcases j with ⟨L, t⟩ | b <;> rcases j' with ⟨L', t'⟩ | b' <;>
    simp only [wKey, Prod.mk.injEq, Sum.inr.injEq, Sum.inl.injEq, reduceCtorEq, false_and, and_true] at h
  · obtain ⟨⟨h1, h2⟩, h3⟩ := h
    rw [h1, Fin.ext (par_div h2 h3)]
  · rw [h]

abbrev wOf (cj : Dev nD × WK) : SKey × ℕ := ((cj.1, (wKey cj.2).1), (wKey cj.2).2)

theorem wOf_inj : Function.Injective wOf := by
  rintro ⟨c, j⟩ ⟨c', j'⟩ h
  have h1 : c = c' := congrArg (fun x : SKey × ℕ => x.1.1) h
  have hk : wKey j = wKey j' := Prod.ext (congrArg (fun x : SKey × ℕ => x.1.2) h) (congrArg (fun x : SKey × ℕ => x.2) h)
  rw [wKey_inj hk, h1]

def wE : WK → Dev nD ≃ Dev nD
  | .inl (L, _) => dstE L
  | .inr b => axE b

abbrev wtok (k : SKey) (n : ℕ) : sProp 𝕄 := writeTok ES k n

/-- The tokens of the writes a device makes. -/
def writes (c : Dev nD) : sProp 𝕄 :=
  iprop((bigSep Finset.univ fun L : Lane => bigSep (Finset.Ico 0 14) fun t => wtok (dst L c, (.inl (L, par t) : SK)) (t / 2 + 1))
    ∗ bigSep Finset.univ fun b : Fin 7 => wtok (axDst b c, (.inr b : SK)) 1)

theorem writes_eq (c : Dev nD) :
    (bigSep Finset.univ fun j : WK => (writeTok ES (wOf (wE j c, j)).1 ((wOf (wE j c, j)).2 + 1) : sProp 𝕄)) = writes c := by
  unfold writes
  rw [BI.bigSep_univ_sum, BI.bigSep_univ_prod,
    BI.bigSep_congr (s := (Finset.univ : Finset Lane)) fun L _ => (fin_run 14 (fun t => (wtok (dst L c, (.inl (L, par t) : SK)) (t / 2 + 1) : sProp 𝕄))).symm]
  rfl

theorem writes_around :
    (bigSep ((Finset.univ : Finset SKey) ×ˢ Finset.range 7) fun x => (writeTok ES x.1 (x.2 + 1) : sProp 𝕄)) ⊢ bigSep Finset.univ fun c : Dev nD => writes c := by
  have hs : (Finset.univ : Finset (Dev nD × WK)).map ⟨wOf, wOf_inj⟩ ⊆ (Finset.univ : Finset SKey) ×ˢ Finset.range 7 := by
    intro x hx
    obtain ⟨⟨c, j⟩, -, rfl⟩ := Finset.mem_map.mp hx
    refine Finset.mem_product.mpr ⟨Finset.mem_univ _, Finset.mem_range.mpr ?_⟩
    rcases j with ⟨L, t⟩ | b
    · show t.val / 2 < 7
      have := t.isLt; omega
    · show 0 < 7; decide
  refine BIBase.Entails.trans (show _ ⊢ _ from BI.bigSep_subset hs) (Entails.of_eq ?_)
  rw [BI.bigSep_map, BI.bigSep_univ_prod]
  exact (deal wE fun c j => (writeTok ES (wOf (c, j)).1 ((wOf (c, j)).2 + 1) : sProp 𝕄)).trans (BI.bigSep_congr fun c _ => writes_eq c)

/-! ## The launch's credit -/

/-- What a device may wait for. -/
def credits (c : Dev nD) : sProp 𝕄 :=
  iprop(cred (tallyAt (cell c kBar) 1 2)
    ∗ (bigSep Finset.univ fun L : Lane => iprop((bigSep (Finset.Ico 0 14) fun t => cred (tallyAt (cell c (kRecv L (par t))) (sl t) N))
        ∗ bigSep (Finset.Ico 0 12) fun t => cred (tallyAt (cell c (kCred L)) (cl t) 1)))
    ∗ bigSep Finset.univ fun b : Fin 7 => cred (tallyAt (cell c (kAxr b)) 30 Nax))

theorem lane_credit (L : Lane) (c : Dev nD) :
    (Pipeline.launchCred (fun d => laneO d L 0 0) c : sProp 𝕄) ⊢ iprop((bigSep (Finset.Ico 0 14) fun t => cred (tallyAt (cell c (kRecv L (par t))) (sl t) N))
        ∗ bigSep (Finset.Ico 0 12) fun t => cred (tallyAt (cell c (kCred L)) (cl t) 1)) := by
  unfold laneO
  rw [Pipeline.launchCred_add, Pipeline.launchCred_sum, Pipeline.launchCred_sum]
  exact BIClass.sep_mono
    (BI.bigSep_mono fun t _ => Pipeline.launchCred_tallyAt (csem (kRecv L (par t))) (dst L) (src L) (dst_src L) (src_dst L) (sl t) N c)
    (BI.bigSep_mono fun t _ => Pipeline.launchCred_tallyAt (csem (kCred L)) (src L) (dst L) (src_dst L) (dst_src L) (cl t) 1 c)

theorem ax_credit_all (c : Dev nD) :
    (Pipeline.launchCred (fun d => axO d 0) c : sProp 𝕄) ⊢ bigSep Finset.univ fun b : Fin 7 => cred (tallyAt (cell c (kAxr b)) 30 Nax) := by
  unfold axO
  rw [Finset.filter_true_of_mem fun b _ => Nat.zero_le _, Pipeline.launchCred_sum]
  exact BI.bigSep_mono fun b _ => Pipeline.launchCred_tallyAt (csem (kAxr b)) (axDst b) (axSrc b) (axDst_axSrc b) (axSrc_axDst b) 30 Nax c

theorem lanes_credit (c : Dev nD) :
    (Pipeline.launchCred (fun d => lanesO d 0 0) c : sProp 𝕄) ⊢ iprop((bigSep Finset.univ fun b : Fin 7 => cred (tallyAt (cell c (kAxr b)) 30 Nax))
      ∗ bigSep Finset.univ fun L : Lane => iprop((bigSep (Finset.Ico 0 14) fun t => cred (tallyAt (cell c (kRecv L (par t))) (sl t) N))
        ∗ bigSep (Finset.Ico 0 12) fun t => cred (tallyAt (cell c (kCred L)) (cl t) 1))) := by
  rw [show (fun d => lanesO d 0 0) = (fun d => axO d 0 + ∑ L : Lane, laneO d L 0 0) from funext lanesO_eq, Pipeline.launchCred_add, Pipeline.launchCred_sum]
  exact BIClass.sep_mono (ax_credit_all c) (BI.bigSep_mono fun L _ => lane_credit L c)

theorem bar_credit (c : Dev nD) : iprop(cred (tallyAt (cell c kBar) 1 1) ∗ cred (tallyAt (cell c kBar) 1 1)) ⊢ (cred (tallyAt (cell c kBar) 1 2) : sProp 𝕄) := by
  rw [show (tallyAt (cell c kBar) 1 2 : CellTallies nD τ sig ℕ) = tallyAt (cell c kBar) 1 1 + tallyAt (cell c kBar) 1 1 from ?_]
  · exact (cred_add _ _).2
  · rw [tallyAt_add]

theorem credits_intro (c : Dev nD) : (Pipeline.launchCred O₀ c : sProp 𝕄) ⊢ credits c := by
  rw [show (O₀ : Dev nD → CellTallies nD τ sig ℕ) = fun d => (lanesO d 0 0 + tallyAt (cell (rightD d) kBar) 1 1) + tallyAt (cell (leftD d) kBar) 1 1 from rfl,
    Pipeline.launchCred_add, Pipeline.launchCred_add]
  unfold credits
  iintro ⟨⟨H, Hr⟩, Hl⟩
  ihave H := (lanes_credit c) $$ H
  ihave Hr := (Pipeline.launchCred_tallyAt (csem kBar) rightD leftD right_left left_right 1 1 c) $$ Hr
  ihave Hl := (Pipeline.launchCred_tallyAt (csem kBar) leftD rightD left_right right_left 1 1 c) $$ Hl
  icases H with ⟨Ha, HL⟩
  isplitl [Hr Hl]
  · iapply (bar_credit c)
    isplitl [Hr]; · iexact Hr
    iexact Hl
  isplitl [HL]; · iexact HL
  iexact Ha

end Cert.KernelIdeal.Ring
-- ==== Proof.Launch.lean ====
/-
The launch of the kernel on all devices, and its run.
-/
module

public import proofs.«01_k».proof.Proof.Body
public import proofs.«01_k».proof.Proof.Fund
public import Idealize.ShloMosaic.Lib.Pipeline.CollectiveSegs
public import Idealize.ShloMosaic.Lib.Quiescent

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok heard USlots)

variable {F : FTy → Type} [FloatOps F]

local notation "𝕄" => MT nD τ sig ℕ (Elt F) ℕ UU ℕ

variable (m : (ℓ : Loc nD τ sig) → Buf (Elt F) ℓ) (K : Dev nD × CK → ℕ) (KS : SKey → ℕ)

open Idealize.ShloMosaic.Pipeline (Dat Cfg Window BodyObligation cellOf)

variable (ρ : Dev nD → PrngReg)

/-! ## What a device holds when it starts -/

/-- What all devices know of rounds and slots. -/
def known (KS : SKey → ℕ) : sProp 𝕄 :=
  iprop((bigSep Finset.univ fun ck : Dev nD × CK => reached ER (cell ck.1 ck.2) 0) ∗ bigSep Finset.univ fun k : SKey => slotInv ES (KS k) k (slotOf k))

instance known_persistent : BI.Persistent (known (F := F) KS) := by unfold known; infer_instance

/-- The invariants of all cells. -/
def allInv (K : Dev nD × CK → ℕ) : sProp 𝕄 := bigSep Finset.univ fun ck : Dev nD × CK => cellInv ER (ringRd m) (K ck) (cell ck.1 ck.2)

instance allInv_persistent : BI.Persistent (allInv m K) := by unfold allInv; infer_instance

/-- What is a device's own. -/
def lin (c : Dev nD) : sProp 𝕄 :=
  iprop((bigSep Finset.univ fun k : CK => atPos ER (cell c k) 0 ∅ 0) ∗ dues c ∗ writes c ∗ bigSep Finset.univ fun k : SK => readerAt ES (c, k) 0)

def G (c : Dev nD) : sProp 𝕄 := iprop((bigSep Finset.univ fun k : CK => roundState ER (ringRd m) (cell c k) 0) ∗ (∃ KS, known KS) ∗ lin c)
def G' (c : Dev nD) : sProp 𝕄 := iprop((∃ K, allInv m K) ∗ (∃ KS, known KS) ∗ lin c)

/-! ### A lane's share -/

abbrev sTok (c : Dev nD) (L : Lane) (t : ℕ) : sProp 𝕄 := dtok (cell c (kSend L)) t 0
abbrev rTok (c : Dev nD) (L : Lane) (t : ℕ) : sProp 𝕄 := dtok (cell (dst L c) (kRecv L (par t))) (t / 2) 0
abbrev cTok (c : Dev nD) (L : Lane) (t : ℕ) : sProp 𝕄 := dtok (cell (src L c) (kCred L)) 0 t
abbrev wTok (c : Dev nD) (L : Lane) (t : ℕ) : sProp 𝕄 := wtok (dst L c, (.inl (L, par t) : SK)) (t / 2 + 1)
abbrev rCr (c : Dev nD) (L : Lane) (t : ℕ) : sProp 𝕄 := cred (tallyAt (cell c (kRecv L (par t))) (sl t) N)
abbrev cCr (c : Dev nD) (L : Lane) (t : ℕ) : sProp 𝕄 := cred (tallyAt (cell c (kCred L)) (cl t) 1)

theorem sends_intro (c : Dev nD) (L : Lane) :
    iprop(bigSep (Finset.Ico 0 14) (sTok c L) ∗ bigSep (Finset.Ico 0 14) (rTok c L) ∗ bigSep (Finset.Ico 0 14) (wTok c L) ∗ bigSep (Finset.Ico 0 12) (cCr c L))
      ⊢ (bigSep (Finset.Ico 0 14) (sendTok c L) : sProp 𝕄) := by
  rw [show sendTok (F := F) c L = fun t => iprop(sTok c L t ∗ rTok c L t ∗ wTok c L t ∗ late (cCr c L) t) from rfl, bigSep_sep', bigSep_sep', bigSep_sep']
  iintro ⟨H1, H2, H3, H4⟩
  isplitl [H1]; · iexact H1
  isplitl [H2]; · iexact H2
  isplitl [H3]; · iexact H3
  iapply (run_late (cCr c L) 12); iexact H4

theorem recvs_intro (c : Dev nD) (L : Lane) :
    iprop(bigSep (Finset.Ico 0 14) (rCr c L) ∗ bigSep (Finset.Ico 0 12) (cTok c L)) ⊢ (bigSep (Finset.Ico 0 14) (recvTok c L) : sProp 𝕄) := by
  rw [show recvTok (F := F) c L = fun t => iprop(rCr c L t ∗ early (cTok c L) 12 t) from rfl, bigSep_sep']
  iintro ⟨H1, H2⟩
  isplitl [H1]; · iexact H1
  iapply (run_early (cTok c L) 12); iexact H2

/-- A lane's parts, in the order they are dealt. -/
abbrev laneIn (c : Dev nD) (L : Lane) : sProp 𝕄 :=
  iprop(atPos ER (cell c (kSend L)) 0 ∅ 0 ∗ (bigSep Finset.univ fun b : Fin 2 => atPos ER (cell c (kRecv L b)) 0 ∅ 0) ∗ atPos ER (cell c (kCred L)) 0 ∅ 0
    ∗ bigSep (Finset.Ico 0 14) (sTok c L) ∗ bigSep (Finset.Ico 0 14) (rTok c L) ∗ bigSep (Finset.Ico 0 12) (cTok c L)
    ∗ bigSep (Finset.Ico 0 14) (wTok c L) ∗ bigSep (Finset.Ico 0 14) (rCr c L) ∗ bigSep (Finset.Ico 0 12) (cCr c L))

theorem lane_intro (c : Dev nD) (L : Lane) : laneIn c L ⊢ (laneRes c L : sProp 𝕄) := by
  unfold laneIn laneRes
  iintro ⟨Ha, Hb, Hc, H1, H2, H3, H4, H5, H6⟩
  isplitl [Ha Hc H1 H2 H4 H6]
  · isplitl [Ha]; · iexact Ha
    isplitl [Hc]; · iexact Hc
    iapply (sends_intro c L)
    isplitl [H1]; · iexact H1
    isplitl [H2]; · iexact H2
    isplitl [H4]; · iexact H4
    iexact H6
  isplitl [Hb]; · iexact Hb
  iapply (recvs_intro c L)
  isplitl [H5]; · iexact H5
  iexact H3

theorem lanes_intro (c : Dev nD) : (bigSep Finset.univ fun L : Lane => laneIn c L : sProp 𝕄) ⊢ bigSep Finset.univ fun L : Lane => laneRes c L :=
  BI.bigSep_mono fun L _ => lane_intro c L

theorem axr_intro (c : Dev nD) :
    iprop((bigSep Finset.univ fun b : Fin 7 => dtok (cell c (kAxs b)) 0 0) ∗ (bigSep Finset.univ fun b : Fin 7 => dtok (cell (axDst b c) (kAxr b)) 0 0)
      ∗ (bigSep Finset.univ fun b : Fin 7 => wtok (axDst b c, (.inr b : SK)) 1) ∗ (bigSep Finset.univ fun b : Fin 7 => atPos ER (cell c (kAxs b)) 0 ∅ 0)
      ∗ (bigSep Finset.univ fun b : Fin 7 => cred (tallyAt (cell c (kAxr b)) 30 Nax)) ∗ bigSep Finset.univ fun b : Fin 7 => atPos ER (cell c (kAxr b)) 0 ∅ 0)
      ⊢ (axRes c : sProp 𝕄) := by
  unfold axRes
  rw [show axTok (F := F) c = fun b => iprop(dtok (cell c (kAxs b)) 0 0 ∗ dtok (cell (axDst b c) (kAxr b)) 0 0 ∗ wtok (axDst b c, (.inr b : SK)) 1) from rfl,
    bigSep_sep', bigSep_sep', bigSep_sep']
  iintro ⟨H1, H2, H3, H4, H5, H6⟩
  isplitl [H1 H2 H3]
  · isplitl [H1]; · iexact H1
    isplitl [H2]; · iexact H2
    iexact H3
  isplitl [H4]; · iexact H4
  isplitl [H5]; · iexact H5
  iexact H6

theorem start_of (c : Dev nD) : iprop(allInv m K ∗ known KS ∗ levAts Lv lv ∗ lin c ∗ credits c) ⊢ start m K KS c := by
  unfold allInv known lin dues writes credits start ctx
  rw [cells_eq]
  iintro ⟨HI, ⟨HR, HS⟩, Hlev, ⟨⟨PB, PS, PR, PC, Pas, Par⟩, ⟨⟨D0, D1⟩, DS, DR, DC, Das, Dar⟩, ⟨WS, Wa⟩, Hrd⟩, ⟨CB, CL, CA⟩⟩
  isplitl [HI HR HS Hlev]
  · isplitl [HI]; · iexact HI
    isplitl [HR]; · iexact HR
    isplitl [HS]; · iexact HS
    iexact Hlev
  isplitl [PB D0 D1 CB]
  · unfold barRes
    isplitl [CB]; · iexact CB
    isplitl [PB]; · iexact PB
    isplitl [D1]; · iexact D1
    iexact D0
  isplitl [PS PR PC DS DR DC WS CL]
  · iapply (lanes_intro c)
    unfold laneIn
    simp only [bigSep_sep']
    isplitl [PS]; · iexact PS
    isplitl [PR]; · iexact PR
    isplitl [PC]; · iexact PC
    isplitl [DS]; · iexact DS
    isplitl [DR]; · iexact DR
    isplitl [DC]; · iexact DC
    isplitl [WS]; · iexact WS
    iexact CL
  isplitl [Hrd]; · iexact Hrd
  iapply (axr_intro c)
  isplitl [Das]; · iexact Das
  isplitl [Dar]; · iexact Dar
  isplitl [Wa]; · iexact Wa
  isplitl [Pas]; · iexact Pas
  isplitl [CA]; · iexact CA
  iexact Par

/-! ## The launch -/

def u₀ : UU := (initOf (Pipeline.cells cfgs cellOf_inj) (Pipeline.launchToks cfgs cellOf_inj), (initOf ringCells ringToks, Idealize.ShloMosaic.Release.initSlots Finset.univ 7))

theorem cells_all (Φ : GSem nD τ sig → sProp 𝕄) : bigSep ringCells Φ = bigSep Finset.univ fun c : Dev nD => bigSep Finset.univ fun k : CK => Φ (cell c k) := by
  unfold ringCells; rw [BI.bigSep_map, BI.bigSep_univ_prod]; rfl

theorem cells_pairs (Φ : GSem nD τ sig → sProp 𝕄) : bigSep ringCells Φ = bigSep Finset.univ fun ck : Dev nD × CK => Φ (cell ck.1 ck.2) := by
  unfold ringCells; rw [BI.bigSep_map]; rfl

theorem slots_start :
    BI.own (ES (Idealize.ShloMosaic.Release.initSlots (Finset.univ : Finset SKey) 7))
      ⊢ (iprop(|={Set.univ}=> ∃ KS : SKey → ℕ, ⌜Set.InjOn KS ((Finset.univ : Finset SKey) : Set SKey) ∧ ∀ k ∈ (Finset.univ : Finset SKey), KS k ∉ (∅ : Finset ℕ)⌝
        ∗ (bigSep Finset.univ fun k : SKey => slotInv ES (KS k) k (slotOf k)) ∗ (bigSep Finset.univ fun k : SKey => readerAt ES k 0)
        ∗ bigSep ((Finset.univ : Finset SKey) ×ˢ Finset.range 7) fun x => writeTok ES x.1 (x.2 + 1)) : sProp 𝕄) :=
  Idealize.ShloMosaic.Release.slots_init ES (Finset.univ : Finset SKey) 7 slotOf

theorem own_split (a : URounds (GSem nD τ sig) ℕ) (b : USlots SKey) : (BI.own (embR (a, b)) : sProp 𝕄) ⊢ iprop(BI.own (ER a) ∗ BI.own (ES b)) := own_pair_emb embR a b

theorem fund_ring : BI.own (embR (initOf ringCells ringToks, Idealize.ShloMosaic.Release.initSlots (Finset.univ : Finset SKey) 7)) ⊢ (iprop(|={Set.univ}=> (bigSep Finset.univ (G m))) : sProp 𝕄) := by
  iintro HX
  ihave HX := (own_split _ _) $$ HX
  icases HX with ⟨HR, HS⟩
  imod (Rounds.fund ER (ringRd m) ringCells ringToks) $$ HR with ⟨Hst, Hr, Hat, Htok⟩
  imod (slots_start (F := F)) $$ HS with ⟨%KS, -, #Hsl, Hrd, Hwt⟩
  imodintro
  ihave Hst := (Entails.of_eq (cells_all fun g => roundState ER (ringRd m) g 0)) $$ Hst
  ihave Hat := (Entails.of_eq (cells_all fun g => atPos ER g 0 ∅ 0)) $$ Hat
  ihave #Hr := (Entails.of_eq (cells_pairs fun g => reached ER g 0)) $$ Hr
  ihave Htok := (Entails.of_eq (toks_around (F := F))) $$ Htok
  ihave Hwt := (writes_around (F := F)) $$ Hwt
  ihave Hrd := (Entails.of_eq (BI.bigSep_univ_prod fun k : SKey => (readerAt ES k 0 : sProp 𝕄))) $$ Hrd
  have hone : ∀ c : Dev nD, iprop(known KS ∗ ((bigSep Finset.univ fun k : CK => roundState ER (ringRd m) (cell c k) 0) ∗ lin c)) ⊢ G m c := by
    intro c
    unfold G
    iintro ⟨#H, Hs, Hl⟩
    isplitl [Hs]; · iexact Hs
    isplitr; · iexists KS; iexact H
    iexact Hl
  iapply (each_with Finset.univ (known KS) (fun c : Dev nD => iprop((bigSep Finset.univ fun k : CK => roundState ER (ringRd m) (cell c k) 0) ∗ lin c)) (G m) hone)
  isplitr
  · unfold known
    isplitr; · iexact Hr
    iexact Hsl
  unfold lin
  simp only [bigSep_sep']
  isplitl [Hst]; · iexact Hst
  isplitl [Hat]; · iexact Hat
  isplitl [Htok]; · iexact Htok
  isplitl [Hwt]; · iexact Hwt
  iexact Hrd

theorem ownSems0_eq (c : Dev nD) : (Pipeline.ownSems0 (Ix := ℕ) (Name := ℕ) (U := UU) (Lvl := ℕ) (Val := Elt F) (τ := τ) osem c : sProp 𝕄)
    = bigSep Finset.univ fun k : OCK => semVal (cell c (.inr k)) 0 := rfl

theorem unscopedSems0_eq (c : Dev nD) : (unscopedSems0 c : sProp 𝕄) = semVal (cell c kBar) 0 := by
  unfold unscopedSems0; rw [BI.bigSep_eq_bigSepL_of_eq [SemLoc.reg barS] (by decide) (by decide)]; rfl

/-- All of a device's semaphores: the kernel's own and the barrier. -/
theorem sems_eq (c : Dev nD) : (bigSep Finset.univ fun k : CK => semVal (cell c k) 0 : sProp 𝕄)
    = iprop(unscopedSems0 c ∗ Pipeline.ownSems0 (Ix := ℕ) (Name := ℕ) (U := UU) (Lvl := ℕ) (Val := Elt F) (τ := τ) osem c) := by
  rw [unscopedSems0_eq, ownSems0_eq, BI.bigSep_univ_sum, all_bar]; rfl

theorem inv_one (c : Dev nD) (k : CK) :
    iprop(semVal (cell c k) 0 ∗ roundState ER (ringRd m) (cell c k) 0) ⊢ (iprop(|={Set.univ}=> (∃ κ : ℕ, cellInv ER (ringRd m) κ (cell c k))) : sProp 𝕄) :=
  (Rounds.body_intro ER (ringRd m) (cell c k)).trans inv_alloc

theorem inv_each (c : Dev nD) :
    iprop((bigSep Finset.univ fun k : CK => semVal (cell c k) 0) ∗ bigSep Finset.univ fun k : CK => roundState ER (ringRd m) (cell c k) 0)
      ⊢ (iprop(|={Set.univ}=> (bigSep Finset.univ fun k : CK => iprop(∃ κ : ℕ, cellInv ER (ringRd m) κ (cell c k)))) : sProp 𝕄) := by
  rw [← bigSep_sep']
  exact BIBase.Entails.trans (show _ ⊢ _ from BI.bigSep_mono fun k _ => inv_one m c k) (BI.bigSep_fupd _ _)

abbrev mid (c : Dev nD) : sProp 𝕄 :=
  iprop((bigSep Finset.univ fun k : CK => iprop(∃ κ : ℕ, cellInv ER (ringRd m) κ (cell c k))) ∗ (∃ KS, known KS) ∗ lin c)

theorem core_alloc (c : Dev nD) :
    iprop(Pipeline.ownSems0 (Ix := ℕ) (Name := ℕ) (U := UU) (Lvl := ℕ) (Val := Elt F) (τ := τ) osem c ∗ unscopedSems0 c ∗ G m c) ⊢ iprop(|={Set.univ}=> mid m c) := by
  unfold G mid
  iintro ⟨Hos, Hus, Hst, Hk, Hl⟩
  imod (inv_each m c) $$ [Hos Hus Hst] with HI
  · isplitr [Hst]
    · iapply (Entails.of_eq (sems_eq (F := F) c).symm)
      isplitl [Hus]; · iexact Hus
      iexact Hos
    iexact Hst
  imodintro
  isplitl [HI]; · iexact HI
  isplitl [Hk]; · iexact Hk
  iexact Hl

theorem regroup : (bigSep Finset.univ fun c : Dev nD => mid m c : sProp 𝕄) ⊢ bigSep Finset.univ (G' m) := by
  letI : DecidableEq (Dev nD × CK) := Classical.decEq _
  have hone (K : Dev nD × CK → ℕ) (c : Dev nD) : iprop(allInv m K ∗ ((∃ KS, known KS) ∗ lin c)) ⊢ G' m c := by
    unfold G'
    iintro ⟨#H, Hl⟩
    isplitr; · iexists K; iexact H
    iexact Hl
  unfold mid
  rw [bigSep_sep', ← BI.bigSep_univ_prod (fun ck : Dev nD × CK => (iprop(∃ κ : ℕ, cellInv ER (ringRd m) κ (cell ck.1 ck.2)) : sProp 𝕄))]
  iintro ⟨HI, Hl⟩
  ihave HI := (BI.bigSep_exists_pi Finset.univ (fun (ck : Dev nD × CK) (κ : ℕ) => (cellInv ER (ringRd m) κ (cell ck.1 ck.2) : sProp 𝕄))) $$ HI
  icases HI with ⟨%K, #HI⟩
  iapply (each_with Finset.univ (allInv m K) (fun c : Dev nD => iprop((∃ KS, known KS) ∗ lin c)) (G' m) (hone K))
  isplitr; · unfold allInv; iexact HI
  iexact Hl

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  BIBase.Entails.trans (BIBase.Entails.trans (show _ ⊢ _ from BI.bigSep_mono fun c _ => core_alloc m c) (BI.bigSep_fupd _ _)) (BI.fupd_mono (regroup m))

/-! ### The theorem's side conditions -/

/-- What the launch hands a device. -/
def begun (c : Dev nD) : sProp 𝕄 := iprop(∃ K KS, start m K KS c)

theorem start_intro (c : Dev nD) :
    iprop(Pipeline.unscopedRestP Pipeline.Prefetch.none cfg0.spec c (fun b => m ((c : Thread nD τ).loc b)) ∗ levAts Lv lv
        ∗ Pipeline.launchCred O₀ c ∗ prngReg c (ρ c) ∗ G' m c)
      ⊢ |={Set.univ}=> iprop(begun m c ∗ emp) := by
  unfold G' begun
  iintro ⟨-, Hlev, Hcr, -, ⟨%K, HI⟩, ⟨%KS, HK⟩, Hl⟩
  ihave Hc := (credits_intro (F := F) c) $$ Hcr
  imodintro
  isplitl
  · iexists K, KS
    iapply (start_of m K KS c)
    isplitl [HI]; · iexact HI
    isplitl [HK]; · iexact HK
    isplitl [Hlev]; · iexact Hlev
    isplitl [Hl]; · iexact Hl
    iexact Hc
  · iempintro

theorem four' (Φ : Lane → sProp 𝕄) : bigSep Finset.univ Φ = iprop(Φ 0 ∗ Φ 1 ∗ Φ 2 ∗ Φ 3) := BI.bigSep_univ_eq_bigSepL [0, 1, 2, 3] (by decide) (by decide) Φ

/-- A lane's send buffer is a whole buffer. -/
theorem sendSlot_eq (c : Dev nD) (L : Lane) :
    (sendSlot c L : sProp 𝕄) = iprop(∃ f : Buf (Elt F) ((sendM L).view.loc (c : Thread nD τ)), (sendM L).view.loc (c : Thread nD τ) ↦{fullShare} f) := by
  unfold sendSlot
  rw [show (sendM L).view.set = Finset.univ by fin_cases L <;> exact View.set_whole _]

theorem scr_eq (c : Dev nD) : (scr c : sProp 𝕄) = iprop(((anyBuf c cc0_scratch0 ∗ anyBuf c cc0_scratch1) ∗ (anyBuf c cc0_scratch5 ∗ anyBuf c cc0_scratch6)
    ∗ (anyBuf c cc0_scratch10 ∗ anyBuf c cc0_scratch11) ∗ anyBuf c cc0_scratch15 ∗ anyBuf c cc0_scratch16) ∗ anyBuf c cc0_scratch20 ∗ anyBuf c cc0_scratch21) := by
  unfold scr
  rw [four', sendSlot_eq, sendSlot_eq, sendSlot_eq, sendSlot_eq]
  rfl

theorem scr_in (c : Dev nD) : (Pipeline.scopedRest (Ix := ℕ) (Name := ℕ) (U := UU) (Lvl := ℕ) (Val := Elt F) spec0 c : sProp 𝕄) ⊢ scr c := by
  rw [scopedRest0_eq, scr_eq]
  iintro ⟨H0, H1, H2, H3, H4, H5, H6, H7, H8, H9⟩
  isplitr [H8 H9]
  · isplitl [H0 H1]
    · isplitl [H0]; · iexact H0
      iexact H1
    isplitl [H2 H3]
    · isplitl [H2]; · iexact H2
      iexact H3
    isplitl [H4 H5]
    · isplitl [H4]; · iexact H4
      iexact H5
    isplitl [H6]; · iexact H6
    iexact H7
  isplitl [H8]; · iexact H8
  iexact H9

theorem scr_out (c : Dev nD) : scr c ⊢ (Pipeline.scopedRest (Ix := ℕ) (Name := ℕ) (U := UU) (Lvl := ℕ) (Val := Elt F) spec0 c : sProp 𝕄) := by
  rw [scopedRest0_eq, scr_eq]
  iintro ⟨⟨⟨H0, H1⟩, ⟨H2, H3⟩, ⟨H4, H5⟩, H6, H7⟩, H8, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem phi0_intro (c : Dev nD) :
    iprop(begun m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀ begun
  iintro ⟨Hs, -, Hr⟩
  isplitl [Hs]; · iexact Hs
  iapply (scr_in c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  rw [sems_eq]
  iintro ⟨Hr, Hu, Ho⟩
  isplitl [Hu]; · iexact Hu
  isplitl [Ho]; · iexact Ho
  iapply (scr_out c); iexact Hr

theorem O₀_ge (c : Dev nD) : Ge 1 (O₀ c) := by
  unfold O₀
  exact ((lanesO_ge c (by decide) (by decide) (by decide)).add (Ge.at _ _ le_rfl (by decide))).add (Ge.at _ _ le_rfl (by decide))

theorem waits (c : Dev nD) : (levAts Lv lv : sProp 𝕄) ⊢ Pipeline.cellsWaits cfgs (dats m ρ) 0 0 c :=
  Pipeline.cellsWaits_intro cfgs (dats m ρ) 0 0 c fun w s t =>
    mayWait c _ 0 (by decide) (by
      rcases t with ⟨_ | _, ht⟩
      · exact O₀_ge c
      · exact Ge.zero 1)

theorem Lv_of_ne (g : GSem nD τ sig) (h : g.1.2 ≠ .tc) : Lv g = ∅ := if_neg h

theorem share_eq (c : Dev nD) (w : Fin cfg0.W) : (dats m ρ 0 c).share w = fullShare := by unfold Dat.share; split <;> rfl

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters, over any float values: every fair execution ends, each device's arrays at the
    computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := Lv) (lv := lv) (hL := Lv_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := begun m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring
-- ==== Proof.Frames.lean ====
/-
The three programs run, keep their arguments and leave every counter at zero.
-/
module

public import proofs.«01_k».proof.Defs
public import proofs.«01_k».proof.Proof.Launch
public import proofs.«01_k».proof.Proof.Gen.ReferenceIdeal.Frame
public import proofs.«01_k».proof.Proof.Gen.Kernel.Launch
public import proofs.«01_k».proof.Proof.Gen.Kernel

@[expose] public section

set_option maxRecDepth 100000
set_option maxHeartbeats 4000000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok heard USlots)

variable {F : FTy → Type} [FloatOps F]

local notation "𝕄" => MT nD τ sig ℕ (Elt F) ℕ UU ℕ

variable (m : (ℓ : Loc nD τ sig) → Buf (Elt F) ℓ) (K : Dev nD × CK → ℕ) (KS : SKey → ℕ)

open Idealize.ShloMosaic.Pipeline (Dat Cfg Window BodyObligation cellOf)

variable (ρ : Dev nD → PrngReg)

theorem flush_2 (t : Fin cfg0.N) : (cfg0.win (2 : Fin 3)).flush t = true := flush0_2 t

theorem final_arg0 (c : Dev nD) : finalA m ρ c (0 : Fin 3) = m ((c : Thread nD τ).loc main_arg0) := (dats m ρ 0 c).arrAt_in (0 : Fin 3) rfl _
theorem final_arg1 (c : Dev nD) : finalA m ρ c (1 : Fin 3) = m ((c : Thread nD τ).loc main_arg1) := (dats m ρ 0 c).arrAt_in (1 : Fin 3) rfl _

/-- What a device's run ends with. -/
def Ends (r : PUnit × MemSt nD τ sig (Elt F)) : Prop :=
  (∀ c : Dev nD, r.2.mem ((c : Thread nD τ).loc main_arg0) = m ((c : Thread nD τ).loc main_arg0) ∧ r.2.mem ((c : Thread nD τ).loc main_arg1) = m ((c : Thread nD τ).loc main_arg1))
    ∧ r.2.sem = fun _ => 0

theorem ends (r : PUnit × MemSt nD τ sig (Elt F)) (h : QC m ρ r ∧ r.2.sem = fun _ => 0) : Ends m r :=
  ⟨fun c => ⟨(h.1 c (0 : Fin 3)).trans (final_arg0 m ρ c), (h.1 c (1 : Fin 3)).trans (final_arg1 m ρ c)⟩, h.2⟩

theorem run_ends : θ_run defs (onTc (τ := τ) (main (F := F))) ⟨m, fun _ => 0, ρ⟩ (Ends m) := (θ_run defs _ _).mono (ends m ρ) (run_main m ρ)

end Cert.KernelIdeal.Ring

namespace Cert.Proof

theorem frame_kernelIdeal : Cert.quiescent_KernelIdeal := fun m ρ _ => Cert.KernelIdeal.Ring.run_ends m ρ

open Idealize.ShloMosaic

/-- The kernel as printed is the same program. -/
theorem defs₀_eq {F : FTy → Type} [FloatOps F] : Cert.Kernel.defs₀ (F := F) = Cert.KernelIdeal.defs₀ := by
  unfold Cert.Kernel.defs₀ Cert.KernelIdeal.defs₀
  refine congrArg (Defs.onTc (nD := Cert.Kernel.nD) (τ := Cert.Kernel.τ) (sig := Cert.Kernel.sig) (Val := Elt F) (Λ := Cert.Kernel.Λ₀)) ?_
  funext l a
  match l with
  | 0 => rfl

theorem defs_eq {F : FTy → Type} [FloatOps F] : Cert.Kernel.defs (F := F) = Cert.KernelIdeal.defs :=
  congrArg (Pipeline.defs (Cert.KernelIdeal.pcfgs (F := F))) defs₀_eq

theorem frame_kernel : Cert.quiescent_Kernel := fun m ρ _ => by
  rw [defs_eq]
  exact Cert.KernelIdeal.Ring.run_ends (F := Bits) m ρ

theorem frame_referenceIdeal : Cert.quiescent_ReferenceIdeal := fun m ρ _ => Cert.ReferenceIdeal.Gen.frame m ρ

end Cert.Proof

end
-- ==== Proof.Quant.lean ====
/-
Extended reals: the quantiser's two forms agree, and a maximum is known by its upper bounds.
-/
module

public import Idealize.ShloMosaic.PureOps.Ideal.Laws
public import Idealize.ShloMosaic.Lib.ValueIdx
public import Idealize.ShloMosaic.Lib.MatmulPlain

@[expose] public section

noncomputable section

namespace Cert.KernelIdeal.Ring

open Idealize.ShloMosaic Idealize.ShloMosaic.ValueIdx

theorem bits_448 : Ideal.ofBits .f32 0x43E00000#32 = ((448 : ℝ) : EReal) := by
  simp [Ideal.ofBits, Ideal.ieee, -EReal.coe_mul]; norm_num

theorem bits_bot : Ideal.ofBits .f32 0xFF800000#32 = ⊥ := by
  simp [Ideal.ofBits, Ideal.ieee]

/-- Multiplying by 448 / a and clipping nothing is dividing by a / 448 and clipping at 448, for y between 0 and a. -/
theorem quant_eq (y a : EReal) (h0 : 0 ≤ y) (h1 : y ≤ a) :
    y * Ideal.div ((448 : ℝ) : EReal) a * Ideal.div a ((448 : ℝ) : EReal) = min (Ideal.div y (Ideal.div a ((448 : ℝ) : EReal))) ((448 : ℝ) : EReal) * Ideal.div a ((448 : ℝ) : EReal) := by
  have hc : ((448 : ℝ) : EReal) ≠ 0 := by norm_num
  rcases eq_or_ne a ⊤ with rfl | ha
  · have e : Ideal.div (⊤ : EReal) ((448 : ℝ) : EReal) = ⊤ := by
      rw [Ideal.div, if_neg hc, ← EReal.coe_inv, EReal.top_mul_coe_of_pos (by norm_num)]
    have e' : Ideal.div ((448 : ℝ) : EReal) ⊤ = 0 := by
      rw [Ideal.div, if_neg (by simp), EReal.inv_top, mul_zero]
    have e'' : Ideal.div y ⊤ = 0 := by
      rw [Ideal.div, if_neg (by simp), EReal.inv_top, mul_zero]
    rw [e, e', e'', mul_zero, zero_mul, min_eq_left (by exact_mod_cast (by norm_num : (0:ℝ) ≤ 448)), zero_mul]
  · lift a to ℝ using ⟨ha, ne_of_gt (lt_of_lt_of_le EReal.bot_lt_zero (h0.trans h1))⟩
    lift y to ℝ using ⟨ne_of_lt (lt_of_le_of_lt h1 (EReal.coe_lt_top a)), ne_of_gt (lt_of_lt_of_le EReal.bot_lt_zero h0)⟩
    have h0' : 0 ≤ y := by exact_mod_cast h0
    have h1' : y ≤ a := by exact_mod_cast h1
    have e : Ideal.div (a : EReal) ((448 : ℝ) : EReal) = ((a / 448 : ℝ) : EReal) := by
      rw [Ideal.div, if_neg hc, ← EReal.coe_inv, ← EReal.coe_mul, div_eq_mul_inv]
    rcases eq_or_ne a 0 with rfl | hz
    · have : y = 0 := le_antisymm h1' h0'
      subst this
      rw [e]; simp
    · have e1 : Ideal.div ((448 : ℝ) : EReal) (a : EReal) = ((448 / a : ℝ) : EReal) := by
        rw [Ideal.div, if_neg (by exact_mod_cast hz), ← EReal.coe_inv, ← EReal.coe_mul, div_eq_mul_inv]
      have hp : 0 < a := lt_of_le_of_ne (h0'.trans h1') (Ne.symm hz)
      have e2 : Ideal.div (y : EReal) ((a / 448 : ℝ) : EReal) = ((y / (a / 448) : ℝ) : EReal) := by
        rw [Ideal.div, if_neg (by exact_mod_cast (by positivity : a / 448 ≠ 0)), ← EReal.coe_inv, ← EReal.coe_mul, ← div_eq_mul_inv]
      have hm : y / (a / 448) ≤ 448 := by
        rw [div_le_iff₀ (by positivity)]; linarith
      rw [e, e1, e2, min_eq_left (by exact_mod_cast hm), ← EReal.coe_mul, ← EReal.coe_mul, ← EReal.coe_mul]
      congr 1
      field_simp

/-- What bounds a maximum over all of an array. -/
theorem reduce_max_le {s t : Shape} {axes : List (Fin s.rank)} (src : FVec Ideal s .f32) (h : s.Reduces axes t) (ht : ∀ b, t.size b = 1)
    (hφ : FKind.Formats .f32) (hacc : (0xFF800000#32 : BitVec 32) = FKind.maximumf.neutral .f32 hφ) (j : t.Idx) (x : EReal) :
    multiReduction .maximumf axes t src 0xFF800000#32 h hφ hacc j ≤ x ↔ ∀ i, src i ≤ x := by
  rw [multiReduction_maximumf_eq_fold, Finset.filter_true_of_mem fun i _ => funext fun b => Fin.ext (by
    have := (h.drop i b).isLt; have := (j b).isLt; have := ht b; omega)]
  rw [show (Finset.univ.fold (FloatOps.maximumf (F := Ideal) (φ := .f32)) (FloatOps.ofBits .f32 0xFF800000#32) src) = Finset.univ.fold max (⊥ : EReal) src from by
    rw [Ideal.ofBits_def, bits_bot]; rfl]
  rw [Finset.fold_max_le]
  simp

/-- A shape cast has the same elements. -/
theorem cast_all {s t : Shape} (x : s.Idx → EReal) (h : s.ShapeCasts t) (p : EReal → Prop) : (∀ j, p (shapeCast t x h j)) ↔ ∀ i, p (x i) :=
  ⟨fun H i => by have := H ((Shape.reshapeEquiv h).symm i); rwa [shapeCast, Equiv.apply_symm_apply] at this, fun H j => H _⟩

/-- Two values with the same upper bounds are equal. -/
theorem eq_of_bounds {a b : EReal} (h : ∀ x, a ≤ x ↔ b ≤ x) : a = b := le_antisymm ((h b).2 le_rfl) ((h a).1 le_rfl)

/-- A sum over 4096 is a sum over 8 blocks of 512. -/
theorem sum_blocks (f : Fin 4096 → EReal) : ∑ K : Fin 4096, f K = ∑ d : Fin 8, ∑ k : Fin 512, f ⟨512 * d.val + k.val, by omega⟩ := by
  rw [← Fintype.sum_prod_type', ← Equiv.sum_comp (finProdFinEquiv (m := 8) (n := 512))]
  refine Finset.sum_congr rfl fun p _ => congrArg f (Fin.ext ?_)
  show p.2.val + 512 * p.1.val = 512 * p.1.val + p.2.val
  omega

end Cert.KernelIdeal.Ring

end
-- ==== Proof.Sums.lean ====
/-
The finished blocks over the extended reals: each is the whole product's, at least zero.
-/
module

public import proofs.«01_k».proof.Proof.Vals
public import proofs.«01_k».proof.Proof.Quant
public import Idealize.ShloMosaic.Lib.Pipeline.Value

@[expose] public section

noncomputable section

namespace Cert.KernelIdeal.Ring

open Idealize.ShloMosaic Idealize.ShloMosaic.TcCoe Idealize.SL.Sem Cert.KernelIdeal.Gen Idealize.ShloMosaic.ValueIdx

/-! ## Which block a hop works on -/

/-- The device whose block of the result c adds to at hop s. -/
def tgt (L : Lane) (s : Fin 7) (c : Dev nD) : Dev nD := Fin.ofNat 8 (xOff L c s 0 / 512)

theorem xOff_tgt : ∀ (L : Lane) (s : Fin 7) (c : Dev nD), xOff L c s 0 = 512 * (tgt L s c).val ∧ xOff L c s 1 = 0 := by decide
theorem off3_own : ∀ c : Dev nD, k0_off3 c 0 = 512 * c.val ∧ k0_off3 c 1 = 0 := by decide
theorem tgt_succ : ∀ (L : Lane) (s : Fin 6) (c : Dev nD), tgt L s.succ c = tgt L s.castSucc (src L c) := by decide
theorem tgt_last : ∀ (L : Lane) (c : Dev nD), tgt L 6 (src L c) = c := by decide

/-- Going round the ring from c meets every device once. -/
theorem around : ∀ (L : Lane) (c : Dev nD), Function.Bijective fun t : Fin 8 => (src L)^[t.val] c := by decide

/-! ## One product -/

variable (m : (ℓ : Loc nD τ sig) → Buf (Elt Ideal) ℓ)

/-- A device's operands. -/
def argX (c : Dev nD) : S4096x512.Idx → EReal := m ((c : Thread nD τ).loc main_arg0)
def argW (c : Dev nD) : S512x8192.Idx → EReal := m ((c : Thread nD τ).loc main_arg1)

/-- A device's share of an element of block e. -/
def part (L : Lane) (cp : Fin 2) (e c : Dev nD) (r : Fin 512) (j : Fin 1024) : EReal :=
  ∑ k : Fin 512, argX m c (ix2 (⟨512 * e.val + r.val, by have : e.val < 8 := e.isLt; omega⟩ : Fin 4096) k)
    * argW m c (ix2 k (⟨col L cp + j.val, by have : col L cp + 1024 ≤ 8192 := col_inb L cp 1; omega⟩ : Fin 8192))

theorem xstg_eq (c : Dev nD) : xstg m c = argX m c := by
  funext i
  show argX m c ((win0_0.blk (0 : Fin 1)).view.emb i) = _
  congr 1
  funext a; apply Fin.ext
  match a with
  | ⟨0, _⟩ => show 0 * 4096 + 1 * (i 0).val = (i 0).val; omega
  | ⟨1, _⟩ => show 0 * 512 + 1 * (i 1).val = (i 1).val; omega

theorem wstg_eq (c : Dev nD) : wstg m c = argW m c := by
  funext i
  show argW m c ((win0_1.blk (0 : Fin 1)).view.emb i) = _
  congr 1
  funext a; apply Fin.ext
  match a with
  | ⟨0, _⟩ => show 0 * 512 + 1 * (i 0).val = (i 0).val; omega
  | ⟨1, _⟩ => show 0 * 8192 + 1 * (i 1).val = (i 1).val; omega

/-- The matrix unit's product of two blocks, element by element. -/
theorem dotV_apply (x : Vec Ideal S512x512 .bf16) (w : Vec Ideal S512x1024 .bf16) (r : Fin 512) (j : Fin 1024) :
    dotV x w (ix2 r j) = ∑ k : Fin 512, (x (ix2 r k) : EReal) * (w (ix2 k j) : EReal) := by
  unfold dotV
  rw [shapeCast_self, shapeCast_self]
  refine (Ideal.matmul_plain_apply (M := 512) (K := 512) (N := 1024) none x w _ r j).trans ?_
  show Ideal.ofBits .f32 0x00000000#32 + _ = _
  rw [Ideal.ofBits_zero_f32, zero_add]

theorem dot_at (L : Lane) (cp : Fin 2) (e c : Dev nD) (off : Fin 2 → ℕ) (h : ∀ a, off a + S512x512.size a ≤ S4096x512.size a)
    (h0 : off 0 = 512 * e.val) (h1 : off 1 = 0) (r : Fin 512) (j : Fin 1024) :
    dotV (xM.view.readAt (Elt Ideal) (Rect.unit (s := S4096x512) off S512x512.size h).toLoadRect (xstg m c))
      (wM.view.readAt (Elt Ideal) (cR L cp).toLoadRect (wstg m c)) (ix2 r j) = part m L cp e c r j := by
  rw [dotV_apply, xstg_eq, wstg_eq]
  refine Finset.sum_congr rfl fun k _ => congr (congrArg HMul.hMul ?_) ?_
  · refine congrArg (argX m c) ?_
    funext a; apply Fin.ext
    match a with
    | ⟨0, _⟩ => show off 0 + 1 * r.val = 512 * e.val + r.val; omega
    | ⟨1, _⟩ => show off 1 + 1 * k.val = k.val; omega
  · refine congrArg (argW m c) ?_
    funext a; apply Fin.ext
    match a with
    | ⟨0, _⟩ => show 0 + 1 * k.val = k.val; omega
    | ⟨1, _⟩ => show col L cp + 1 * j.val = col L cp + j.val; omega

theorem dotAt_eq (L : Lane) (cp : Fin 2) (s : Fin 7) (c : Dev nD) (r : Fin 512) (j : Fin 1024) :
    dotAt m L cp s c (ix2 r j) = part m L cp (tgt L s c) c r j :=
  dot_at m L cp _ c _ _ (xOff_tgt L s c).1 (xOff_tgt L s c).2 r j

theorem ownAt_eq (L : Lane) (cp : Fin 2) (c : Dev nD) (r : Fin 512) (j : Fin 1024) : ownAt m L cp c (ix2 r j) = part m L cp c c r j :=
  dot_at m L cp _ c _ _ (off3_own c).1 (off3_own c).2 r j

/-! ## The sums along the ring -/

theorem addS_packV (a b : FVec Ideal S512x1024 .f32) (i : S512x1024.Idx) : addS a (packV b) i = (a i : EReal) + b i := by
  unfold addS packV
  rw [shapeCast_self]
  rfl

theorem acc_eq (L : Lane) (cp : Fin 2) (r : Fin 512) (j : Fin 1024) : ∀ (s : ℕ) (hs : s < 7) (c : Dev nD),
    acc m L cp s c (ix2 r j) = ∑ t ∈ Finset.range (s + 1), part m L cp (tgt L ⟨s, hs⟩ c) ((src L)^[t] c) r j
  | 0, hs, c => by
    rw [Finset.sum_range_one]
    exact dotAt_eq m L cp 0 c r j
  | s + 1, hs, c => by
    have e : tgt L ⟨s + 1, hs⟩ c = tgt L ⟨s, by omega⟩ (src L c) := tgt_succ L ⟨s, by omega⟩ c
    have e' : (Fin.ofNat 7 (s + 1) : Fin 7) = ⟨s + 1, hs⟩ := Fin.ext (Nat.mod_eq_of_lt hs)
    show addS (dotAt m L cp (Fin.ofNat 7 (s + 1)) c) (packV (acc m L cp s (src L c))) (ix2 r j) = _
    rw [addS_packV, dotAt_eq, acc_eq L cp r j s (by omega) (src L c), e', Finset.sum_range_succ' _ (s + 1), add_comm, e]
    rfl

/-- A finished block: the sum over the devices, at least zero. -/
theorem fin_eq (L : Lane) (cp : Fin 2) (c : Dev nD) (r : Fin 512) (j : Fin 1024) :
    fin m L cp c (ix2 r j) = max (∑ d : Dev nD, part m L cp c d r j) 0 := by
  have key : ∑ d : Dev nD, part m L cp c d r j = part m L cp c c r j + ∑ t ∈ Finset.range 7, part m L cp c ((src L)^[t] (src L c)) r j := by
    rw [← (around L c).sum_comp (fun d => part m L cp c d r j), Fin.sum_univ_eq_sum_range (fun t => part m L cp c ((src L)^[t] c) r j) 8,
      Finset.sum_range_succ' _ 7, add_comm]
    rfl
  unfold fin
  rw [maximumf_apply, addS_packV, shapeCast_self, ownAt_eq, acc_eq m L cp r j 6 (by omega) (src L c), key]
  rw [show tgt L ⟨6, by omega⟩ (src L c) = c from tgt_last L c]
  show max _ (Ideal.ofBits .f32 0x00000000#32) = _
  rw [Ideal.ofBits_zero_f32]

end Cert.KernelIdeal.Ring

end
-- ==== Proof.Largest.lean ====
/-
The largest value, and the quantiser, at an element.
-/
module

public import proofs.«01_k».proof.Defs
public import proofs.«01_k».proof.Proof.Sums
public import proofs.«01_k».proof.Proof.Gen.ReferenceIdeal.Value

@[expose] public section

set_option maxRecDepth 100000

noncomputable section

namespace Cert.KernelIdeal.Ring

open Idealize.ShloMosaic Idealize.ShloMosaic.TcCoe Idealize.SL.Sem Cert.KernelIdeal.Gen Idealize.ShloMosaic.ValueIdx

/-- The one element of a reduction to a single value is at most x when every source element is. -/
theorem top_le {s t u : Shape} {axes : List (Fin s.rank)} (src : FVec Ideal s .f32) (h : s.Reduces axes t) (ht : ∀ b, t.size b = 1)
    (hφ : FKind.Formats .f32) (hacc : (0xFF800000#32 : BitVec 32) = FKind.maximumf.neutral .f32 hφ) (hc : t.ShapeCasts u)
    (pos : Fin u.rank → ℕ) (hp : ∀ a, pos a < u.size a) (x : EReal) :
    extractAt pos (shapeCast u (multiReduction .maximumf axes t src 0xFF800000#32 h hφ hacc) hc) hp ≤ x ↔ ∀ i, src i ≤ x :=
  reduce_max_le src h ht hφ hacc (Shape.reshapeEquiv hc fun a => ⟨pos a, hp a⟩) x

theorem size_S1 : ∀ b, S1.size b = 1 := by decide

/-! ## The reference -/

/-- The reference's largest absolute value of a product. -/
def refMax (y : FVec Ideal Cert.ReferenceIdeal.S4096x8192 .f32) : EReal :=
  extractAt ![0, 0, 0] (shapeCast Cert.ReferenceIdeal.S1x1x1 (multiReduction .maximumf [1, 2] Cert.ReferenceIdeal.S1
    (shapeCast Cert.ReferenceIdeal.S1x4096x8192 (absf y) Cert.ReferenceIdeal.Gen.shapeCasts_S4096x8192_S1x4096x8192)
    0xFF800000#32 Cert.ReferenceIdeal.Gen.reduces_S1x4096x8192_S1 (.inl rfl) rfl) Cert.ReferenceIdeal.Gen.shapeCasts_S1_S1x1x1)
    Cert.ReferenceIdeal.Gen.inpos_S1x1x1_p0_0_0

theorem refMax_le (y : FVec Ideal Cert.ReferenceIdeal.S4096x8192 .f32) (h0 : ∀ i, (0 : EReal) ≤ y i) (x : EReal) : refMax y ≤ x ↔ ∀ i, (y i : EReal) ≤ x := by
  unfold refMax
  refine (top_le _ _ size_S1 _ _ _ _ _ x).trans ((cast_all (absf y) _ (fun v => v ≤ x)).trans (forall_congr' fun i => ?_))
  have e : absf y i = y i := max_eq_left ((EReal.neg_le_neg_iff.2 (h0 i)).trans (by simpa using h0 i))
  rw [e]

/-- The reference's quantiser: divide by the scale, clip, round to fp8 and back, multiply by the scale. -/
def refQ (y : FVec Ideal Cert.ReferenceIdeal.S4096x8192 .f32) : FVec Ideal Cert.ReferenceIdeal.S4096x8192 .f32 :=
  mulf (extf .f32 (truncf .fp8e4m3 (minimumf (divf y (broadcast Cert.ReferenceIdeal.S4096x8192 (Scalar.divf (refMax y) (Scalar.ofBits .f32 0x43E00000#32))))
    (broadcast Cert.ReferenceIdeal.S4096x8192 (Scalar.ofBits .f32 0x43E00000#32))) Cert.ReferenceIdeal.Gen.bitsLt_fp8e4m3_f32) Cert.ReferenceIdeal.Gen.bitsLt_fp8e4m3_f32)
    (broadcast Cert.ReferenceIdeal.S4096x8192 (Scalar.divf (refMax y) (Scalar.ofBits .f32 0x43E00000#32)))

theorem refQ_apply (y : FVec Ideal Cert.ReferenceIdeal.S4096x8192 .f32) (i : Cert.ReferenceIdeal.S4096x8192.Idx) : refQ y i
    = min (Ideal.div (y i) (Ideal.div (refMax y) ((448 : ℝ) : EReal))) ((448 : ℝ) : EReal) * Ideal.div (refMax y) ((448 : ℝ) : EReal) := by
  unfold refQ
  generalize refMax y = a
  rw [← bits_448]
  rfl

variable (X : Vec Ideal ⟨2, ![4096, 4096]⟩ .bf16) (W : Vec Ideal ⟨2, ![4096, 8192]⟩ .bf16)

/-- The reference's product, at least zero. -/
def refY : FVec Ideal Cert.ReferenceIdeal.S4096x8192 .f32 :=
  maximumf (matmul (φ₁ := .bf16) (φ₂ := .bf16) Cert.ReferenceIdeal.dot_S4096x4096_S4096x8192_S4096x8192_1_0_0_1_n_n none X W (constant Cert.ReferenceIdeal.S4096x8192 .f32 0x00000000#32))
    (broadcast Cert.ReferenceIdeal.S4096x8192 (Scalar.ofBits .f32 0x00000000#32))

theorem ref_eq : Cert.ReferenceIdeal.Value.G2 X W = refQ (refY X W) := by
  unfold Cert.ReferenceIdeal.Value.G2 Cert.ReferenceIdeal.Gen.k0_pay1 refQ refMax refY
  rfl

/-- An element of the whole product, at least zero. -/
def wholeY (R : Fin 4096) (J : Fin 8192) : EReal := max (∑ K : Fin 4096, (X (ix2 R K) : EReal) * (W (ix2 K J) : EReal)) 0

theorem wholeY_nonneg (R : Fin 4096) (J : Fin 8192) : 0 ≤ wholeY X W R J := le_max_right _ _

theorem refY_apply (R : Fin 4096) (J : Fin 8192) : refY X W (ix2 R J) = wholeY X W R J := by
  unfold refY wholeY
  rw [maximumf_apply]
  refine congr (congrArg max ?_) Ideal.ofBits_zero_f32
  refine (Ideal.matmul_plain_apply (M := 4096) (K := 4096) (N := 8192) none X W _ R J).trans ?_
  show Ideal.ofBits .f32 0x00000000#32 + _ = _
  rw [Ideal.ofBits_zero_f32, zero_add]

theorem refY_nonneg (i : Cert.ReferenceIdeal.S4096x8192.Idx) : (0 : EReal) ≤ refY X W i :=
  (wholeY_nonneg X W (i 0) (i 1)).trans (le_of_eq ((congrArg (refY X W) (eq_ix2 i)).trans (refY_apply X W (i 0) (i 1))).symm)

/-- The largest element of the product. -/
def topY : EReal := refMax (refY X W)

theorem topY_le (x : EReal) : topY X W ≤ x ↔ ∀ R J, wholeY X W R J ≤ x := by
  refine (refMax_le _ (refY_nonneg X W) x).trans ⟨fun H R J => ?_, fun H i => ?_⟩
  · rw [← refY_apply]; exact H _
  · exact (le_of_eq ((congrArg (refY X W) (eq_ix2 i)).trans (refY_apply X W (i 0) (i 1)))).trans (H _ _)

theorem ref_apply (R : Fin 4096) (J : Fin 8192) : Cert.ReferenceIdeal.Value.G2 X W (ix2 R J)
    = min (Ideal.div (wholeY X W R J) (Ideal.div (topY X W) ((448 : ℝ) : EReal))) ((448 : ℝ) : EReal) * Ideal.div (topY X W) ((448 : ℝ) : EReal) := by
  rw [ref_eq, ← refY_apply]
  exact refQ_apply (refY X W) (ix2 R J)

/-! ## The kernel -/

theorem maxV_le (y : FVec Ideal S512x1024 .f32) (x : EReal) : maxV y ≤ x ↔ ∀ r j, (y (ix2 r j) : EReal) ≤ x := by
  unfold maxV
  refine (top_le _ _ size_S1 _ _ _ _ _ x).trans ((cast_all y _ (fun v => v ≤ x)).trans ⟨fun H r j => H (ix2 r j), fun H i => ?_⟩)
  exact (le_of_eq (congrArg y (eq_ix2 i))).trans (H _ _)

theorem local_le (a b c d e f g h : EReal) (x : EReal) :
    localV (F := Ideal) a b c d e f g h ≤ x ↔ (((((((a ≤ x ∧ b ≤ x) ∧ c ≤ x) ∧ d ≤ x) ∧ e ≤ x) ∧ f ≤ x) ∧ g ≤ x) ∧ h ≤ x) := by
  show max (max (max (max (max (max (max a b) c) d) e) f) g) h ≤ x ↔ _
  simp only [max_le_iff]

theorem locals_le (f : Lane → Fin 2 → FVec Ideal S512x1024 .f32) (x : EReal) :
    localV (maxV (f 0 0)) (maxV (f 1 0)) (maxV (f 2 0)) (maxV (f 3 0)) (maxV (f 0 1)) (maxV (f 1 1)) (maxV (f 2 1)) (maxV (f 3 1)) ≤ x
      ↔ ∀ (L : Lane) (cp : Fin 2) r j, (f L cp (ix2 r j) : EReal) ≤ x := by
  refine (local_le _ _ _ _ _ _ _ _ x).trans ?_
  simp only [maxV_le]
  constructor
  · rintro ⟨⟨⟨⟨⟨⟨⟨a, b⟩, c⟩, d⟩, e⟩, f⟩, g⟩, h⟩ L cp
    match L, cp with
    | 0, 0 => exact a
    | 1, 0 => exact b
    | 2, 0 => exact c
    | 3, 0 => exact d
    | 0, 1 => exact e
    | 1, 1 => exact f
    | 2, 1 => exact g
    | 3, 1 => exact h
  · exact fun H => ⟨⟨⟨⟨⟨⟨⟨H 0 0, H 1 0⟩, H 2 0⟩, H 3 0⟩, H 0 1⟩, H 1 1⟩, H 2 1⟩, H 3 1⟩

/-- Every other device's value arrives in some slot. -/
theorem heard_all : ∀ c d : Dev nD, d = c ∨ ∃ b : Fin 7, axSrc b c = d := by decide

theorem global_le (a : EReal) (r : Vec Ideal S7x1x128 .f32) (x : EReal) : globalV (F := Ideal) a r ≤ x ↔ a ≤ x ∧ ∀ i, (r i : EReal) ≤ x := by
  unfold globalV
  exact (max_le_iff (a := a)).trans (and_congr_right' ((top_le _ _ size_S1 _ _ _ _ _ x).trans (cast_all r _ (fun v => v ≤ x))))

theorem globals_le (f : Dev nD → EReal) (c : Dev nD) (x : EReal) :
    globalV (F := Ideal) (f c) (fun i : S7x1x128.Idx => f (axSrc (i 0) c)) ≤ x ↔ ∀ d, f d ≤ x := by
  refine (global_le _ _ x).trans ⟨fun H d => ?_, fun H => ⟨H c, fun i => H _⟩⟩
  rcases heard_all c d with rfl | ⟨b, rfl⟩
  · exact H.1
  · exact H.2 (ix3 b (0 : Fin 1) (0 : Fin 128))

theorem quantV_apply (g : EReal) (y : Vec Ideal S512x1024 .f32) (i : S512x1024.Idx) :
    quantV (F := Ideal) g y i = (y i : EReal) * Ideal.div ((448 : ℝ) : EReal) g * Ideal.div g ((448 : ℝ) : EReal) := by
  unfold quantV
  rw [shapeCast_self, ← bits_448]
  rfl

end Cert.KernelIdeal.Ring

end
-- ==== Proof.Whole.lean ====
/-
Device c's result is block c of the reference's.
-/
module

public import proofs.«01_k».proof.Defs
public import proofs.«01_k».proof.Proof.Largest
public import proofs.«01_k».proof.Proof.Frames
public import proofs.«01_k».proof.Proof.Gen.ReferenceIdeal.Value
public import Idealize.ShloMosaic.Lib.Layout

@[expose] public section

set_option maxRecDepth 100000

noncomputable section

namespace Cert.KernelIdeal.Ring

open Idealize.ShloMosaic Idealize.ShloMosaic.TcCoe Idealize.SL.Sem Cert.KernelIdeal.Gen Idealize.ShloMosaic.ValueIdx

variable (X : Vec Ideal ⟨2, ![4096, 4096]⟩ .bf16) (W : Vec Ideal ⟨2, ![4096, 8192]⟩ .bf16)
variable (m : (ℓ : Loc nD τ sig) → Buf (Elt Ideal) ℓ)

theorem locV_le (c : Dev nD) (x : EReal) : locV m c ≤ x ↔ ∀ (L : Lane) (cp : Fin 2) r j, (fin m L cp c (ix2 r j) : EReal) ≤ x := by
  unfold locV
  exact locals_le (fun L cp => fin m L cp c) x

theorem gloV_le (c : Dev nD) (x : EReal) : gloV m c ≤ x ↔ ∀ d, locV m d ≤ x := by
  unfold gloV axV
  exact globals_le (locV m) c x

theorem outB_apply (L : Lane) (cp : Fin 2) (c : Dev nD) (i : S512x1024.Idx) :
    outB m L cp c i = (fin m L cp c i : EReal) * Ideal.div ((448 : ℝ) : EReal) (gloV m c) * Ideal.div (gloV m c) ((448 : ℝ) : EReal) := by
  unfold outB
  exact quantV_apply (gloV m c) (fin m L cp c) i

/-! ## The blocks -/

variable {X W m}

/-- The devices' arguments are blocks of the whole arrays. -/
def Blocks (X : Vec Ideal ⟨2, ![4096, 4096]⟩ .bf16) (W : Vec Ideal ⟨2, ![4096, 8192]⟩ .bf16) (m : (ℓ : Loc nD τ sig) → Buf (Elt Ideal) ℓ) : Prop :=
  ∀ c : Dev nD, argX m c = Layout.block ⟨2, ![4096, 512]⟩ ⟨2, ![4096, 4096]⟩ 1 8 c X ∧ argW m c = Layout.block ⟨2, ![512, 8192]⟩ ⟨2, ![4096, 8192]⟩ 0 8 c W

/-- Row r of block c, and column j of a lane's pass, in the whole. -/
abbrev rowOf (c : Dev nD) (r : Fin 512) : Fin 4096 := ⟨512 * c.val + r.val, by have : c.val < 8 := c.isLt; omega⟩
abbrev colOf (L : Lane) (cp : Fin 2) (j : Fin 1024) : Fin 8192 := ⟨col L cp + j.val, by have : col L cp + 1024 ≤ 8192 := col_inb L cp 1; omega⟩

theorem fin_whole (h : Blocks X W m) (L : Lane) (cp : Fin 2) (c : Dev nD) (r : Fin 512) (j : Fin 1024) :
    fin m L cp c (ix2 r j) = wholeY X W (rowOf c r) (colOf L cp j) := by
  rw [fin_eq]
  unfold wholeY
  rw [sum_blocks]
  refine congrArg (max · 0) (Finset.sum_congr rfl fun d _ => Finset.sum_congr rfl fun k _ => ?_)
  rw [(h d).1, (h d).2]
  refine congr (congrArg HMul.hMul (congrArg X ?_)) (congrArg W ?_)
  · funext a; apply Fin.ext
    match a with
    | ⟨0, _⟩ => rfl
    | ⟨1, _⟩ => show d.val * 512 + k.val = 512 * d.val + k.val; omega
  · funext a; apply Fin.ext
    match a with
    | ⟨0, _⟩ => show d.val * 512 + k.val = 512 * d.val + k.val; omega
    | ⟨1, _⟩ => rfl

theorem glo_eq (h : Blocks X W m) (c : Dev nD) : gloV m c = topY X W := by
  refine eq_of_bounds fun x => ?_
  rw [gloV_le, topY_le]
  simp only [locV_le, fin_whole h]
  refine ⟨fun H R J => ?_, fun H d L cp r j => H _ _⟩
  have e := H ⟨R.val / 512, by show R.val / 512 < 8; omega⟩ (blkOf ⟨J.val / 1024, by omega⟩).1 (blkOf ⟨J.val / 1024, by omega⟩).2 ⟨R.val % 512, by omega⟩ ⟨J.val % 1024, by omega⟩
  have hc := col_blkOf ⟨J.val / 1024, by omega⟩
  convert e using 2
  · exact Fin.ext (by show R.val = 512 * (R.val / 512) + R.val % 512; omega)
  · exact Fin.ext (by show J.val = _ + J.val % 1024; rw [hc]; show J.val = 1024 * (J.val / 1024) + J.val % 1024; omega)

theorem outB_whole (h : Blocks X W m) (L : Lane) (cp : Fin 2) (c : Dev nD) (r : Fin 512) (j : Fin 1024) :
    outB m L cp c (ix2 r j) = Cert.ReferenceIdeal.Value.G2 X W (ix2 (rowOf c r) (colOf L cp j)) := by
  rw [ref_apply, ← quant_eq _ _ (wholeY_nonneg X W _ _) ((topY_le X W _).1 le_rfl _ _), ← fin_whole h, ← glo_eq h c]
  exact outB_apply m L cp c (ix2 r j)

theorem out_whole (h : Blocks X W m) (c : Dev nD) :
    outV m c = Layout.block ⟨2, ![512, 8192]⟩ ⟨2, ![4096, 8192]⟩ 0 8 c (Cert.ReferenceIdeal.Value.G2 X W) := by
  funext i
  have e := (congrArg (outB m (blkOf (qOf i)).1 (blkOf (qOf i)).2 c) (eq_ix2 (inBlk i))).trans
    (outB_whole h (blkOf (qOf i)).1 (blkOf (qOf i)).2 c (inBlk i 0) (inBlk i 1))
  refine e.trans (congrArg (Cert.ReferenceIdeal.Value.G2 X W) ?_)
  have hc := col_blkOf (qOf i)
  funext a; apply Fin.ext
  match a with
  | ⟨0, _⟩ => show 512 * c.val + (i 0).val = c.val * 512 + (i 0).val; omega
  | ⟨1, _⟩ => show col _ _ + (i 1).val % 1024 = (i 1).val; rw [hc]; show 1024 * ((i 1).val / 1024) + (i 1).val % 1024 = (i 1).val; omega

/-! ## The kernel's run -/

variable (m)

theorem blk_emb (i : S512x8192.Idx) : (win0_2.blk (0 : Fin 1)).view.emb i = i := by
  funext a; apply Fin.ext
  match a with
  | ⟨0, _⟩ => show 0 * 512 + 1 * (i 0).val = (i 0).val; omega
  | ⟨1, _⟩ => show 0 * 8192 + 1 * (i 1).val = (i 1).val; omega

/-- The result array ends as the body leaves it. -/
theorem final_out (ρ : Dev nD → PrngReg) (c : Dev nD) : finalA m ρ c (2 : Fin 3) = outV m c := by
  have e : (win0_2.blk (0 : Fin 1)).view.read (Elt Ideal) (finalA m ρ c (2 : Fin 3)) = outV m c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from flush0_2 _, if_pos rfl]
    exact View.read_write_univ _ _
  funext i
  have := congrFun e i
  rw [← this]
  show _ = finalA m ρ c (2 : Fin 3) ((win0_2.blk (0 : Fin 1)).view.emb i)
  rw [blk_emb]

end Cert.KernelIdeal.Ring

namespace Cert.Proof

open Idealize.ShloMosaic Idealize.SL.Sem Cert.KernelIdeal.Ring

theorem value : Cert.algebraic_KernelIdeal_ReferenceIdeal := fun m ρ m' ρ' _ h =>
  ⟨Cert.ReferenceIdeal.Value.G2 (m' ((0 : Dev Cert.ReferenceIdeal.nD).tc.loc Cert.ReferenceIdeal.main_arg0)) (m' ((0 : Dev Cert.ReferenceIdeal.nD).tc.loc Cert.ReferenceIdeal.main_arg1)),
    (θ_run Cert.KernelIdeal.defs _ _).mono (fun _ H c => ⟨((H.1 c (2 : Fin 3)).trans (final_out m ρ c)).trans (out_whole h c),
      (H.1 c (0 : Fin 3)).trans (final_arg0 m ρ c), (H.1 c (1 : Fin 3)).trans (final_arg1 m ρ c)⟩) (run_main m ρ),
    (θ_run Cert.ReferenceIdeal.defs _ _).mono (fun _ H => H 0) (Cert.ReferenceIdeal.Value.run m' ρ')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Whole
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Proof.frame_kernel, Cert.Proof.frame_kernelIdeal, Cert.Proof.frame_referenceIdeal, trivial, Cert.Proof.value⟩

end Cert.Proof

end
